-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_device12 : Cert.Pre_device12.Facts] (m : (ℓ : Loc Cert.Kernel12.nD Cert.Kernel12.τ Cert.Kernel12.sig) → Buf (Elt Bits) ℓ) : Prop :=
  ∀ c : Dev Cert.Kernel12.nD,
    (Cert.Pre_device12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_device12 : Cert.Pre_device12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_device12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_device12 [hPre_device12 : Cert.Pre_device12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_device12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 [hPre_device13 : Cert.Pre_device13.Facts] (m : (ℓ : Loc Cert.Kernel13.nD Cert.Kernel13.τ Cert.Kernel13.sig) → Buf (Elt Bits) ℓ) : Prop :=
  ∀ c : Dev Cert.Kernel13.nD,
    (Cert.Pre_device13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_device13 : Cert.Pre_device13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_device13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_device13 [hPre_device13 : Cert.Pre_device13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_device13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 [hPre_device14 : Cert.Pre_device14.Facts] (m : (ℓ : Loc Cert.Kernel14.nD Cert.Kernel14.τ Cert.Kernel14.sig) → Buf (Elt Bits) ℓ) : Prop :=
  ∀ c : Dev Cert.Kernel14.nD,
    (Cert.Pre_device14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5))) = (fun _ => 1#1)

def Pre_Kernel14Ideal [hPre_device14 : Cert.Pre_device14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_device14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_device14 [hPre_device14 : Cert.Pre_device14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_device14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 [hPre_device15 : Cert.Pre_device15.Facts] (m : (ℓ : Loc Cert.Kernel15.nD Cert.Kernel15.τ Cert.Kernel15.sig) → Buf (Elt Bits) ℓ) : Prop :=
  ∀ c : Dev Cert.Kernel15.nD,
    (Cert.Pre_device15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_device15 : Cert.Pre_device15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_device15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_device15 [hPre_device15 : Cert.Pre_device15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_device15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 [hPre_device16 : Cert.Pre_device16.Facts] (m : (ℓ : Loc Cert.Kernel16.nD Cert.Kernel16.τ Cert.Kernel16.sig) → Buf (Elt Bits) ℓ) : Prop :=
  ∀ c : Dev Cert.Kernel16.nD,
    (Cert.Pre_device16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5))) = (fun _ => 1#1)

def Pre_Kernel16Ideal [hPre_device16 : Cert.Pre_device16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_device16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_device16 [hPre_device16 : Cert.Pre_device16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_device16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] [hPre_device12 : Cert.Pre_device12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_device12 [hReference12Ideal : Cert.Reference12Ideal.Facts] [hPre_device12 : Cert.Pre_device12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_device12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] [hPre_device13 : Cert.Pre_device13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_device13 [hReference13Ideal : Cert.Reference13Ideal.Facts] [hPre_device13 : Cert.Pre_device13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_device13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_device14 : Cert.Pre_device14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_device14 [hReference14Ideal : Cert.Reference14Ideal.Facts] [hPre_device14 : Cert.Pre_device14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_device14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] [hPre_device15 : Cert.Pre_device15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_device15 [hReference15Ideal : Cert.Reference15Ideal.Facts] [hPre_device15 : Cert.Pre_device15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_device15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] [hPre_device16 : Cert.Pre_device16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_device16 [hReference16Ideal : Cert.Reference16Ideal.Facts] [hPre_device16 : Cert.Pre_device16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_device16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_v23) = v3 c
          ∧ r.2.mem ((c.tc : Thread Cert.Reference11Ideal.nD Cert.Reference11Ideal.τ).loc Cert.Reference11Ideal.main_v12) = v4 c
          ∧ r.2.mem ((c.tc : Thread Cert.Reference11Ideal.nD Cert.Reference11Ideal.τ).loc Cert.Reference11Ideal.main_v60) = v5 c
          ∧ r.2.mem ((c.tc : Thread Cert.Reference11Ideal.nD Cert.Reference11Ideal.τ).loc Cert.Reference11Ideal.main_v41) = v6 c
          ∧ r.2.mem ((c.tc : Thread Cert.Reference11Ideal.nD Cert.Reference11Ideal.τ).loc Cert.Reference11Ideal.main_v47) = v7 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_v17) = v2 c
          ∧ r.2.mem ((c.tc : Thread Cert.Reference12Ideal.nD Cert.Reference12Ideal.τ).loc Cert.Reference12Ideal.main_v23) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_device13 : Cert.Pre_device13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_v36) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_v23) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_device14 : Cert.Pre_device14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_v25) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] [hPre_device15 : Cert.Pre_device15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v38) = v1 c
          ∧ r.2.mem ((c.tc : Thread Cert.Reference15Ideal.nD Cert.Reference15Ideal.τ).loc Cert.Reference15Ideal.main_v19) = v2 c
          ∧ r.2.mem ((c.tc : Thread Cert.Reference15Ideal.nD Cert.Reference15Ideal.τ).loc Cert.Reference15Ideal.main_v25) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] [hPre_device16 : Cert.Pre_device16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v18) = v2 c
          ∧ r.2.mem ((c.tc : Thread Cert.Reference16Ideal.nD Cert.Reference16Ideal.τ).loc Cert.Reference16Ideal.main_v24) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite2 : Cert.Pre_finite2.Facts) (hPre_device12 : Cert.Pre_device12.Facts) (hPre_device13 : Cert.Pre_device13.Facts) (hPre_device14 : Cert.Pre_device14.Facts) (hPre_device15 : Cert.Pre_device15.Facts) (hPre_device16 : Cert.Pre_device16.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_device12 := hPre_device12)
    ∧ quiescent_Kernel12Ideal (hKernel12Ideal := hKernel12Ideal) (hPre_device12 := hPre_device12)
    ∧ quiescent_Reference12Ideal (hReference12Ideal := hReference12Ideal)
    ∧ quiescent_Reference12Ideal_pre_device12 (hReference12Ideal := hReference12Ideal) (hPre_device12 := hPre_device12)
    ∧ quiescent_Kernel13 (hKernel13 := hKernel13) (hPre_device13 := hPre_device13)
    ∧ quiescent_Kernel13Ideal (hKernel13Ideal := hKernel13Ideal) (hPre_device13 := hPre_device13)
    ∧ quiescent_Reference13Ideal (hReference13Ideal := hReference13Ideal)
    ∧ quiescent_Reference13Ideal_pre_device13 (hReference13Ideal := hReference13Ideal) (hPre_device13 := hPre_device13)
    ∧ quiescent_Kernel14 (hKernel14 := hKernel14) (hPre_device14 := hPre_device14)
    ∧ quiescent_Kernel14Ideal (hKernel14Ideal := hKernel14Ideal) (hPre_device14 := hPre_device14)
    ∧ quiescent_Reference14Ideal (hReference14Ideal := hReference14Ideal)
    ∧ quiescent_Reference14Ideal_pre_device14 (hReference14Ideal := hReference14Ideal) (hPre_device14 := hPre_device14)
    ∧ quiescent_Kernel15 (hKernel15 := hKernel15) (hPre_device15 := hPre_device15)
    ∧ quiescent_Kernel15Ideal (hKernel15Ideal := hKernel15Ideal) (hPre_device15 := hPre_device15)
    ∧ quiescent_Reference15Ideal (hReference15Ideal := hReference15Ideal)
    ∧ quiescent_Reference15Ideal_pre_device15 (hReference15Ideal := hReference15Ideal) (hPre_device15 := hPre_device15)
    ∧ quiescent_Kernel16 (hKernel16 := hKernel16) (hPre_device16 := hPre_device16)
    ∧ quiescent_Kernel16Ideal (hKernel16Ideal := hKernel16Ideal) (hPre_device16 := hPre_device16)
    ∧ quiescent_Reference16Ideal (hReference16Ideal := hReference16Ideal)
    ∧ quiescent_Reference16Ideal_pre_device16 (hReference16Ideal := hReference16Ideal) (hPre_device16 := hPre_device16)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_device12 := hPre_device12)
    ∧ preserves_Kernel13_Kernel13Ideal
    ∧ algebraic_Kernel13Ideal_Reference13Ideal (hKernel13Ideal := hKernel13Ideal) (hReference13Ideal := hReference13Ideal) (hPre_device13 := hPre_device13)
    ∧ preserves_Kernel14_Kernel14Ideal
    ∧ algebraic_Kernel14Ideal_Reference14Ideal (hKernel14Ideal := hKernel14Ideal) (hReference14Ideal := hReference14Ideal) (hPre_device14 := hPre_device14)
    ∧ preserves_Kernel15_Kernel15Ideal
    ∧ algebraic_Kernel15Ideal_Reference15Ideal (hKernel15Ideal := hKernel15Ideal) (hReference15Ideal := hReference15Ideal) (hPre_device15 := hPre_device15)
    ∧ preserves_Kernel16_Kernel16Ideal
    ∧ algebraic_Kernel16Ideal_Reference16Ideal (hKernel16Ideal := hKernel16Ideal) (hReference16Ideal := hReference16Ideal) (hPre_device16 := hPre_device16)
-- ==== Pre_device12.lean ====
abbrev S1 : Shape := ⟨1, ![1]⟩
abbrev S1x8x128x1024 : Shape := ⟨4, ![1, 8, 128, 1024]⟩
abbrev S1x7x128x1024 : Shape := ⟨4, ![1, 7, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x8x128x1024 .bf16) (main_arg2 : FVec F S1x7x128x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device13.lean ====
abbrev S1 : Shape := ⟨1, ![1]⟩
abbrev S1x8x352x1024 : Shape := ⟨4, ![1, 8, 352, 1024]⟩
abbrev S1x7x352x1024 : Shape := ⟨4, ![1, 7, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x8x352x1024 .bf16) (main_arg2 : FVec F S1x7x352x1024 .bf16) (main_arg3 : FVec F S352x1024 .f32) (main_arg4 : FVec F S352x1024 .f32) (main_arg5 : FVec F S352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device14.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x8x352x1024 .bf16) (main_arg2 : FVec F S2x7x352x1024 .bf16) (main_arg3 : FVec F S352x1024 .f32) (main_arg4 : FVec F S352x1024 .f32) (main_arg5 : FVec F S352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device15.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x8x352x1024 .bf16) (main_arg2 : FVec F S2x7x352x1024 .bf16) (main_arg3 : FVec F S352x1024 .f32) (main_arg4 : FVec F S352x1024 .f32) (main_arg5 : FVec F S352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device16.lean ====
abbrev S1 : Shape := ⟨1, ![1]⟩
abbrev S1x8x256x1024 : Shape := ⟨4, ![1, 8, 256, 1024]⟩
abbrev S1x7x256x1024 : Shape := ⟨4, ![1, 7, 256, 1024]⟩
abbrev S1024x256 : Shape := ⟨2, ![1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x8x256x1024 .bf16) (main_arg2 : FVec F S1x7x256x1024 .bf16) (main_arg3 : FVec F S1024x256 .f32) (main_arg4 : FVec F S1024x256 .f32) (main_arg5 : FVec F S1024x256 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite2.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4096x2816 .f32 := (extf .f32 · bitsLt_bf16_f32) main_arg2
  let main_v9 : FVec F S2x4096x2816 .f32 := Host.absf main_v8
  let main_cst_1 : FVec F S_ .f32 := constant S_ .f32 0x7F800000#32
  let main_v10 : FVec F S2x4096x2816 .f32 := broadcastInDim S2x4096x2816 ![] bcast_S_S2x4096x2816 main_cst_1
  let main_v11 : IVec S2x4096x2816 1 := cmpf .olt main_v9 main_v10
  (main_v3, main_v7, main_v11)
-- ==== Kernel.lean ====
abbrev S4096x2048 : Shape := ⟨2, ![4096, 2048]⟩
abbrev S4096x1024 : Shape := ⟨2, ![4096, 1024]⟩
abbrev S4x128x128 : Shape := ⟨3, ![4, 128, 128]⟩
abbrev S1x512 : Shape := ⟨2, ![1, 512]⟩
abbrev S4x4096x512 : Shape := ⟨3, ![4, 4096, 512]⟩
abbrev S2048x512 : Shape := ⟨2, ![2048, 512]⟩
abbrev S1x2048x512 : Shape := ⟨3, ![1, 2048, 512]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x2048x128 : Shape := ⟨3, ![1, 2048, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4x128x128, .f32⟩
  | .hbm, ⟨3, _⟩ => ⟨S1x512, .f32⟩
  | .hbm, ⟨4, _⟩ => ⟨S4x4096x512, .bf16⟩
  | .hbm, ⟨5, _⟩ => ⟨S4x4096x512, .bf16⟩
  | .hbm, ⟨6, _⟩ => ⟨S4x128x128, .f32⟩
  | .hbm, ⟨7, _⟩ => ⟨S1x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x128x128, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S4x128x128, .f32⟩
  | .local _ .vmem, ⟨9, _⟩ => ⟨S1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c0_i32_15 : BitVec 32 := 0#32
  let v40 : BitVec 1 := Scalar.cmpi .eq arg0 c0_i32_15
  let v41 : BitVec 32 := Scalar.extui v40
  let c0_i32_17 : BitVec 32 := 0#32
  let v42 : BitVec 1 := Scalar.cmpi .ne v41 c0_i32_17
  v42

def k0_cond4 (i : grid0.Coords) : BitVec 1 :=
  let arg0 : BitVec 32 := BitVec.ofNat 32 (i 0).val
  let c0_i32_15 : BitVec 32 := 0#32
  let v40 : BitVec 1 := Scalar.cmpi .eq arg0 c0_i32_15
  let true_18 : BitVec 1 := 1#1
  let v43 : BitVec 1 := Scalar.xori v40 true_18
  let v44 : BitVec 32 := Scalar.extui v43
  let c0_i32_20 : BitVec 32 := 0#32
  let v45 : BitVec 1 := Scalar.cmpi .ne v44 c0_i32_20
  v45

def k0_cond7 (i : grid0.Coords) : BitVec 1 :=
  let arg0 : BitVec 32 := BitVec.ofNat 32 (i 0).val
  let c0_i32_50 : BitVec 32 := 0#32
  let v114 : BitVec 1 := Scalar.cmpi .eq arg0 c0_i32_50
  let v115 : BitVec 32 := Scalar.extui v114
  let c0_i32_52 : BitVec 32 := 0#32
  let v116 : BitVec 1 := Scalar.cmpi .ne v115 c0_i32_52
  v116

def k0_cond8 (i : grid0.Coords) : BitVec 1 :=
  let arg0 : BitVec 32 := BitVec.ofNat 32 (i 0).val
  let c0_i32_50 : BitVec 32 := 0#32
  let v114 : BitVec 1 := Scalar.cmpi .eq arg0 c0_i32_50
  let true_53 : BitVec 1 := 1#1
  let v117 : BitVec 1 := Scalar.xori v114 true_53
  let v118 : BitVec 32 := Scalar.extui v117
  let c0_i32_55 : BitVec 32 := 0#32
  let v119 : BitVec 1 := Scalar.cmpi .ne v118 c0_i32_55
  v119

def k0_cond11 (i : grid0.Coords) : BitVec 1 :=
  let arg0 : BitVec 32 := BitVec.ofNat 32 (i 0).val
  let c0_i32_91 : BitVec 32 := 0#32
  let v204 : BitVec 1 := Scalar.cmpi .eq arg0 c0_i32_91
  let v205 : BitVec 32 := Scalar.extui v204
  let c0_i32_93 : BitVec 32 := 0#32
  let v206 : BitVec 1 := Scalar.cmpi .ne v205 c0_i32_93
  v206

def k0_cond12 (i : grid0.Coords) : BitVec 1 :=
  let arg0 : BitVec 32 := BitVec.ofNat 32 (i 0).val
  let c0_i32_91 : BitVec 32 := 0#32
  let v204 : BitVec 1 := Scalar.cmpi .eq arg0 c0_i32_91
  let true_94 : BitVec 1 := 1#1
  let v207 : BitVec 1 := Scalar.xori v204 true_94
  let v208 : BitVec 32 := Scalar.extui v207
  let c0_i32_96 : BitVec 32 := 0#32
  let v209 : BitVec 1 := Scalar.cmpi .ne v208 c0_i32_96
  v209

def k0_cond15 (i : grid0.Coords) : BitVec 1 :=
  let arg0 : BitVec 32 := BitVec.ofNat 32 (i 0).val
  let c0_i32_138 : BitVec 32 := 0#32
  let v310 : BitVec 1 := Scalar.cmpi .eq arg0 c0_i32_138
  let v311 : BitVec 32 := Scalar.extui v310
  let c0_i32_139 : BitVec 32 := 0#32
  let v312 : BitVec 1 := Scalar.cmpi .ne v311 c0_i32_139
  v312

def k0_cond16 (i : grid0.Coords) : BitVec 1 :=
  let arg0 : BitVec 32 := BitVec.ofNat 32 (i 0).val
  let c0_i32_138 : BitVec 32 := 0#32
  let v310 : BitVec 1 := Scalar.cmpi .eq arg0 c0_i32_138
  let true_140 : BitVec 1 := 1#1
  let v313 : BitVec 1 := Scalar.xori v310 true_140
  let v314 : BitVec 32 := Scalar.extui v313
  let c0_i32_142 : BitVec 32 := 0#32
  let v315 : BitVec 1 := Scalar.cmpi .ne v314 c0_i32_142
  v315

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let v_true : BitVec 1 := 1#1
  let v32 : BitVec 1 := Scalar.xori v29 v_true
  let v33 : BitVec 32 := Scalar.extui v32
  let c0_i32_11 : BitVec 32 := 0#32
  let v34 : BitVec 1 := Scalar.cmpi .ne v33 c0_i32_11
  v34

def k0_cond5 (i : grid0.Coords) : BitVec 1 :=
  let arg0 : BitVec 32 := BitVec.ofNat 32 (i 0).val
  let c0_i32_43 : BitVec 32 := 0#32
  let v103 : BitVec 1 := Scalar.cmpi .eq arg0 c0_i32_43
  let v104 : BitVec 32 := Scalar.extui v103
  let c0_i32_44 : BitVec 32 := 0#32
  let v105 : BitVec 1 := Scalar.cmpi .ne v104 c0_i32_44
  v105

def k0_cond6 (i : grid0.Coords) : BitVec 1 :=
  let arg0 : BitVec 32 := BitVec.ofNat 32 (i 0).val
  let c0_i32_43 : BitVec 32 := 0#32
  let v103 : BitVec 1 := Scalar.cmpi .eq arg0 c0_i32_43
  let true_45 : BitVec 1 := 1#1
  let v106 : BitVec 1 := Scalar.xori v103 true_45
  let v107 : BitVec 32 := Scalar.extui v106
  let c0_i32_46 : BitVec 32 := 0#32
  let v108 : BitVec 1 := Scalar.cmpi .ne v107 c0_i32_46
  v108

def k0_cond9 (i : grid0.Coords) : BitVec 1 :=
  let arg0 : BitVec 32 := BitVec.ofNat 32 (i 0).val
  let c0_i32_84 : BitVec 32 := 0#32
  let v193 : BitVec 1 := Scalar.cmpi .eq arg0 c0_i32_84
  let v194 : BitVec 32 := Scalar.extui v193
  let c0_i32_85 : BitVec 32 := 0#32
  let v195 : BitVec 1 := Scalar.cmpi .ne v194 c0_i32_85
  v195

def k0_cond10 (i : grid0.Coords) : BitVec 1 :=
  let arg0 : BitVec 32 := BitVec.ofNat 32 (i 0).val
  let c0_i32_84 : BitVec 32 := 0#32
  let v193 : BitVec 1 := Scalar.cmpi .eq arg0 c0_i32_84
  let true_86 : BitVec 1 := 1#1
  let v196 : BitVec 1 := Scalar.xori v193 true_86
  let v197 : BitVec 32 := Scalar.extui v196
  let c0_i32_87 : BitVec 32 := 0#32
  let v198 : BitVec 1 := Scalar.cmpi .ne v197 c0_i32_87
  v198

def k0_cond13 (i : grid0.Coords) : BitVec 1 :=
  let arg0 : BitVec 32 := BitVec.ofNat 32 (i 0).val
  let c0_i32_131 : BitVec 32 := 0#32
  let v299 : BitVec 1 := Scalar.cmpi .eq arg0 c0_i32_131
  let v300 : BitVec 32 := Scalar.extui v299
  let c0_i32_132 : BitVec 32 := 0#32
  let v301 : BitVec 1 := Scalar.cmpi .ne v300 c0_i32_132
  v301

def k0_cond14 (i : grid0.Coords) : BitVec 1 :=
  let arg0 : BitVec 32 := BitVec.ofNat 32 (i 0).val
  let c0_i32_131 : BitVec 32 := 0#32
  let v299 : BitVec 1 := Scalar.cmpi .eq arg0 c0_i32_131
  let true_133 : BitVec 1 := 1#1
  let v302 : BitVec 1 := Scalar.xori v299 true_133
  let v303 : BitVec 32 := Scalar.extui v302
  let c0_i32_134 : BitVec 32 := 0#32
  let v304 : BitVec 1 := Scalar.cmpi .ne v303 c0_i32_134
  v304

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S4096x1024 : Shape := ⟨2, ![4096, 1024]⟩
abbrev S4x128x128 : Shape := ⟨3, ![4, 128, 128]⟩
abbrev S1x512 : Shape := ⟨2, ![1, 512]⟩
abbrev S4x4096x512 : Shape := ⟨3, ![4, 4096, 512]⟩
abbrev S4096x512 : Shape := ⟨2, ![4096, 512]⟩
abbrev S2x2048x512 : Shape := ⟨3, ![2, 2048, 512]⟩
abbrev S512 : Shape := ⟨1, ![512]⟩
abbrev S2x2048x4x128 : Shape := ⟨4, ![2, 2048, 4, 128]⟩
abbrev S2048 : Shape := ⟨1, ![2048]⟩
abbrev S4 : Shape := ⟨1, ![4]⟩
abbrev S_ : Shape := ⟨0, ![]⟩
abbrev S1x2048x1 : Shape := ⟨3, ![1, 2048, 1]⟩
abbrev S1x1x2048 : Shape := ⟨3, ![1, 1, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S2048x1 : Shape := ⟨2, ![2048, 1]⟩
abbrev S1x4 : Shape := ⟨2, ![1, 4]⟩
abbrev S2048x4 : Shape := ⟨2, ![2048, 4]⟩
abbrev S4x2x128x2048 : Shape := ⟨4, ![4, 2, 128, 2048]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩
abbrev S3x4096x512 : Shape := ⟨3, ![3, 4096, 512]⟩
abbrev S1x4096x512 : Shape := ⟨3, ![1, 4096, 512]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4x128x128, .f32⟩
  | .hbm, ⟨3, _⟩ => ⟨S1x512, .f32⟩
  | .hbm, ⟨4, _⟩ => ⟨S4x4096x512, .bf16⟩
  | .hbm, ⟨5, _⟩ => ⟨S4096x512, .bf16⟩
  | .hbm, ⟨6, _⟩ => ⟨S4096x512, .f32⟩
  | .hbm, ⟨7, _⟩ => ⟨S2x2048x512, .f32⟩
  | .hbm, ⟨8, _⟩ => ⟨S4096x512, .bf16⟩
  | .hbm, ⟨9, _⟩ => ⟨S4096x512, .f32⟩
  | .hbm, ⟨10, _⟩ => ⟨S2x2048x512, .f32⟩
  | .hbm, ⟨11, _⟩ => ⟨S512, .f32⟩
  | .hbm, ⟨12, _⟩ => ⟨S2x2048x4x128, .f32⟩
  | .hbm, ⟨13, _⟩ => ⟨S2048, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S1x2048x1, .i32⟩
  | .hbm, ⟨19, _⟩ => ⟨S1x1x2048, .i32⟩
  | .hbm, ⟨20, _⟩ => ⟨S1x2048x2048, .i32⟩
  | .hbm, ⟨21, _⟩ => ⟨S1x2048x2048, .i32⟩
  | .hbm, ⟨22, _⟩ => ⟨S1x2048x2048, .i32⟩
  | .hbm, ⟨23, _⟩ => ⟨S_, .i32⟩
  | .hbm, ⟨24, _⟩ => ⟨S1x2048x2048, .i32⟩
  | .hbm, ⟨25, _⟩ => ⟨S1x2048x2048, .i1⟩
  | .hbm, ⟨26, _⟩ => ⟨S4x1x1, .i32⟩
  | .hbm, ⟨27, _⟩ => ⟨S4x2048x2048, .i32⟩
  | .hbm, ⟨28, _⟩ => ⟨S4x2048x2048, .i32⟩
  | .hbm, ⟨29, _⟩ => ⟨S4x2048x2048, .i1⟩
  | .hbm, ⟨30, _⟩ => ⟨S4x2048x2048, .i1⟩
  | .hbm, ⟨31, _⟩ => ⟨S4x2048x2048, .i1⟩
  | .hbm, ⟨32, _⟩ => ⟨S2048x1, .i32⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S1x4, .i32⟩
  | .hbm, ⟨37, _⟩ => ⟨S2048x4, .i32⟩
  | .hbm, ⟨38, _⟩ => ⟨S2048x4, .i32⟩
  | .hbm, ⟨39, _⟩ => ⟨S2048x4, .i32⟩
  | .hbm, ⟨40, _⟩ => ⟨S2048x4, .f32⟩
  | .hbm, ⟨41, _⟩ => ⟨S4x2048x2048, .f32⟩
  | .hbm, ⟨42, _⟩ => ⟨S4x2x128x2048, .f32⟩
  | .hbm, ⟨43, _⟩ => ⟨S2x2048x4x128, .f32⟩
  | .hbm, ⟨44, _⟩ => ⟨S1x2048x4x1, .f32⟩
  | .hbm, ⟨45, _⟩ => ⟨S2x2048x4x128, .f32⟩
  | .hbm, ⟨46, _⟩ => ⟨S2x2048x4x128, .f32⟩
  | .hbm, ⟨47, _⟩ => ⟨S2x2048x4x128, .f32⟩
  | .hbm, ⟨48, _⟩ => ⟨S4x128x2x2048, .f32⟩
  | .hbm, ⟨49, _⟩ => ⟨S2x2048x4x128, .f32⟩
  | .hbm, ⟨50, _⟩ => ⟨S2x2048x512, .f32⟩
  | .hbm, ⟨51, _⟩ => ⟨S1x1x512, .f32⟩
  | .hbm, ⟨52, _⟩ => ⟨S2x2048x512, .f32⟩
  | .hbm, ⟨53, _⟩ => ⟨S2x2048x512, .f32⟩
  | .hbm, ⟨54, _⟩ => ⟨S2x2048x512, .f32⟩
  | .hbm, ⟨55, _⟩ => ⟨S_, .f32⟩
  | .hbm, ⟨56, _⟩ => ⟨S512, .f32⟩
  | .hbm, ⟨57, _⟩ => ⟨S1x1x512, .f32⟩
  | .hbm, ⟨58, _⟩ => ⟨S2x2048x512, .f32⟩
  | .hbm, ⟨59, _⟩ => ⟨S2x2048x512, .f32⟩
  | .hbm, ⟨60, _⟩ => ⟨S_, .f32⟩
  | .hbm, ⟨61, _⟩ => ⟨S512, .f32⟩
  | .hbm, ⟨62, _⟩ => ⟨S2x2048x4x128, .f32⟩
  | .hbm, ⟨63, _⟩ => ⟨S4x128x2x2048, .f32⟩
  | .hbm, ⟨64, _⟩ => ⟨S4x2x2048x128, .f32⟩
  | .hbm, ⟨65, _⟩ => ⟨S2x2048x4x128, .f32⟩
  | .hbm, ⟨66, _⟩ => ⟨S4x128x128, .f32⟩
  | .hbm, ⟨67, _⟩ => ⟨S4x128x128, .f32⟩
  | .hbm, ⟨68, _⟩ => ⟨S2x2048x4x128, .f32⟩
  | .hbm, ⟨69, _⟩ => ⟨S2x2048x4x128, .f32⟩
  | .hbm, ⟨70, _⟩ => ⟨S2x2048x4x128, .f32⟩
  | .hbm, ⟨71, _⟩ => ⟨S4x2x128x2048, .f32⟩
  | .hbm, ⟨72, _⟩ => ⟨S4x2x128x2048, .f32⟩
  | .hbm, ⟨73, _⟩ => ⟨S2x2048x4x128, .f32⟩
  | .hbm, ⟨74, _⟩ => ⟨S2x2048x4x128, .f32⟩
  | .hbm, ⟨75, _⟩ => ⟨S2x2048x512, .f32⟩
  | .hbm, ⟨76, _⟩ => ⟨S3x4096x512, .bf16⟩
  | .hbm, ⟨77, _⟩ => ⟨S1x4096x512, .f32⟩
  | .hbm, ⟨78, _⟩ => ⟨S1x4096x512, .bf16⟩
  | .hbm, ⟨79, _⟩ => ⟨S4x4096x512, .bf16⟩
  | .hbm, ⟨80, _⟩ => ⟨S1x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_2 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x1024, .f32⟩
  | .hbm, ⟨8, _⟩ => ⟨S2816x1024, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x4096x2816, .f32⟩
  | .hbm, ⟨34, _⟩ => ⟨S1x4096x2816, .f32⟩
  | .hbm, ⟨35, _⟩ => ⟨S2x4096x2816, .f32⟩
  | .hbm, ⟨36, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel3.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x4096x1408 : Shape := ⟨3, ![1, 4096, 1408]⟩
abbrev S4096x512 : Shape := ⟨2, ![4096, 512]⟩
abbrev S1x1408x512 : Shape := ⟨3, ![1, 1408, 512]⟩
abbrev S4096x1408 : Shape := ⟨2, ![4096, 1408]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1408x512, .bf16⟩
  | .local _ .vmem, ⟨5, _⟩ => ⟨S1x1408x512, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S2x2816x1024 : Shape := ⟨3, ![2, 2816, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S1x2816x1024, .f32⟩
  | .hbm, ⟨20, _⟩ => ⟨S1x2816x1024, .f32⟩
  | .hbm, ⟨21, _⟩ => ⟨S2x2816x1024, .f32⟩
  | .hbm, ⟨22, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2x4096x512 : Shape := ⟨3, ![2, 4096, 512]⟩
abbrev S4096x1024 : Shape := ⟨2, ![4096, 1024]⟩
abbrev S2x512x1024 : Shape := ⟨3, ![2, 512, 1024]⟩
abbrev S1x4096x512 : Shape := ⟨3, ![1, 4096, 512]⟩
abbrev S1x512x1024 : Shape := ⟨3, ![1, 512, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x512, .bf16⟩
  | .hbm, ⟨1, _⟩ => ⟨S4096x1024, .bf16⟩
  | .hbm, ⟨2, _⟩ => ⟨S2x512x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![2, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S2x4096x512 : Shape := ⟨3, ![2, 4096, 512]⟩
abbrev S4096x1024 : Shape := ⟨2, ![4096, 1024]⟩
abbrev S1x4096x512 : Shape := ⟨3, ![1, 4096, 512]⟩
abbrev S4096x512 : Shape := ⟨2, ![4096, 512]⟩
abbrev S_ : Shape := ⟨0, ![]⟩
abbrev S1024x1024 : Shape := ⟨2, ![1024, 1024]⟩
abbrev S2x512x1024 : Shape := ⟨3, ![2, 512, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S4096x1024, .bf16⟩
  | .hbm, ⟨2, _⟩ => ⟨S1x4096x512, .bf16⟩
  | .hbm, ⟨3, _⟩ => ⟨S4096x512, .bf16⟩
  | .hbm, ⟨4, _⟩ => ⟨S1x4096x512, .bf16⟩
  | .hbm, ⟨5, _⟩ => ⟨S4096x512, .bf16⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024x1024, .f32⟩
  | .hbm, ⟨12, _⟩ => ⟨S4096x1024, .f32⟩
  | .hbm, ⟨13, _⟩ => ⟨S1024x1024, .f32⟩
  | .hbm, ⟨14, _⟩ => ⟨S1024x1024, .f32⟩
  | .hbm, ⟨15, _⟩ => ⟨S2x512x1024, .f32⟩
  | .hbm, ⟨16, _⟩ => ⟨S2x512x1024, .bf16⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S2x512x1408 : Shape := ⟨3, ![2, 512, 1408]⟩
abbrev S512x1408 : Shape := ⟨2, ![512, 1408]⟩
abbrev S1x1408x1024 : Shape := ⟨3, ![1, 1408, 1024]⟩
abbrev S1408x1024 : Shape := ⟨2, ![1408, 1024]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S2x4096x2816, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S1024x2816, .bf16⟩
  | .hbm, ⟨5, _⟩ => ⟨S1x2816x1024, .bf16⟩
  | .hbm, ⟨6, _⟩ => ⟨S2816x1024, .bf16⟩
  | .hbm, ⟨7, _⟩ => ⟨S1024x2816, .bf16⟩
  | .hbm, ⟨8, _⟩ => ⟨S4096x1024, .f32⟩
  | .hbm, ⟨9, _⟩ => ⟨S1024x2816, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S1x4096x2816, .f32⟩
  | .hbm, ⟨14, _⟩ => ⟨S1x4096x2816, .f32⟩
  | .hbm, ⟨15, _⟩ => ⟨S2x4096x2816, .f32⟩
  | .hbm, ⟨16, _⟩ => ⟨S2x4096x2816, .bf16⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel8.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference8Ideal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1024x2048, .bf16⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S4x128x128 : Shape := ⟨3, ![4, 128, 128]⟩
abbrev S1x512 : Shape := ⟨2, ![1, 512]⟩
abbrev S2x4096x512 : Shape := ⟨3, ![2, 4096, 512]⟩
abbrev S2048x512 : Shape := ⟨2, ![2048, 512]⟩
abbrev S1x2048x512 : Shape := ⟨3, ![1, 2048, 512]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S1x2048x128 : Shape := ⟨3, ![1, 2048, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x128x128, .f32⟩
  | .hbm, ⟨2, _⟩ => ⟨S1x512, .f32⟩
  | .hbm, ⟨3, _⟩ => ⟨S2x4096x512, .bf16⟩
  | .hbm, ⟨4, _⟩ => ⟨S2x4096x512, .bf16⟩
  | .local _ .vmem, ⟨0, _⟩ => ⟨S2048x512, .bf16⟩
  | .local _ .vmem, ⟨1, _⟩ => ⟨S2048x512, .bf16⟩
  | .local _ .vmem, ⟨2, _⟩ => ⟨S4x128x128, .f32⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x2048 : Shape := ⟨2, ![4096, 2048]⟩
abbrev S4x128x128 : Shape := ⟨3, ![4, 128, 128]⟩
abbrev S1x512 : Shape := ⟨2, ![1, 512]⟩
abbrev S2x4096x512 : Shape := ⟨3, ![2, 4096, 512]⟩
abbrev S4096x512 : Shape := ⟨2, ![4096, 512]⟩
abbrev S2x2048x512 : Shape := ⟨3, ![2, 2048, 512]⟩
abbrev S512 : Shape := ⟨1, ![512]⟩
abbrev S2x2048x4x128 : Shape := ⟨4, ![2, 2048, 4, 128]⟩
abbrev S2048 : Shape := ⟨1, ![2048]⟩
abbrev S4 : Shape := ⟨1, ![4]⟩
abbrev S_ : Shape := ⟨0, ![]⟩
abbrev S1x2048x1 : Shape := ⟨3, ![1, 2048, 1]⟩
abbrev S1x1x2048 : Shape := ⟨3, ![1, 1, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S2048x1 : Shape := ⟨2, ![2048, 1]⟩
abbrev S1x4 : Shape := ⟨2, ![1, 4]⟩
abbrev S2048x4 : Shape := ⟨2, ![2048, 4]⟩
abbrev S4x2x128x2048 : Shape := ⟨4, ![4, 2, 128, 2048]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S1x4096x512 : Shape := ⟨3, ![1, 4096, 512]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x128x128, .f32⟩
  | .hbm, ⟨2, _⟩ => ⟨S1x512, .f32⟩
  | .hbm, ⟨3, _⟩ => ⟨S2x4096x512, .bf16⟩
  | .hbm, ⟨4, _⟩ => ⟨S4096x512, .bf16⟩
  | .hbm, ⟨5, _⟩ => ⟨S4096x512, .f32⟩
  | .hbm, ⟨6, _⟩ => ⟨S2x2048x512, .f32⟩
  | .hbm, ⟨7, _⟩ => ⟨S512, .f32⟩
  | .hbm, ⟨8, _⟩ => ⟨S2x2048x4x128, .f32⟩
  | .hbm, ⟨9, _⟩ => ⟨S2048, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S1x2048x1, .i32⟩
  | .hbm, ⟨15, _⟩ => ⟨S1x1x2048, .i32⟩
  | .hbm, ⟨16, _⟩ => ⟨S1x2048x2048, .i32⟩
  | .hbm, ⟨17, _⟩ => ⟨S1x2048x2048, .i32⟩
  | .hbm, ⟨18, _⟩ => ⟨S1x2048x2048, .i32⟩
  | .hbm, ⟨19, _⟩ => ⟨S_, .i32⟩
  | .hbm, ⟨20, _⟩ => ⟨S1x2048x2048, .i32⟩
  | .hbm, ⟨21, _⟩ => ⟨S1x2048x2048, .i1⟩
  | .hbm, ⟨22, _⟩ => ⟨S4x1x1, .i32⟩
  | .hbm, ⟨23, _⟩ => ⟨S4x2048x2048, .i32⟩
  | .hbm, ⟨24, _⟩ => ⟨S4x2048x2048, .i32⟩
  | .hbm, ⟨25, _⟩ => ⟨S4x2048x2048, .i1⟩
  | .hbm, ⟨26, _⟩ => ⟨S4x2048x2048, .i1⟩
  | .hbm, ⟨27, _⟩ => ⟨S4x2048x2048, .i1⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S1x4, .i32⟩
  | .hbm, ⟨33, _⟩ => ⟨S2048x4, .i32⟩
  | .hbm, ⟨34, _⟩ => ⟨S2048x4, .i32⟩
  | .hbm, ⟨35, _⟩ => ⟨S2048x4, .i32⟩
  | .hbm, ⟨36, _⟩ => ⟨S2048x4, .f32⟩
  | .hbm, ⟨37, _⟩ => ⟨S4x2048x2048, .f32⟩
  | .hbm, ⟨38, _⟩ => ⟨S4x2x128x2048, .f32⟩
  | .hbm, ⟨39, _⟩ => ⟨S2x2048x4x128, .f32⟩
  | .hbm, ⟨40, _⟩ => ⟨S1x2048x4x1, .f32⟩
  | .hbm, ⟨41, _⟩ => ⟨S2x2048x4x128, .f32⟩
  | .hbm, ⟨42, _⟩ => ⟨S2x2048x4x128, .f32⟩
  | .hbm, ⟨43, _⟩ => ⟨S2x2048x4x128, .f32⟩
  | .hbm, ⟨44, _⟩ => ⟨S4x128x2x2048, .f32⟩
  | .hbm, ⟨45, _⟩ => ⟨S2x2048x4x128, .f32⟩
  | .hbm, ⟨46, _⟩ => ⟨S2x2048x512, .f32⟩
  | .hbm, ⟨47, _⟩ => ⟨S1x1x512, .f32⟩
  | .hbm, ⟨48, _⟩ => ⟨S2x2048x512, .f32⟩
  | .hbm, ⟨49, _⟩ => ⟨S2x2048x512, .f32⟩
  | .hbm, ⟨50, _⟩ => ⟨S1x4096x512, .bf16⟩
  | .hbm, ⟨51, _⟩ => ⟨S1x4096x512, .f32⟩
  | .hbm, ⟨52, _⟩ => ⟨S1x4096x512, .bf16⟩
  | .hbm, ⟨53, _⟩ => ⟨S2x4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== Kernel10.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference10Ideal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel11.lean ====
abbrev S16x1024 : Shape := ⟨2, ![16, 1024]⟩
abbrev S16x6144 : Shape := ⟨2, ![16, 6144]⟩
abbrev S16x768 : Shape := ⟨2, ![16, 768]⟩
abbrev S1024x768 : Shape := ⟨2, ![1024, 768]⟩
abbrev S1x6144 : Shape := ⟨2, ![1, 6144]⟩
abbrev S6144 : Shape := ⟨1, ![6144]⟩

abbrev nBuf : Space → Nat
  | .hbm => 17
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x6144, .f32⟩
  | .hbm, ⟨14, _⟩ => ⟨S1x6144, .f32⟩
  | .hbm, ⟨15, _⟩ => ⟨S1x6144, .f32⟩
  | .hbm, ⟨16, _⟩ => ⟨S1x6144, .f32⟩
  | .local _ .vmem, ⟨0, _⟩ => ⟨S16x1024, .f32⟩
  | .local _ .vmem, ⟨1, _⟩ => ⟨S16x6144, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1x6144, .f32⟩
  | .local _ .vmem, ⟨7, _⟩ => ⟨S1x6144, .f32⟩
  | .local _ .vmem, ⟨8, _⟩ => ⟨S1x6144, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x6144, .f32⟩
  | .local _ .vmem, ⟨14, _⟩ => ⟨S1x6144, .f32⟩
  | .local _ .vmem, ⟨15, _⟩ => ⟨S1x6144, .f32⟩
  | .local _ .vmem, ⟨16, _⟩ => ⟨S1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Reference11Ideal.lean ====
abbrev S16x1024 : Shape := ⟨2, ![16, 1024]⟩
abbrev S16x6144 : Shape := ⟨2, ![16, 6144]⟩
abbrev S16x768 : Shape := ⟨2, ![16, 768]⟩
abbrev S1024x768 : Shape := ⟨2, ![1024, 768]⟩
abbrev S1x6144 : Shape := ⟨2, ![1, 6144]⟩
abbrev S_ : Shape := ⟨0, ![]⟩
abbrev S768x1024 : Shape := ⟨2, ![768, 1024]⟩
abbrev S6144 : Shape := ⟨1, ![6144]⟩

abbrev nBuf : Space → Nat
  | .hbm => 99
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x768, .f32⟩
  | .hbm, ⟨19, _⟩ => ⟨S768x1024, .f32⟩
  | .hbm, ⟨20, _⟩ => ⟨S1024x768, .f32⟩
  | .hbm, ⟨21, _⟩ => ⟨S_, .f32⟩
  | .hbm, ⟨22, _⟩ => ⟨S16x6144, .f32⟩
  | .hbm, ⟨23, _⟩ => ⟨S6144, .f32⟩
  | .hbm, ⟨24, _⟩ => ⟨S1x6144, .f32⟩
  | .hbm, ⟨25, _⟩ => ⟨S16x6144, .f32⟩
  | .hbm, ⟨26, _⟩ => ⟨S16x6144, .f32⟩
  | .hbm, ⟨27, _⟩ => ⟨S_, .f32⟩
  | .hbm, ⟨28, _⟩ => ⟨S6144, .f32⟩
  | .hbm, ⟨29, _⟩ => ⟨S1x6144, .f32⟩
  | .hbm, ⟨30, _⟩ => ⟨S_, .f32⟩
  | .hbm, ⟨31, _⟩ => ⟨S6144, .f32⟩
  | .hbm, ⟨32, _⟩ => ⟨S1x6144, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S1024x768, .f32⟩
  | .hbm, ⟨40, _⟩ => ⟨S_, .f32⟩
  | .hbm, ⟨41, _⟩ => ⟨S1024x768, .f32⟩
  | .hbm, ⟨42, _⟩ => ⟨S1024x768, .f32⟩
  | .hbm, ⟨43, _⟩ => ⟨S1024x768, .f32⟩
  | .hbm, ⟨44, _⟩ => ⟨S_, .f32⟩
  | .hbm, ⟨45, _⟩ => ⟨S1024x768, .f32⟩
  | .hbm, ⟨46, _⟩ => ⟨S1024x768, .f32⟩
  | .hbm, ⟨47, _⟩ => ⟨S1024x768, .f32⟩
  | .hbm, ⟨48, _⟩ => ⟨S_, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | .hbm, ⟨54, _⟩ => ⟨S1024x768, .f32⟩
  | .hbm, ⟨55, _⟩ => ⟨S_, .f32⟩
  | .hbm, ⟨56, _⟩ => ⟨S1024x768, .f32⟩
  | .hbm, ⟨57, _⟩ => ⟨S1024x768, .f32⟩
  | .hbm, ⟨58, _⟩ => ⟨S1024x768, .f32⟩
  | .hbm, ⟨59, _⟩ => ⟨S_, .f32⟩
  | .hbm, ⟨60, _⟩ => ⟨S1024x768, .f32⟩
  | .hbm, ⟨61, _⟩ => ⟨S1024x768, .f32⟩
  | .hbm, ⟨62, _⟩ => ⟨S1024x768, .f32⟩
  | .hbm, ⟨63, _⟩ => ⟨S_, .f32⟩
  | .hbm, ⟨64, _⟩ => ⟨S1024x768, .f32⟩
  | .hbm, ⟨65, _⟩ => ⟨S1024x768, .f32⟩
  | .hbm, ⟨66, _⟩ => ⟨S_, .f32⟩
  | .hbm, ⟨67, _⟩ => ⟨S1x6144, .f32⟩
  | .hbm, ⟨68, _⟩ => ⟨S1x6144, .f32⟩
  | .hbm, ⟨69, _⟩ => ⟨S_, .f32⟩
  | .hbm, ⟨70, _⟩ => ⟨S1x6144, .f32⟩
  | .hbm, ⟨71, _⟩ => ⟨S1x6144, .f32⟩
  | .hbm, ⟨72, _⟩ => ⟨S1x6144, .f32⟩
  | .hbm, ⟨73, _⟩ => ⟨S_, .f32⟩
  | .hbm, ⟨74, _⟩ => ⟨S1x6144, .f32⟩
  | .hbm, ⟨75, _⟩ => ⟨S1x6144, .f32⟩
  | .hbm, ⟨76, _⟩ => ⟨S1x6144, .f32⟩
  | .hbm, ⟨77, _⟩ => ⟨S_, .f32⟩
  | .hbm, ⟨78, _⟩ => ⟨S1x6144, .f32⟩
  | .hbm, ⟨79, _⟩ => ⟨S1x6144, .f32⟩
  | .hbm, ⟨80, _⟩ => ⟨S1x6144, .f32⟩
  | .hbm, ⟨81, _⟩ => ⟨S_, .f32⟩
  | .hbm, ⟨82, _⟩ => ⟨S1x6144, .f32⟩
  | .hbm, ⟨83, _⟩ => ⟨S1x6144, .f32⟩
  | .hbm, ⟨84, _⟩ => ⟨S_, .f32⟩
  | .hbm, ⟨85, _⟩ => ⟨S1x6144, .f32⟩
  | .hbm, ⟨86, _⟩ => ⟨S1x6144, .f32⟩
  | .hbm, ⟨87, _⟩ => ⟨S1x6144, .f32⟩
  | .hbm, ⟨88, _⟩ => ⟨S_, .f32⟩
  | .hbm, ⟨89, _⟩ => ⟨S1x6144, .f32⟩
  | .hbm, ⟨90, _⟩ => ⟨S1x6144, .f32⟩
  | .hbm, ⟨91, _⟩ => ⟨S1x6144, .f32⟩
  | .hbm, ⟨92, _⟩ => ⟨S_, .f32⟩
  | .hbm, ⟨93, _⟩ => ⟨S1x6144, .f32⟩
  | .hbm, ⟨94, _⟩ => ⟨S1x6144, .f32⟩
  | .hbm, ⟨95, _⟩ => ⟨S1x6144, .f32⟩
  | .hbm, ⟨96, _⟩ => ⟨S_, .f32⟩
  | .hbm, ⟨97, _⟩ => ⟨S1x6144, .f32⟩
  | .hbm, ⟨98, _⟩ => ⟨S1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_14 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_15 : Ref sig .tc := ⟨.hbm, 81, rfl⟩
abbrev main_v48 : Ref sig .tc := ⟨.hbm, 82, rfl⟩
abbrev main_v49 : Ref sig .tc := ⟨.hbm, 83, rfl⟩
abbrev main_cst_16 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_17 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_18 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_19 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Kernel12.lean ====
abbrev S1 : Shape := ⟨1, ![1]⟩
abbrev S1x8x128x1024 : Shape := ⟨4, ![1, 8, 128, 1024]⟩
abbrev S1x7x128x1024 : Shape := ⟨4, ![1, 7, 128, 1024]⟩
abbrev S128x1024 : Shape := ⟨2, ![128, 1024]⟩
abbrev S1x1x128x256 : Shape := ⟨4, ![1, 1, 128, 256]⟩
abbrev S1x7x128x256 : Shape := ⟨4, ![1, 7, 128, 256]⟩
abbrev S128x256 : Shape := ⟨2, ![128, 256]⟩

abbrev nBuf : Space → Nat
  | .hbm => 9
  | .vmem => 18
  | .smem => 1
  | _ => 0

abbrev bufTy : (tb : Table) → Fin (tcTables nBuf tb) → BufTy
  | .hbm, ⟨0, _⟩ => ⟨S1x8x128x1024, .bf16⟩
  | .hbm, ⟨1, _⟩ => ⟨S1x7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x1x128x256, .bf16⟩
  | .local _ .vmem, ⟨1, _⟩ => ⟨S1x1x128x256, .bf16⟩
  | .local _ .vmem, ⟨2, _⟩ => ⟨S1x7x128x256, .bf16⟩
  | .local _ .vmem, ⟨3, _⟩ => ⟨S1x7x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S1x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1 : Shape := ⟨1, ![1]⟩
abbrev S1x8x128x1024 : Shape := ⟨4, ![1, 8, 128, 1024]⟩
abbrev S1x7x128x1024 : Shape := ⟨4, ![1, 7, 128, 1024]⟩
abbrev S128x1024 : Shape := ⟨2, ![128, 1024]⟩
abbrev S8 : Shape := ⟨1, ![8]⟩
abbrev S8x1x1 : Shape := ⟨3, ![8, 1, 1]⟩
abbrev S_ : Shape := ⟨0, ![]⟩
abbrev S8x128x1024 : Shape := ⟨3, ![8, 128, 1024]⟩
abbrev S7x128x1024 : Shape := ⟨3, ![7, 128, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x8x128x1024, .bf16⟩
  | .hbm, ⟨2, _⟩ => ⟨S1x7x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .bf16⟩
  | .hbm, ⟨12, _⟩ => ⟨S8x128x1024, .f32⟩
  | .hbm, ⟨13, _⟩ => ⟨S_, .f32⟩
  | .hbm, ⟨14, _⟩ => ⟨S_, .f32⟩
  | .hbm, ⟨15, _⟩ => ⟨S8x128x1024, .i1⟩
  | .hbm, ⟨16, _⟩ => ⟨S8x128x1024, .f32⟩
  | .hbm, ⟨17, _⟩ => ⟨S8x128x1024, .f32⟩
  | .hbm, ⟨18, _⟩ => ⟨S_, .f32⟩
  | .hbm, ⟨19, _⟩ => ⟨S128x1024, .f32⟩
  | .hbm, ⟨20, _⟩ => ⟨S7x128x1024, .bf16⟩
  | .hbm, ⟨21, _⟩ => ⟨S7x128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S_, .f32⟩
  | .hbm, ⟨56, _⟩ => ⟨S128x1024, .f32⟩
  | .hbm, ⟨57, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel13.lean ====
abbrev S1 : Shape := ⟨1, ![1]⟩
abbrev S1x8x352x1024 : Shape := ⟨4, ![1, 8, 352, 1024]⟩
abbrev S1x7x352x1024 : Shape := ⟨4, ![1, 7, 352, 1024]⟩
abbrev S352x1024 : Shape := ⟨2, ![352, 1024]⟩
abbrev S1x1x352x256 : Shape := ⟨4, ![1, 1, 352, 256]⟩
abbrev S1x7x352x256 : Shape := ⟨4, ![1, 7, 352, 256]⟩
abbrev S352x256 : Shape := ⟨2, ![352, 256]⟩

abbrev nBuf : Space → Nat
  | .hbm => 9
  | .vmem => 18
  | .smem => 1
  | _ => 0

abbrev bufTy : (tb : Table) → Fin (tcTables nBuf tb) → BufTy
  | .hbm, ⟨0, _⟩ => ⟨S1x8x352x1024, .bf16⟩
  | .hbm, ⟨1, _⟩ => ⟨S1x7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x1x352x256, .bf16⟩
  | .local _ .vmem, ⟨1, _⟩ => ⟨S1x1x352x256, .bf16⟩
  | .local _ .vmem, ⟨2, _⟩ => ⟨S1x7x352x256, .bf16⟩
  | .local _ .vmem, ⟨3, _⟩ => ⟨S1x7x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | .local _ .smem, ⟨0, _⟩ => ⟨S1, .i32⟩
  | _, _ => ⟨S1x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1 : Shape := ⟨1, ![1]⟩
abbrev S1x8x352x1024 : Shape := ⟨4, ![1, 8, 352, 1024]⟩
abbrev S1x7x352x1024 : Shape := ⟨4, ![1, 7, 352, 1024]⟩
abbrev S352x1024 : Shape := ⟨2, ![352, 1024]⟩
abbrev S8 : Shape := ⟨1, ![8]⟩
abbrev S8x1x1 : Shape := ⟨3, ![8, 1, 1]⟩
abbrev S_ : Shape := ⟨0, ![]⟩
abbrev S8x352x1024 : Shape := ⟨3, ![8, 352, 1024]⟩
abbrev S7x352x1024 : Shape := ⟨3, ![7, 352, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x8x352x1024, .bf16⟩
  | .hbm, ⟨2, _⟩ => ⟨S1x7x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x352x1024, .bf16⟩
  | .hbm, ⟨12, _⟩ => ⟨S8x352x1024, .f32⟩
  | .hbm, ⟨13, _⟩ => ⟨S_, .f32⟩
  | .hbm, ⟨14, _⟩ => ⟨S_, .f32⟩
  | .hbm, ⟨15, _⟩ => ⟨S8x352x1024, .i1⟩
  | .hbm, ⟨16, _⟩ => ⟨S8x352x1024, .f32⟩
  | .hbm, ⟨17, _⟩ => ⟨S8x352x1024, .f32⟩
  | .hbm, ⟨18, _⟩ => ⟨S_, .f32⟩
  | .hbm, ⟨19, _⟩ => ⟨S352x1024, .f32⟩
  | .hbm, ⟨20, _⟩ => ⟨S7x352x1024, .bf16⟩
  | .hbm, ⟨21, _⟩ => ⟨S7x352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | .hbm, ⟨54, _⟩ => ⟨S352x1024, .f32⟩
  | .hbm, ⟨55, _⟩ => ⟨S_, .f32⟩
  | .hbm, ⟨56, _⟩ => ⟨S352x1024, .f32⟩
  | .hbm, ⟨57, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel14.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S1x1x352x256 : Shape := ⟨4, ![1, 1, 352, 256]⟩
abbrev S1x7x352x256 : Shape := ⟨4, ![1, 7, 352, 256]⟩
abbrev S352x256 : Shape := ⟨2, ![352, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x8x352x1024, .bf16⟩
  | .hbm, ⟨1, _⟩ => ⟨S2x7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x1x352x256, .bf16⟩
  | .local _ .vmem, ⟨1, _⟩ => ⟨S1x1x352x256, .bf16⟩
  | .local _ .vmem, ⟨2, _⟩ => ⟨S1x7x352x256, .bf16⟩
  | .local _ .vmem, ⟨3, _⟩ => ⟨S1x7x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | .local _ .smem, ⟨0, _⟩ => ⟨S1, .i32⟩
  | _, _ => ⟨S2x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S8 : Shape := ⟨1, ![8]⟩
abbrev S8x1x1 : Shape := ⟨3, ![8, 1, 1]⟩
abbrev S_ : Shape := ⟨0, ![]⟩
abbrev S1x8x352x1024 : Shape := ⟨4, ![1, 8, 352, 1024]⟩
abbrev S8x352x1024 : Shape := ⟨3, ![8, 352, 1024]⟩
abbrev S1x7x352x1024 : Shape := ⟨4, ![1, 7, 352, 1024]⟩
abbrev S7x352x1024 : Shape := ⟨3, ![7, 352, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x8x352x1024, .bf16⟩
  | .hbm, ⟨2, _⟩ => ⟨S2x7x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S1x8x352x1024, .bf16⟩
  | .hbm, ⟨12, _⟩ => ⟨S8x352x1024, .bf16⟩
  | .hbm, ⟨13, _⟩ => ⟨S8x352x1024, .f32⟩
  | .hbm, ⟨14, _⟩ => ⟨S_, .f32⟩
  | .hbm, ⟨15, _⟩ => ⟨S_, .f32⟩
  | .hbm, ⟨16, _⟩ => ⟨S8x352x1024, .i1⟩
  | .hbm, ⟨17, _⟩ => ⟨S8x352x1024, .f32⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S1x7x352x1024, .bf16⟩
  | .hbm, ⟨22, _⟩ => ⟨S7x352x1024, .bf16⟩
  | .hbm, ⟨23, _⟩ => ⟨S7x352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S_, .f32⟩
  | .hbm, ⟨50, _⟩ => ⟨S352x1024, .f32⟩
  | .hbm, ⟨51, _⟩ => ⟨S352x1024, .f32⟩
  | .hbm, ⟨52, _⟩ => ⟨S352x1024, .f32⟩
  | .hbm, ⟨53, _⟩ => ⟨S_, .f32⟩
  | .hbm, ⟨54, _⟩ => ⟨S352x1024, .f32⟩
  | .hbm, ⟨55, _⟩ => ⟨S352x1024, .f32⟩
  | .hbm, ⟨56, _⟩ => ⟨S352x1024, .f32⟩
  | .hbm, ⟨57, _⟩ => ⟨S_, .f32⟩
  | .hbm, ⟨58, _⟩ => ⟨S352x1024, .f32⟩
  | .hbm, ⟨59, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel15.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S1x1x352x256 : Shape := ⟨4, ![1, 1, 352, 256]⟩
abbrev S1x7x352x256 : Shape := ⟨4, ![1, 7, 352, 256]⟩
abbrev S352x256 : Shape := ⟨2, ![352, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x8x352x1024, .bf16⟩
  | .hbm, ⟨1, _⟩ => ⟨S2x7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x1x352x256, .bf16⟩
  | .local _ .vmem, ⟨1, _⟩ => ⟨S1x1x352x256, .bf16⟩
  | .local _ .vmem, ⟨2, _⟩ => ⟨S1x7x352x256, .bf16⟩
  | .local _ .vmem, ⟨3, _⟩ => ⟨S1x7x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | .local _ .smem, ⟨0, _⟩ => ⟨S1, .i32⟩
  | _, _ => ⟨S2x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let c0_i32 : BitVec 32 := 0#32
  let c0_i32_0 : BitVec 32 := 0#32
  ![c1_i32.toNat, v0.toNat, c0_i32.toNat, arg0.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S1 : Shape := ⟨1, ![1]⟩
abbrev S2x8x352x1024 : Shape := ⟨4, ![2, 8, 352, 1024]⟩
abbrev S2x7x352x1024 : Shape := ⟨4, ![2, 7, 352, 1024]⟩
abbrev S352x1024 : Shape := ⟨2, ![352, 1024]⟩
abbrev S8 : Shape := ⟨1, ![8]⟩
abbrev S8x1x1 : Shape := ⟨3, ![8, 1, 1]⟩
abbrev S_ : Shape := ⟨0, ![]⟩
abbrev S1x8x352x1024 : Shape := ⟨4, ![1, 8, 352, 1024]⟩
abbrev S8x352x1024 : Shape := ⟨3, ![8, 352, 1024]⟩
abbrev S1x7x352x1024 : Shape := ⟨4, ![1, 7, 352, 1024]⟩
abbrev S7x352x1024 : Shape := ⟨3, ![7, 352, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x8x352x1024, .bf16⟩
  | .hbm, ⟨2, _⟩ => ⟨S2x7x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S1x8x352x1024, .bf16⟩
  | .hbm, ⟨12, _⟩ => ⟨S8x352x1024, .bf16⟩
  | .hbm, ⟨13, _⟩ => ⟨S8x352x1024, .f32⟩
  | .hbm, ⟨14, _⟩ => ⟨S_, .f32⟩
  | .hbm, ⟨15, _⟩ => ⟨S_, .f32⟩
  | .hbm, ⟨16, _⟩ => ⟨S8x352x1024, .i1⟩
  | .hbm, ⟨17, _⟩ => ⟨S8x352x1024, .f32⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S1x7x352x1024, .bf16⟩
  | .hbm, ⟨22, _⟩ => ⟨S7x352x1024, .bf16⟩
  | .hbm, ⟨23, _⟩ => ⟨S7x352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S_, .f32⟩
  | .hbm, ⟨50, _⟩ => ⟨S352x1024, .f32⟩
  | .hbm, ⟨51, _⟩ => ⟨S352x1024, .f32⟩
  | .hbm, ⟨52, _⟩ => ⟨S352x1024, .f32⟩
  | .hbm, ⟨53, _⟩ => ⟨S_, .f32⟩
  | .hbm, ⟨54, _⟩ => ⟨S352x1024, .f32⟩
  | .hbm, ⟨55, _⟩ => ⟨S352x1024, .f32⟩
  | .hbm, ⟨56, _⟩ => ⟨S352x1024, .f32⟩
  | .hbm, ⟨57, _⟩ => ⟨S_, .f32⟩
  | .hbm, ⟨58, _⟩ => ⟨S352x1024, .f32⟩
  | .hbm, ⟨59, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel16.lean ====
abbrev S1 : Shape := ⟨1, ![1]⟩
abbrev S1x8x256x1024 : Shape := ⟨4, ![1, 8, 256, 1024]⟩
abbrev S1x7x256x1024 : Shape := ⟨4, ![1, 7, 256, 1024]⟩
abbrev S1024x256 : Shape := ⟨2, ![1024, 256]⟩
abbrev S1x1x256x256 : Shape := ⟨4, ![1, 1, 256, 256]⟩
abbrev S1x7x256x256 : Shape := ⟨4, ![1, 7, 256, 256]⟩
abbrev S256x256 : Shape := ⟨2, ![256, 256]⟩

abbrev nBuf : Space → Nat
  | .hbm => 9
  | .vmem => 18
  | .smem => 1
  | _ => 0

abbrev bufTy : (tb : Table) → Fin (tcTables nBuf tb) → BufTy
  | .hbm, ⟨0, _⟩ => ⟨S1x8x256x1024, .bf16⟩
  | .hbm, ⟨1, _⟩ => ⟨S1x7x256x1024, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x1x256x256, .bf16⟩
  | .local _ .vmem, ⟨1, _⟩ => ⟨S1x1x256x256, .bf16⟩
  | .local _ .vmem, ⟨2, _⟩ => ⟨S1x7x256x256, .bf16⟩
  | .local _ .vmem, ⟨3, _⟩ => ⟨S1x7x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S1x8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S1 : Shape := ⟨1, ![1]⟩
abbrev S1x8x256x1024 : Shape := ⟨4, ![1, 8, 256, 1024]⟩
abbrev S1x7x256x1024 : Shape := ⟨4, ![1, 7, 256, 1024]⟩
abbrev S1024x256 : Shape := ⟨2, ![1024, 256]⟩
abbrev S8 : Shape := ⟨1, ![8]⟩
abbrev S8x1x1 : Shape := ⟨3, ![8, 1, 1]⟩
abbrev S_ : Shape := ⟨0, ![]⟩
abbrev S8x256x1024 : Shape := ⟨3, ![8, 256, 1024]⟩
abbrev S256x1024 : Shape := ⟨2, ![256, 1024]⟩
abbrev S7x256x1024 : Shape := ⟨3, ![7, 256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x8x256x1024, .bf16⟩
  | .hbm, ⟨2, _⟩ => ⟨S1x7x256x1024, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x256x1024, .bf16⟩
  | .hbm, ⟨12, _⟩ => ⟨S8x256x1024, .f32⟩
  | .hbm, ⟨13, _⟩ => ⟨S_, .f32⟩
  | .hbm, ⟨14, _⟩ => ⟨S_, .f32⟩
  | .hbm, ⟨15, _⟩ => ⟨S8x256x1024, .i1⟩
  | .hbm, ⟨16, _⟩ => ⟨S8x256x1024, .f32⟩
  | .hbm, ⟨17, _⟩ => ⟨S8x256x1024, .f32⟩
  | .hbm, ⟨18, _⟩ => ⟨S_, .f32⟩
  | .hbm, ⟨19, _⟩ => ⟨S256x1024, .f32⟩
  | .hbm, ⟨20, _⟩ => ⟨S7x256x1024, .bf16⟩
  | .hbm, ⟨21, _⟩ => ⟨S7x256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S1024x256, .f32⟩
  | .hbm, ⟨41, _⟩ => ⟨S_, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S1024x256, .f32⟩
  | .hbm, ⟨50, _⟩ => ⟨S1024x256, .f32⟩
  | .hbm, ⟨51, _⟩ => ⟨S1024x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S_, .f32⟩
  | .hbm, ⟨57, _⟩ => ⟨S1024x256, .f32⟩
  | .hbm, ⟨58, _⟩ => ⟨S1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Reals.lean ====
/- Real numbers among the extended reals: what the preconditions of finiteness give, and that sums and products of
   real numbers are real. -/
module

public import Idealize.ShloMosaic.Lib.Pointwise

@[expose] public section

noncomputable section

namespace Cert.Reals

open Idealize.ShloMosaic
open scoped BigOperators

/-- An extended real that is a real number. -/
def IsReal (x : EReal) : Prop := ∃ r : ℝ, x = (r : EReal)

theorem inf_bits : Ideal.ofBits .f32 0x7F800000#32 = (⊤ : EReal) := by
  simp [Ideal.ofBits, Ideal.ieee]

/-- A number whose absolute value compares below infinity is real. -/
theorem isReal_of_abs_lt {x : EReal}
    (h : BitVec.ofBool (decide (max x (-x) < (Ideal.ofBits .f32 0x7F800000#32 : EReal))) = 1#1) : IsReal x := by
  rw [inf_bits] at h
  have h' : max x (-x) < ⊤ := by
    by_contra hn
    rw [decide_eq_false hn] at h
    exact absurd h (by decide)
  induction x using EReal.rec with
  | bot => simp at h'
  | top => simp at h'
  | coe r => exact ⟨r, rfl⟩

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Reals

end
-- ==== Proof.ActBwd.lean ====
/- The backward of the gated activation: the cotangent of the activation (the cotangent of the block’s output times the
   down projection) carried to the gate and the up product. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit.Tiles
public import proofs.«01_k».proof.Proof.Reals
public import proofs.«01_k».proof.Proof.Gen.Pre_finite2

@[expose] public section

set_option maxRecDepth 16384

noncomputable section

namespace Cert.Kernel2Ideal.ActBwd

open Cert.Kernel2Ideal Cert.Kernel2Ideal.Gen Idealize.ShloMosaic Idealize.ShloMosaic.TcCoe Idealize.SL.Sem
open Idealize.ShloMosaic.Pipeline (Dat)
open Cert.Reals
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The cotangent of the activation: rows of the cotangent times rows of the down projection. -/
def dact (x : Vec Ideal S4096x1024 .bf16) (y : Vec Ideal S2816x1024 .bf16) (r : Fin 4096) (c : Fin 2816) : EReal :=
  ∑ k : Fin 1024, x (ix2 r k) * y (ix2 c k)

/-- The gradient of one slab from the activation's cotangent `d`, the gate `g` and the up product `u`: for the gate
    (slab 0) the derivative of `g · logistic g`, for the up product (slab 1) `g · logistic g` itself. -/
def slab (s : Fin 2) (d g u : EReal) : EReal :=
  if s.val = 0 then d * u * (Ideal.logistic g + g * Ideal.logistic g * (1 - Ideal.logistic g)) else d * (g * Ideal.logistic g)

/-- The two slabs of the gradient. -/
def grad (x : Vec Ideal S4096x1024 .bf16) (y : Vec Ideal S2816x1024 .bf16) (z : Vec Ideal S2x4096x2816 .bf16) :
    Vec Ideal S2x4096x2816 .bf16 :=
  fun i => slab (i 0) (dact x y (i 1) (i 2)) (z (ix3 (0 : Fin 2) (i 1) (i 2))) (z (ix3 (1 : Fin 2) (i 1) (i 2)))

theorem ld_rows (x0 : Vec Ideal S512x1024 .bf16) : View.ld x0 r0_0 = x0 := View.ld_unit_zero hz2 _ _

theorem ld_weight (x1 : Vec Ideal S1408x1024 .bf16) : View.ld x1 r0_1 = x1 := View.ld_unit_zero hz2 _ _

theorem ld_gate (x2 : Vec Ideal S2x512x1408 .bf16) (r : Fin 512) (k : Fin 1408) :
    View.ld x2 r0_2 (ix3 (0 : Fin 1) r k) = x2 (ix3 (0 : Fin 2) r k) :=
  View.ld_unit_apply_of x2 _ _ _ _ _ fun a => match a with
    | ⟨0, _⟩ => rfl | ⟨1, _⟩ => (Nat.zero_add _).symm | ⟨2, _⟩ => (Nat.zero_add _).symm

theorem ld_up (x2 : Vec Ideal S2x512x1408 .bf16) (r : Fin 512) (k : Fin 1408) :
    View.ld x2 r0_3 (ix3 (0 : Fin 1) r k) = x2 (ix3 (1 : Fin 2) r k) :=
  View.ld_unit_apply_of x2 _ _ _ _ _ fun a => match a with
    | ⟨0, _⟩ => rfl | ⟨1, _⟩ => (Nat.zero_add _).symm | ⟨2, _⟩ => (Nat.zero_add _).symm

/-- The stored gradient, at an element of the block. -/
theorem block_apply (x0 : Vec Ideal S512x1024 .bf16) (x1 : Vec Ideal S1408x1024 .bf16) (x2 : Vec Ideal S2x512x1408 .bf16)
    (y : S2x512x1408.Idx) :
    out0_3 x0 x1 x2 y = slab (y 0) (∑ k : Fin 1024, x0 (ix2 (y 1) k) * x1 (ix2 (y 2) k))
      (x2 (ix3 (0 : Fin 2) (y 1) (y 2))) (x2 (ix3 (1 : Fin 2) (y 1) (y 2))) := by
  unfold out0_3
  refine View.canon_eq_of_allAt _ y _ (cover0_3 _ _ y) fun p hp x hx => ?_
  rcases List.mem_cons.mp hp with rfl | hp
  · have h : (x 0).val < 1 := (x 0).isLt
    have y0 : (y 0).val = 1 := by rw [← hx]; show 1 + 1 * (x 0).val = 1; omega
    have y1 : x 1 = y 1 := Fin.ext (by rw [← hx]; show (x 1).val = 0 + 1 * (x 1).val; omega)
    have y2 : x 2 = y 2 := Fin.ext (by rw [← hx]; show (x 2).val = 0 + 1 * (x 2).val; omega)
    unfold slab
    rw [if_neg (by omega), ← y1, ← y2]
    show k0_pay6 (View.ld x0 r0_0) (View.ld x1 r0_1) (View.ld x2 r0_2) x = _
    pointwise [k0_pay6, k0_pay1, k0_pay4, k0_pay3, k0_pay2]
  · obtain rfl := List.mem_singleton.mp hp
    have h : (x 0).val < 1 := (x 0).isLt
    have y0 : (y 0).val = 0 := by rw [← hx]; show 0 + 1 * (x 0).val = 0; omega
    have y1 : x 1 = y 1 := Fin.ext (by rw [← hx]; show (x 1).val = 0 + 1 * (x 1).val; omega)
    have y2 : x 2 = y 2 := Fin.ext (by rw [← hx]; show (x 2).val = 0 + 1 * (x 2).val; omega)
    unfold slab
    rw [if_pos (by omega), ← y1, ← y2]
    show k0_pay5 (View.ld x0 r0_0) (View.ld x1 r0_1) (View.ld x2 r0_2) (View.ld x2 r0_3) x = _
    pointwise [k0_pay5, k0_pay1, k0_pay4, k0_pay3, k0_pay2]

theorem idx_0 : ∀ t : Fin grid0.N, win0_0.index t 0 = t.val % 8 ∧ win0_0.index t 1 = 0 := by
  decide +kernel

theorem idx_1 : ∀ t : Fin grid0.N, win0_1.index t 0 = t.val / 8 ∧ win0_1.index t 1 = 0 := by
  decide +kernel

theorem idx_2 : ∀ t : Fin grid0.N, win0_2.index t 0 = 0 ∧ win0_2.index t 1 = t.val % 8 ∧ win0_2.index t 2 = t.val / 8 := by
  decide +kernel

theorem idx_3 : ∀ t : Fin grid0.N, win0_3.index t 0 = 0 ∧ win0_3.index t 1 = t.val % 8 ∧ win0_3.index t 2 = t.val / 8 := by
  decide +kernel

/-- The block of rows at point `t`, at an element. -/
theorem rows_apply (c : Dev nD) (t : Fin cfg0.N) (j : S512x1024.Idx) (i : S4096x1024.Idx)
    (h0 : (i 0).val = t.val % 8 * 512 + (j 0).val) (h1 : (i 1).val = 0 * 1024 + (j 1).val) :
    (iblk m c 0 t : Vec Ideal S512x1024 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1⟩ := idx_0 t
  match a with
  | ⟨0, _⟩ => show win0_0.index t 0 * 512 + 1 * (j 0).val = (i 0).val; rw [e0, h0]; omega
  | ⟨1, _⟩ => show win0_0.index t 1 * 1024 + 1 * (j 1).val = (i 1).val; rw [e1, h1]; omega

/-- The block of the weight at point `t`, at an element. -/
theorem weight_apply (c : Dev nD) (t : Fin cfg0.N) (j : S1408x1024.Idx) (i : S2816x1024.Idx)
    (h0 : (i 0).val = t.val / 8 * 1408 + (j 0).val) (h1 : (i 1).val = 0 * 1024 + (j 1).val) :
    (iblk m c 1 t : Vec Ideal S1408x1024 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1⟩ := idx_1 t
  match a with
  | ⟨0, _⟩ => show win0_1.index t 0 * 1408 + 1 * (j 0).val = (i 0).val; rw [e0, h0]; omega
  | ⟨1, _⟩ => show win0_1.index t 1 * 1024 + 1 * (j 1).val = (i 1).val; rw [e1, h1]; omega

/-- The block of the saved gate and up products at point `t`, at an element. -/
theorem saved_apply (c : Dev nD) (t : Fin cfg0.N) (j : S2x512x1408.Idx) (i : S2x4096x2816.Idx)
    (h0 : (i 0).val = 0 * 2 + (j 0).val) (h1 : (i 1).val = t.val % 8 * 512 + (j 1).val) (h2 : (i 2).val = t.val / 8 * 1408 + (j 2).val) :
    (iblk m c 2 t : Vec Ideal S2x512x1408 .bf16) j = m ((c : Thread nD τ).loc main_arg2) i := by
  unfold iblk
  rw [View.read_apply]
  show m ((c : Thread nD τ).loc main_arg2) _ = m ((c : Thread nD τ).loc main_arg2) i
  congr 1
  funext a
  apply Fin.ext
  obtain ⟨e0, e1, e2⟩ := idx_2 t
  match a with
  | ⟨0, _⟩ => show win0_2.index t 0 * 2 + 1 * (j 0).val = (i 0).val; rw [e0, h0]; omega
  | ⟨1, _⟩ => show win0_2.index t 1 * 512 + 1 * (j 1).val = (i 1).val; rw [e1, h1]; omega
  | ⟨2, _⟩ => show win0_2.index t 2 * 1408 + 1 * (j 2).val = (i 2).val; rw [e2, h2]; omega

abbrev blkX (c : Dev nD) (t : Fin cfg0.N) : Vec Ideal S512x1024 .bf16 := iblk m c 0 t
abbrev blkY (c : Dev nD) (t : Fin cfg0.N) : Vec Ideal S1408x1024 .bf16 := iblk m c 1 t

abbrev result (c : Dev nD) : Buf (Elt Ideal) ((c : Thread nD τ).loc main_v0) :=
  grad (m ((c : Thread nD τ).loc main_arg0)) (m ((c : Thread nD τ).loc main_arg1)) (m ((c : Thread nD τ).loc main_arg2))

/-- What point `t` writes back is its block of the gradient. -/
theorem flushed_eq (c : Dev nD) (t : Fin cfg0.N) :
    (dats m 0 c).flushed 3 t = ((cfg0.win 3).blk t).view.read (Elt Ideal) (result m c) := by
  rw [Value.flushed3]
  funext j
  show out0_3 (iblk m c 0 t) (iblk m c 1 t) (iblk m c 2 t) j = result m c (((cfg0.win 3).blk t).view.emb j)
  rw [block_apply]
  obtain ⟨e0, e1, e2⟩ := idx_3 t
  have h0 : ((((cfg0.win 3).blk t).view.emb j) 0).val = win0_3.index t 0 * 2 + 1 * (j 0).val := rfl
  rw [e0] at h0
  have l0 : (j 0).val < 2 := (j 0).isLt
  have h1 : ((((cfg0.win 3).blk t).view.emb j) 1).val = win0_3.index t 1 * 512 + 1 * (j 1).val := rfl
  rw [e1] at h1
  have l1 : (j 1).val < 512 := (j 1).isLt
  have h2 : ((((cfg0.win 3).blk t).view.emb j) 2).val = win0_3.index t 2 * 1408 + 1 * (j 2).val := rfl
  rw [e2] at h2
  have l2 : (j 2).val < 1408 := (j 2).isLt
  have hs : (j 0 : Fin 2) = (((cfg0.win 3).blk t).view.emb j) 0 := Fin.ext (by rw [h0]; omega)
  have hd : (∑ k : Fin 1024, blkX m c t (ix2 (j 1) k) * blkY m c t (ix2 (j 2) k))
      = dact (m ((c : Thread nD τ).loc main_arg0)) (m ((c : Thread nD τ).loc main_arg1)) ((((cfg0.win 3).blk t).view.emb j) 1) ((((cfg0.win 3).blk t).view.emb j) 2) :=
    Finset.sum_congr rfl fun k _ => congrArg₂ (· * ·)
      (rows_apply m c t (ix2 (j 1) k) (ix2 ((((cfg0.win 3).blk t).view.emb j) 1) k) (h1.trans (by show _ = t.val % 8 * 512 + (j 1).val; omega))
        (by show k.val = 0 * 1024 + k.val; omega))
      (weight_apply m c t (ix2 (j 2) k) (ix2 ((((cfg0.win 3).blk t).view.emb j) 2) k) (h2.trans (by show _ = t.val / 8 * 1408 + (j 2).val; omega))
        (by show k.val = 0 * 1024 + k.val; omega))
  have hz : ∀ s : Fin 2, (iblk m c 2 t : Vec Ideal S2x512x1408 .bf16) (ix3 s (j 1) (j 2))
      = m ((c : Thread nD τ).loc main_arg2) (ix3 s ((((cfg0.win 3).blk t).view.emb j) 1) ((((cfg0.win 3).blk t).view.emb j) 2)) := fun s =>
    saved_apply m c t (ix3 s (j 1) (j 2)) (ix3 s ((((cfg0.win 3).blk t).view.emb j) 1) ((((cfg0.win 3).blk t).view.emb j) 2)) (by show s.val = 0 * 2 + s.val; omega)
      (h1.trans (by show _ = t.val % 8 * 512 + (j 1).val; omega)) (h2.trans (by show _ = t.val / 8 * 1408 + (j 2).val; omega))
  exact (congrArg (fun s => slab s _ _ _) hs).trans
    (congr (congrArg₂ (slab _) hd (hz 0)) (hz 1))

theorem mem_blk3 (t : Fin cfg0.N) (i : S2x4096x2816.Idx) (h0 : (i 0).val / 2 = 0) (h1 : (i 1).val / 512 = t.val % 8) (h2 : (i 2).val / 1408 = t.val / 8) :
    i ∈ ((cfg0.win 3).blk t).view.set := by
  show i ∈ ((View.whole main_v0).slice (win0_3.rect t)).set
  rw [View.set_slice_whole, Rect.mem_set_unit]
  obtain ⟨e0, e1, e2⟩ := idx_3 t
  intro a
  match a with
  | ⟨0, _⟩ =>
    show win0_3.index t 0 * 2 ≤ (i 0 : Nat) ∧ (i 0 : Nat) < win0_3.index t 0 * 2 + 2
    rw [e0]; omega
  | ⟨1, _⟩ =>
    show win0_3.index t 1 * 512 ≤ (i 1 : Nat) ∧ (i 1 : Nat) < win0_3.index t 1 * 512 + 512
    rw [e1]; omega
  | ⟨2, _⟩ =>
    show win0_3.index t 2 * 1408 ≤ (i 2 : Nat) ∧ (i 2 : Nat) < win0_3.index t 2 * 1408 + 1408
    rw [e2]; omega

/-- The blocks written back cover the array. -/
theorem cover3 (i : S2x4096x2816.Idx) :
    ∃ t : Fin cfg0.N, (cfg0.win 3).flush t = true ∧ i ∈ ((cfg0.win 3).blk t).view.set := by
  have h0 : (i 0 : Nat) < 2 := (i 0).isLt
  have h1 : (i 1 : Nat) < 4096 := (i 1).isLt
  have h2 : (i 2 : Nat) < 2816 := (i 2).isLt
  have hN : cfg0.N = 16 := N_0
  refine ⟨⟨(i 2).val / 1408 * 8 + (i 1).val / 512, by omega⟩, flush0_3 _, mem_blk3 _ _ (by first | rfl | (dsimp only; omega) | omega) (by first | rfl | (dsimp only; omega) | omega) (by first | rfl | (dsimp only; omega) | omega)⟩

/-- The final array is the gradient. -/
theorem final (c : Dev nD) : (dats m 0 c).arrAt 3 cfg0.N = result m c :=
  (dats m 0 c).arrAt_eq_of_cover 3 (result m c) (fun t _ => flushed_eq m c t) cover3

/-- The run: the gradient, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Value.run_blocks m ρ)

/-- On real arguments the reference's arrangement of the gate's gradient is the kernel's. -/
theorem arrange (d g u : ℝ) :
    (d : EReal) * u * Ideal.logistic g + (g : EReal) * (d * u) * (Ideal.logistic g * (1 - Ideal.logistic g))
      = d * u * (Ideal.logistic g + g * Ideal.logistic g * (1 - Ideal.logistic g)) := by
  rw [Ideal.logistic_coe]
  generalize (1 + Real.exp (-g))⁻¹ = s
  rw [← EReal.coe_one]
  simp only [← EReal.coe_mul, ← EReal.coe_sub, ← EReal.coe_add]
  congr 1
  ring

/-- On real arguments the reference's value is the gradient. -/
theorem ref_eq (x : Vec Ideal S4096x1024 .bf16) (y : Vec Ideal S2816x1024 .bf16) (z : Vec Ideal S2x4096x2816 .bf16)
    (hx : ∀ i, IsReal (x i)) (hy : ∀ i, IsReal (y i)) (hz : ∀ i, IsReal (z i)) :
    Cert.Reference2Ideal.Read.val_main_v18 (F := Ideal) x y z = grad x y z := by
  funext i
  rw [← Cert.Reference2Ideal.Read.val_main_v18_eq]
  pointwise [grad]
  have h0 : (i 0).val < 2 := (i 0).isLt
  obtain ⟨d, hd⟩ : IsReal (dact x y (i 1) (i 2)) := IsReal.sum _ fun k _ => (hx _).mul (hy _)
  obtain ⟨g, hg⟩ := hz (ix3 (0 : Fin 2) (i 1) (i 2))
  obtain ⟨u, hu⟩ := hz (ix3 (1 : Fin 2) (i 1) (i 2))
  unfold slab
  split
  · next h =>
    rw [if_pos (show (i 0).val = 0 by omega)]
    refine Eq.trans ?_ ((arrange d g u).trans ?_)
    · rw [← hd, ← hg, ← hu]; rfl
    · rw [← hd, ← hg, ← hu]
  · next h =>
    rw [if_neg (show ¬(i 0).val = 0 by omega)]
    exact mul_comm _ _

/-- The precondition makes every argument a real number. -/
theorem pre_real (x : Vec Ideal S4096x1024 .bf16) (y : Vec Ideal S2816x1024 .bf16) (z : Vec Ideal S2x4096x2816 .bf16)
    (h : (Cert.Pre_finite2.fn (F := Ideal) x y z).1 = (fun _ => 1#1) ∧ (Cert.Pre_finite2.fn (F := Ideal) x y z).2.1 = (fun _ => 1#1)
      ∧ (Cert.Pre_finite2.fn (F := Ideal) x y z).2.2 = (fun _ => 1#1)) :
    (∀ i, IsReal (x i)) ∧ (∀ i, IsReal (y i)) ∧ (∀ i, IsReal (z i)) := by
  refine ⟨fun i => ?_, fun i => ?_, fun i => ?_⟩
  · have h := congrFun h.1 i
    pointwise [Cert.Pre_finite2.fn] at h
    exact isReal_of_abs_lt h
  · have h := congrFun h.2.1 i
    pointwise [Cert.Pre_finite2.fn] at h
    exact isReal_of_abs_lt h
  · have h := congrFun h.2.2 i
    pointwise [Cert.Pre_finite2.fn] at h
    exact isReal_of_abs_lt h

end Cert.Kernel2Ideal.ActBwd

end
-- ==== Proof.GradWGateUp.lean ====
/- The gradient of the gate and up projections: for each of the two, columns of its cotangent times columns of the
   normalised input, summed over the tokens. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Kernel3Ideal.GradWGateUp

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Columns of each cotangent times columns of the input, summed over the tokens. -/
def prod (x : Vec Ideal S2x4096x2816 .bf16) (y : Vec Ideal S4096x1024 .bf16) : Vec Ideal S2x2816x1024 .bf16 :=
  fun i => ∑ k : Fin 4096, x (ix3 (i 0) k (i 1)) * y (ix2 k (i 2))

/-- The tile's product, at an element. -/
theorem tile_apply (v0 : Vec Ideal S1x4096x1408 .bf16) (v1 : Vec Ideal S4096x512 .bf16) (j : S1x1408x512.Idx) :
    k0_pay1 v0 v1 j = ∑ k : Fin 4096, v0 (ix3 0 k (j 1)) * v1 (ix2 k (j 2)) := by
  pointwise [k0_pay1]

theorem idx_0 : ∀ t : Fin grid0.N, win0_0.index t 0 = t.val / 4 ∧ win0_0.index t 1 = 0 ∧ win0_0.index t 2 = t.val / 2 % 2 := by
  decide +kernel

theorem idx_1 : ∀ t : Fin grid0.N, win0_1.index t 0 = 0 ∧ win0_1.index t 1 = t.val % 2 := by
  decide +kernel

theorem idx_2 : ∀ t : Fin grid0.N, win0_2.index t 0 = t.val / 4 ∧ win0_2.index t 1 = t.val / 2 % 2 ∧ win0_2.index t 2 = t.val % 2 := by
  decide +kernel

/-- The left block at point `t` is the left array at the block’s place. -/
theorem lhs_apply (c : Dev nD) (t : Fin cfg0.N) (j : S1x4096x1408.Idx) (i : S2x4096x2816.Idx)
    (h0 : (i 0).val = t.val / 4 * 1 + (j 0).val) (h1 : (i 1).val = 0 * 4096 + (j 1).val) (h2 : (i 2).val = t.val / 2 % 2 * 1408 + (j 2).val) :
    (iblk m c 0 t : Vec Ideal S1x4096x1408 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1, e2⟩ := idx_0 t
  match a with
  | ⟨0, _⟩ => show win0_0.index t 0 * 1 + 1 * (j 0).val = (i 0).val; rw [e0, h0]; omega
  | ⟨1, _⟩ => show win0_0.index t 1 * 4096 + 1 * (j 1).val = (i 1).val; rw [e1, h1]; omega
  | ⟨2, _⟩ => show win0_0.index t 2 * 1408 + 1 * (j 2).val = (i 2).val; rw [e2, h2]; omega

/-- The right block at point `t` is the right array at the block’s place. -/
theorem rhs_apply (c : Dev nD) (t : Fin cfg0.N) (j : S4096x512.Idx) (i : S4096x1024.Idx)
    (h0 : (i 0).val = 0 * 4096 + (j 0).val) (h1 : (i 1).val = t.val % 2 * 512 + (j 1).val) :
    (iblk m c 1 t : Vec Ideal S4096x512 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1⟩ := idx_1 t
  match a with
  | ⟨0, _⟩ => show win0_1.index t 0 * 4096 + 1 * (j 0).val = (i 0).val; rw [e0, h0]; omega
  | ⟨1, _⟩ => show win0_1.index t 1 * 512 + 1 * (j 1).val = (i 1).val; rw [e1, h1]; omega

abbrev result (c : Dev nD) : Buf (Elt Ideal) ((c : Thread nD τ).loc main_v0) :=
  prod (m ((c : Thread nD τ).loc main_arg0)) (m ((c : Thread nD τ).loc main_arg1))

/-- What point `t` writes back is its block of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz3, View.ld_unit_zero hz3, View.ld_unit_zero hz2]
  funext j
  show k0_pay1 (iblk m c 0 t) (iblk m c 1 t) j = result m c (((cfg0.win 2).blk t).view.emb j)
  rw [tile_apply]
  refine Finset.sum_congr rfl fun k _ => ?_
  obtain ⟨e0, e1, e2⟩ := idx_2 t
  have h0 : ((((cfg0.win 2).blk t).view.emb j) 0).val = win0_2.index t 0 * 1 + 1 * (j 0).val := rfl
  rw [e0] at h0
  have l0 : (j 0).val < 1 := (j 0).isLt
  have h1 : ((((cfg0.win 2).blk t).view.emb j) 1).val = win0_2.index t 1 * 1408 + 1 * (j 1).val := rfl
  rw [e1] at h1
  have l1 : (j 1).val < 1408 := (j 1).isLt
  have h2 : ((((cfg0.win 2).blk t).view.emb j) 2).val = win0_2.index t 2 * 512 + 1 * (j 2).val := rfl
  rw [e2] at h2
  have l2 : (j 2).val < 512 := (j 2).isLt
  have hN : cfg0.N = 8 := N_0
  have ht : t.val < 8 := lt_of_lt_of_eq t.isLt hN
  exact congrArg₂ (· * ·)
    (lhs_apply m c t (ix3 0 k (j 1)) (ix3 ((((cfg0.win 2).blk t).view.emb j) 0) k ((((cfg0.win 2).blk t).view.emb j) 1)) (h0.trans (by show _ = t.val / 4 * 1 + 0; omega)) (by show k.val = 0 * 4096 + k.val; omega) (h1.trans (by show _ = t.val / 2 % 2 * 1408 + (j 1).val; omega)))
    (rhs_apply m c t (ix2 k (j 2)) (ix2 k ((((cfg0.win 2).blk t).view.emb j) 2)) (by show k.val = 0 * 4096 + k.val; omega) (h2.trans (by show _ = t.val % 2 * 512 + (j 2).val; omega)))

theorem mem_blk2 (t : Fin cfg0.N) (i : S2x2816x1024.Idx) (h0 : (i 0).val / 1 = t.val / 4) (h1 : (i 1).val / 1408 = t.val / 2 % 2) (h2 : (i 2).val / 512 = t.val % 2) :
    i ∈ ((cfg0.win 2).blk t).view.set := by
  show i ∈ ((View.whole main_v0).slice (win0_2.rect t)).set
  rw [View.set_slice_whole, Rect.mem_set_unit]
  obtain ⟨e0, e1, e2⟩ := idx_2 t
  intro a
  match a with
  | ⟨0, _⟩ =>
    show win0_2.index t 0 * 1 ≤ (i 0 : Nat) ∧ (i 0 : Nat) < win0_2.index t 0 * 1 + 1
    rw [e0]; omega
  | ⟨1, _⟩ =>
    show win0_2.index t 1 * 1408 ≤ (i 1 : Nat) ∧ (i 1 : Nat) < win0_2.index t 1 * 1408 + 1408
    rw [e1]; omega
  | ⟨2, _⟩ =>
    show win0_2.index t 2 * 512 ≤ (i 2 : Nat) ∧ (i 2 : Nat) < win0_2.index t 2 * 512 + 512
    rw [e2]; omega

/-- The blocks written back cover the array. -/
theorem cover2 (i : S2x2816x1024.Idx) :
    ∃ t : Fin cfg0.N, (cfg0.win 2).flush t = true ∧ i ∈ ((cfg0.win 2).blk t).view.set := by
  have h0 : (i 0 : Nat) < 2 := (i 0).isLt
  have h1 : (i 1 : Nat) < 2816 := (i 1).isLt
  have h2 : (i 2 : Nat) < 1024 := (i 2).isLt
  have hN : cfg0.N = 8 := N_0
  refine ⟨⟨(i 0).val * 4 + (i 1).val / 1408 * 2 + (i 2).val / 512, by omega⟩, flush0_2 _, mem_blk2 _ _ (by first | rfl | (dsimp only; omega) | omega) (by first | rfl | (dsimp only; omega) | omega) (by first | rfl | (dsimp only; omega) | omega)⟩

/-- The final array is the product. -/
theorem final (c : Dev nD) : (dats m 0 c).arrAt 2 cfg0.N = result m c :=
  (dats m 0 c).arrAt_eq_of_cover 2 (result m c) (fun t _ => flushed_eq m c t) cover2

/-- The run: the result array is the product and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

/-- The reference's value is the same product. -/
theorem ref_eq (x : Vec Ideal S2x4096x2816 .bf16) (y : Vec Ideal S4096x1024 .bf16) :
    Cert.Reference3Ideal.Read.val_main_v19 (F := Ideal) x y = prod x y := by
  funext i
  rw [← Cert.Reference3Ideal.Read.val_main_v19_eq]
  pointwise [prod]
  have h0 : (i 0).val < 2 := (i 0).isLt
  split
  · next h =>
    have e : (0 : Fin 2) = i 0 := Fin.ext (show 0 = (i 0).val by omega)
    exact Finset.sum_congr rfl fun k _ => congrArg (fun g => x (ix3 g k (i 1)) * y (ix2 k (i 2))) e
  · next h =>
    have e : (1 : Fin 2) = i 0 := Fin.ext (show 1 = (i 0).val by omega)
    exact Finset.sum_congr rfl fun k _ => congrArg (fun g => x (ix3 g k (i 1)) * y (ix2 k (i 2))) e

end Cert.Kernel3Ideal.GradWGateUp

end
-- ==== Proof.GradWDown.lean ====
/- The gradient of the down projection: columns of the saved activation times columns of the cotangent,
   summed over the tokens. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Kernel4Ideal.GradWDown

open Cert.Kernel4Ideal Cert.Kernel4Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Columns of the activation times columns of the cotangent, summed over the tokens. -/
def prod (x : Vec Ideal S4096x2816 .bf16) (y : Vec Ideal S4096x1024 .bf16) : Vec Ideal S2816x1024 .bf16 :=
  fun i => ∑ k : Fin 4096, x (ix2 k (i 0)) * y (ix2 k (i 1))

/-- The tile's product, at an element. -/
theorem tile_apply (v0 : Vec Ideal S4096x1408 .bf16) (v1 : Vec Ideal S4096x512 .bf16) (j : S1408x512.Idx) :
    k0_pay1 v0 v1 j = ∑ k : Fin 4096, v0 (ix2 k (j 0)) * v1 (ix2 k (j 1)) := by
  pointwise [k0_pay1]

theorem idx_0 : ∀ t : Fin grid0.N, win0_0.index t 0 = 0 ∧ win0_0.index t 1 = t.val / 2 := by
  decide +kernel

theorem idx_1 : ∀ t : Fin grid0.N, win0_1.index t 0 = 0 ∧ win0_1.index t 1 = t.val % 2 := by
  decide +kernel

theorem idx_2 : ∀ t : Fin grid0.N, win0_2.index t 0 = t.val / 2 ∧ win0_2.index t 1 = t.val % 2 := by
  decide +kernel

/-- The left block at point `t` is the left array at the block’s place. -/
theorem lhs_apply (c : Dev nD) (t : Fin cfg0.N) (j : S4096x1408.Idx) (i : S4096x2816.Idx)
    (h0 : (i 0).val = 0 * 4096 + (j 0).val) (h1 : (i 1).val = t.val / 2 * 1408 + (j 1).val) :
    (iblk m c 0 t : Vec Ideal S4096x1408 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1⟩ := idx_0 t
  match a with
  | ⟨0, _⟩ => show win0_0.index t 0 * 4096 + 1 * (j 0).val = (i 0).val; rw [e0, h0]; omega
  | ⟨1, _⟩ => show win0_0.index t 1 * 1408 + 1 * (j 1).val = (i 1).val; rw [e1, h1]; omega

/-- The right block at point `t` is the right array at the block’s place. -/
theorem rhs_apply (c : Dev nD) (t : Fin cfg0.N) (j : S4096x512.Idx) (i : S4096x1024.Idx)
    (h0 : (i 0).val = 0 * 4096 + (j 0).val) (h1 : (i 1).val = t.val % 2 * 512 + (j 1).val) :
    (iblk m c 1 t : Vec Ideal S4096x512 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1⟩ := idx_1 t
  match a with
  | ⟨0, _⟩ => show win0_1.index t 0 * 4096 + 1 * (j 0).val = (i 0).val; rw [e0, h0]; omega
  | ⟨1, _⟩ => show win0_1.index t 1 * 512 + 1 * (j 1).val = (i 1).val; rw [e1, h1]; omega

abbrev result (c : Dev nD) : Buf (Elt Ideal) ((c : Thread nD τ).loc main_v0) :=
  prod (m ((c : Thread nD τ).loc main_arg0)) (m ((c : Thread nD τ).loc main_arg1))

/-- What point `t` writes back is its block of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz2]
  funext j
  show k0_pay1 (iblk m c 0 t) (iblk m c 1 t) j = result m c (((cfg0.win 2).blk t).view.emb j)
  rw [tile_apply]
  refine Finset.sum_congr rfl fun k _ => ?_
  obtain ⟨e0, e1⟩ := idx_2 t
  have h0 : ((((cfg0.win 2).blk t).view.emb j) 0).val = win0_2.index t 0 * 1408 + 1 * (j 0).val := rfl
  rw [e0] at h0
  have l0 : (j 0).val < 1408 := (j 0).isLt
  have h1 : ((((cfg0.win 2).blk t).view.emb j) 1).val = win0_2.index t 1 * 512 + 1 * (j 1).val := rfl
  rw [e1] at h1
  have l1 : (j 1).val < 512 := (j 1).isLt
  have hN : cfg0.N = 4 := N_0
  have ht : t.val < 4 := lt_of_lt_of_eq t.isLt hN
  exact congrArg₂ (· * ·)
    (lhs_apply m c t (ix2 k (j 0)) (ix2 k ((((cfg0.win 2).blk t).view.emb j) 0)) (by show k.val = 0 * 4096 + k.val; omega) (h0.trans (by show _ = t.val / 2 * 1408 + (j 0).val; omega)))
    (rhs_apply m c t (ix2 k (j 1)) (ix2 k ((((cfg0.win 2).blk t).view.emb j) 1)) (by show k.val = 0 * 4096 + k.val; omega) (h1.trans (by show _ = t.val % 2 * 512 + (j 1).val; omega)))

theorem mem_blk2 (t : Fin cfg0.N) (i : S2816x1024.Idx) (h0 : (i 0).val / 1408 = t.val / 2) (h1 : (i 1).val / 512 = t.val % 2) :
    i ∈ ((cfg0.win 2).blk t).view.set := by
  show i ∈ ((View.whole main_v0).slice (win0_2.rect t)).set
  rw [View.set_slice_whole, Rect.mem_set_unit]
  obtain ⟨e0, e1⟩ := idx_2 t
  intro a
  match a with
  | ⟨0, _⟩ =>
    show win0_2.index t 0 * 1408 ≤ (i 0 : Nat) ∧ (i 0 : Nat) < win0_2.index t 0 * 1408 + 1408
    rw [e0]; omega
  | ⟨1, _⟩ =>
    show win0_2.index t 1 * 512 ≤ (i 1 : Nat) ∧ (i 1 : Nat) < win0_2.index t 1 * 512 + 512
    rw [e1]; omega

/-- The blocks written back cover the array. -/
theorem cover2 (i : S2816x1024.Idx) :
    ∃ t : Fin cfg0.N, (cfg0.win 2).flush t = true ∧ i ∈ ((cfg0.win 2).blk t).view.set := by
  have h0 : (i 0 : Nat) < 2816 := (i 0).isLt
  have h1 : (i 1 : Nat) < 1024 := (i 1).isLt
  have hN : cfg0.N = 4 := N_0
  refine ⟨⟨(i 0).val / 1408 * 2 + (i 1).val / 512, by omega⟩, flush0_2 _, mem_blk2 _ _ (by first | rfl | (dsimp only; omega) | omega) (by first | rfl | (dsimp only; omega) | omega)⟩

/-- The final array is the product. -/
theorem final (c : Dev nD) : (dats m 0 c).arrAt 2 cfg0.N = result m c :=
  (dats m 0 c).arrAt_eq_of_cover 2 (result m c) (fun t _ => flushed_eq m c t) cover2

/-- The run: the result array is the product and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

/-- The reference's value is the same product, its two factors in the other order. -/
theorem ref_eq (x : Vec Ideal S4096x2816 .bf16) (y : Vec Ideal S4096x1024 .bf16) :
    Cert.Reference4Ideal.Read.val_main_v6 (F := Ideal) x y = prod x y := by
  funext i
  rw [Cert.Reference4Ideal.Read.val_main_v6_apply]
  refine (Cert.Reference4Ideal.Read.val_main_v5_apply x y i).trans ?_
  refine (Cert.Reference4Ideal.Read.val_main_v4_apply x y _).trans (Finset.sum_congr rfl fun k _ => ?_)
  refine (mul_comm _ _).trans (congrArg₂ (· * ·) (congrArg x ?_) (congrArg y ?_)) <;>
    exact funext fun a => Fin.ext (match a with | ⟨0, _⟩ => rfl | ⟨1, _⟩ => rfl)

end Cert.Kernel4Ideal.GradWDown

end
-- ==== Proof.GradWOut.lean ====
/- The gradient of the output projection: for each half of the concatenated mixers, its columns times columns of the
   cotangent, summed over the tokens. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise

@[expose] public section

set_option maxRecDepth 16384

noncomputable section

namespace Cert.Kernel5Ideal.GradWOut

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Columns of each half times columns of the cotangent, summed over the tokens. -/
def prod (x : Vec Ideal S2x4096x512 .bf16) (y : Vec Ideal S4096x1024 .bf16) : Vec Ideal S2x512x1024 .bf16 :=
  fun i => ∑ k : Fin 4096, x (ix3 (i 0) k (i 1)) * y (ix2 k (i 2))

/-- The tile's product, at an element. -/
theorem tile_apply (v0 : Vec Ideal S1x4096x512 .bf16) (v1 : Vec Ideal S4096x1024 .bf16) (j : S1x512x1024.Idx) :
    k0_pay1 v0 v1 j = ∑ k : Fin 4096, v0 (ix3 0 k (j 1)) * v1 (ix2 k (j 2)) := by
  pointwise [k0_pay1]

theorem idx_0 : ∀ t : Fin grid0.N, win0_0.index t 0 = t.val ∧ win0_0.index t 1 = 0 ∧ win0_0.index t 2 = 0 := by
  decide +kernel

theorem idx_1 : ∀ t : Fin grid0.N, win0_1.index t 0 = 0 ∧ win0_1.index t 1 = 0 := by
  decide +kernel

theorem idx_2 : ∀ t : Fin grid0.N, win0_2.index t 0 = t.val ∧ win0_2.index t 1 = 0 ∧ win0_2.index t 2 = 0 := by
  decide +kernel

/-- The left block at point `t` is the left array at the block’s place. -/
theorem lhs_apply (c : Dev nD) (t : Fin cfg0.N) (j : S1x4096x512.Idx) (i : S2x4096x512.Idx)
    (h0 : (i 0).val = t.val * 1 + (j 0).val) (h1 : (i 1).val = 0 * 4096 + (j 1).val) (h2 : (i 2).val = 0 * 512 + (j 2).val) :
    (iblk m c 0 t : Vec Ideal S1x4096x512 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1, e2⟩ := idx_0 t
  match a with
  | ⟨0, _⟩ => show win0_0.index t 0 * 1 + 1 * (j 0).val = (i 0).val; rw [e0, h0]; omega
  | ⟨1, _⟩ => show win0_0.index t 1 * 4096 + 1 * (j 1).val = (i 1).val; rw [e1, h1]; omega
  | ⟨2, _⟩ => show win0_0.index t 2 * 512 + 1 * (j 2).val = (i 2).val; rw [e2, h2]; omega

/-- The right block at point `t` is the right array at the block’s place. -/
theorem rhs_apply (c : Dev nD) (t : Fin cfg0.N) (j : S4096x1024.Idx) (i : S4096x1024.Idx)
    (h0 : (i 0).val = 0 * 4096 + (j 0).val) (h1 : (i 1).val = 0 * 1024 + (j 1).val) :
    (iblk m c 1 t : Vec Ideal S4096x1024 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1⟩ := idx_1 t
  match a with
  | ⟨0, _⟩ => show win0_1.index t 0 * 4096 + 1 * (j 0).val = (i 0).val; rw [e0, h0]; omega
  | ⟨1, _⟩ => show win0_1.index t 1 * 1024 + 1 * (j 1).val = (i 1).val; rw [e1, h1]; omega

abbrev result (c : Dev nD) : Buf (Elt Ideal) ((c : Thread nD τ).loc main_v0) :=
  prod (m ((c : Thread nD τ).loc main_arg0)) (m ((c : Thread nD τ).loc main_arg1))

/-- What point `t` writes back is its block of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz3, View.ld_unit_zero hz3, View.ld_unit_zero hz2]
  funext j
  show k0_pay1 (iblk m c 0 t) (iblk m c 1 t) j = result m c (((cfg0.win 2).blk t).view.emb j)
  rw [tile_apply]
  refine Finset.sum_congr rfl fun k _ => ?_
  obtain ⟨e0, e1, e2⟩ := idx_2 t
  have h0 : ((((cfg0.win 2).blk t).view.emb j) 0).val = win0_2.index t 0 * 1 + 1 * (j 0).val := rfl
  rw [e0] at h0
  have l0 : (j 0).val < 1 := (j 0).isLt
  have h1 : ((((cfg0.win 2).blk t).view.emb j) 1).val = win0_2.index t 1 * 512 + 1 * (j 1).val := rfl
  rw [e1] at h1
  have l1 : (j 1).val < 512 := (j 1).isLt
  have h2 : ((((cfg0.win 2).blk t).view.emb j) 2).val = win0_2.index t 2 * 1024 + 1 * (j 2).val := rfl
  rw [e2] at h2
  have l2 : (j 2).val < 1024 := (j 2).isLt
  have hN : cfg0.N = 2 := N_0
  have ht : t.val < 2 := lt_of_lt_of_eq t.isLt hN
  exact congrArg₂ (· * ·)
    (lhs_apply m c t (ix3 0 k (j 1)) (ix3 ((((cfg0.win 2).blk t).view.emb j) 0) k ((((cfg0.win 2).blk t).view.emb j) 1)) (h0.trans (by show _ = t.val * 1 + 0; omega)) (by show k.val = 0 * 4096 + k.val; omega) (h1.trans (by show _ = 0 * 512 + (j 1).val; omega)))
    (rhs_apply m c t (ix2 k (j 2)) (ix2 k ((((cfg0.win 2).blk t).view.emb j) 2)) (by show k.val = 0 * 4096 + k.val; omega) (h2.trans (by show _ = 0 * 1024 + (j 2).val; omega)))

theorem mem_blk2 (t : Fin cfg0.N) (i : S2x512x1024.Idx) (h0 : (i 0).val / 1 = t.val) (h1 : (i 1).val / 512 = 0) (h2 : (i 2).val / 1024 = 0) :
    i ∈ ((cfg0.win 2).blk t).view.set := by
  show i ∈ ((View.whole main_v0).slice (win0_2.rect t)).set
  rw [View.set_slice_whole, Rect.mem_set_unit]
  obtain ⟨e0, e1, e2⟩ := idx_2 t
  intro a
  match a with
  | ⟨0, _⟩ =>
    show win0_2.index t 0 * 1 ≤ (i 0 : Nat) ∧ (i 0 : Nat) < win0_2.index t 0 * 1 + 1
    rw [e0]; omega
  | ⟨1, _⟩ =>
    show win0_2.index t 1 * 512 ≤ (i 1 : Nat) ∧ (i 1 : Nat) < win0_2.index t 1 * 512 + 512
    rw [e1]; omega
  | ⟨2, _⟩ =>
    show win0_2.index t 2 * 1024 ≤ (i 2 : Nat) ∧ (i 2 : Nat) < win0_2.index t 2 * 1024 + 1024
    rw [e2]; omega

/-- The blocks written back cover the array. -/
theorem cover2 (i : S2x512x1024.Idx) :
    ∃ t : Fin cfg0.N, (cfg0.win 2).flush t = true ∧ i ∈ ((cfg0.win 2).blk t).view.set := by
  have h0 : (i 0 : Nat) < 2 := (i 0).isLt
  have h1 : (i 1 : Nat) < 512 := (i 1).isLt
  have h2 : (i 2 : Nat) < 1024 := (i 2).isLt
  have hN : cfg0.N = 2 := N_0
  refine ⟨⟨(i 0).val, by omega⟩, flush0_2 _, mem_blk2 _ _ (by first | rfl | (dsimp only; omega) | omega) (by first | rfl | (dsimp only; omega) | omega) (by first | rfl | (dsimp only; omega) | omega)⟩

/-- The final array is the product. -/
theorem final (c : Dev nD) : (dats m 0 c).arrAt 2 cfg0.N = result m c :=
  (dats m 0 c).arrAt_eq_of_cover 2 (result m c) (fun t _ => flushed_eq m c t) cover2

/-- The run: the result array is the product and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

/-- The reference's value is the same product, its two factors in the other order. -/
theorem ref_eq (x : Vec Ideal S2x4096x512 .bf16) (y : Vec Ideal S4096x1024 .bf16) :
    Cert.Reference5Ideal.Read.val_main_v13 (F := Ideal) x y = prod x y := by
  funext i
  rw [← Cert.Reference5Ideal.Read.val_main_v13_eq]
  pointwise [prod]
  have h0 : (i 0).val < 2 := (i 0).isLt
  have h1 : (i 1).val < 512 := (i 1).isLt
  refine Finset.sum_congr rfl fun k _ => (mul_comm _ _).trans (congrArg (· * y (ix2 k (i 2))) ?_)
  split
  · next h =>
    have e : (0 : Fin 2) = i 0 := Fin.ext (show 0 = (i 0).val by omega)
    exact congrArg₂ (fun g j => x (ix3 g k j)) e (Fin.ext (show (i 0).val * 512 + (i 1).val = (i 1).val by omega))
  · next h =>
    have e : (1 : Fin 2) = i 0 := Fin.ext (show 1 = (i 0).val by omega)
    exact congrArg₂ (fun g j => x (ix3 g k j)) e (Fin.ext (show (i 0).val * 512 + (i 1).val - 512 = (i 1).val by omega))

end Cert.Kernel5Ideal.GradWOut

end
-- ==== Proof.OutProjBwd.lean ====
/- The gradient of the concatenated mixers through the output projection: a block of rows of the cotangent
   times the rows of the weight. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise

@[expose] public section

set_option maxRecDepth 16384

noncomputable section

namespace Cert.Kernel6Ideal.OutProjBwd

open Cert.Kernel6Ideal Cert.Kernel6Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Rows of the cotangent times the rows of the weight. -/
def prod (x : Vec Ideal S4096x1024 .bf16) (y : Vec Ideal S1024x1024 .bf16) : Vec Ideal S4096x1024 .bf16 :=
  fun i => ∑ k : Fin 1024, x (ix2 (i 0) k) * y (ix2 (i 1) k)

/-- The tile's product, at an element. -/
theorem tile_apply (v0 : Vec Ideal S512x1024 .bf16) (v1 : Vec Ideal S1024x1024 .bf16) (j : S512x1024.Idx) :
    k0_pay1 v0 v1 j = ∑ k : Fin 1024, v0 (ix2 (j 0) k) * v1 (ix2 (j 1) k) := by
  pointwise [k0_pay1]

theorem idx_0 : ∀ t : Fin grid0.N, win0_0.index t 0 = t.val ∧ win0_0.index t 1 = 0 := by
  decide +kernel

theorem idx_1 : ∀ t : Fin grid0.N, win0_1.index t 0 = 0 ∧ win0_1.index t 1 = 0 := by
  decide +kernel

theorem idx_2 : ∀ t : Fin grid0.N, win0_2.index t 0 = t.val ∧ win0_2.index t 1 = 0 := by
  decide +kernel

/-- The left block at point `t` is the left array at the block’s place. -/
theorem lhs_apply (c : Dev nD) (t : Fin cfg0.N) (j : S512x1024.Idx) (i : S4096x1024.Idx)
    (h0 : (i 0).val = t.val * 512 + (j 0).val) (h1 : (i 1).val = 0 * 1024 + (j 1).val) :
    (iblk m c 0 t : Vec Ideal S512x1024 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1⟩ := idx_0 t
  match a with
  | ⟨0, _⟩ => show win0_0.index t 0 * 512 + 1 * (j 0).val = (i 0).val; rw [e0, h0]; omega
  | ⟨1, _⟩ => show win0_0.index t 1 * 1024 + 1 * (j 1).val = (i 1).val; rw [e1, h1]; omega

/-- The right block at point `t` is the right array at the block’s place. -/
theorem rhs_apply (c : Dev nD) (t : Fin cfg0.N) (j : S1024x1024.Idx) (i : S1024x1024.Idx)
    (h0 : (i 0).val = 0 * 1024 + (j 0).val) (h1 : (i 1).val = 0 * 1024 + (j 1).val) :
    (iblk m c 1 t : Vec Ideal S1024x1024 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1⟩ := idx_1 t
  match a with
  | ⟨0, _⟩ => show win0_1.index t 0 * 1024 + 1 * (j 0).val = (i 0).val; rw [e0, h0]; omega
  | ⟨1, _⟩ => show win0_1.index t 1 * 1024 + 1 * (j 1).val = (i 1).val; rw [e1, h1]; omega

abbrev result (c : Dev nD) : Buf (Elt Ideal) ((c : Thread nD τ).loc main_v0) :=
  prod (m ((c : Thread nD τ).loc main_arg0)) (m ((c : Thread nD τ).loc main_arg1))

/-- What point `t` writes back is its block of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz2, View.ld_unit_zero hz2, View.ld_unit_zero hz2]
  funext j
  show k0_pay1 (iblk m c 0 t) (iblk m c 1 t) j = result m c (((cfg0.win 2).blk t).view.emb j)
  rw [tile_apply]
  refine Finset.sum_congr rfl fun k _ => ?_
  obtain ⟨e0, e1⟩ := idx_2 t
  have h0 : ((((cfg0.win 2).blk t).view.emb j) 0).val = win0_2.index t 0 * 512 + 1 * (j 0).val := rfl
  rw [e0] at h0
  have l0 : (j 0).val < 512 := (j 0).isLt
  have h1 : ((((cfg0.win 2).blk t).view.emb j) 1).val = win0_2.index t 1 * 1024 + 1 * (j 1).val := rfl
  rw [e1] at h1
  have l1 : (j 1).val < 1024 := (j 1).isLt
  have hN : cfg0.N = 8 := N_0
  have ht : t.val < 8 := lt_of_lt_of_eq t.isLt hN
  exact congrArg₂ (· * ·)
    (lhs_apply m c t (ix2 (j 0) k) (ix2 ((((cfg0.win 2).blk t).view.emb j) 0) k) (h0.trans (by show _ = t.val * 512 + (j 0).val; omega)) (by show k.val = 0 * 1024 + k.val; omega))
    (rhs_apply m c t (ix2 (j 1) k) (ix2 ((((cfg0.win 2).blk t).view.emb j) 1) k) (h1.trans (by show _ = 0 * 1024 + (j 1).val; omega)) (by show k.val = 0 * 1024 + k.val; omega))

theorem mem_blk2 (t : Fin cfg0.N) (i : S4096x1024.Idx) (h0 : (i 0).val / 512 = t.val) (h1 : (i 1).val / 1024 = 0) :
    i ∈ ((cfg0.win 2).blk t).view.set := by
  show i ∈ ((View.whole main_v0).slice (win0_2.rect t)).set
  rw [View.set_slice_whole, Rect.mem_set_unit]
  obtain ⟨e0, e1⟩ := idx_2 t
  intro a
  match a with
  | ⟨0, _⟩ =>
    show win0_2.index t 0 * 512 ≤ (i 0 : Nat) ∧ (i 0 : Nat) < win0_2.index t 0 * 512 + 512
    rw [e0]; omega
  | ⟨1, _⟩ =>
    show win0_2.index t 1 * 1024 ≤ (i 1 : Nat) ∧ (i 1 : Nat) < win0_2.index t 1 * 1024 + 1024
    rw [e1]; omega

/-- The blocks written back cover the array. -/
theorem cover2 (i : S4096x1024.Idx) :
    ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 8 := N_0
  refine ⟨⟨(i 0).val / 512, by omega⟩, flush0_2 _, mem_blk2 _ _ (by first | rfl | (dsimp only; omega) | omega) (by first | rfl | (dsimp only; omega) | omega)⟩

/-- The final array is the product. -/
theorem final (c : Dev nD) : (dats m 0 c).arrAt 2 cfg0.N = result m c :=
  (dats m 0 c).arrAt_eq_of_cover 2 (result m c) (fun t _ => flushed_eq m c t) cover2

/-- The run: the result array is the product and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

/-- The reference's value is the same product. -/
theorem ref_eq (x : Vec Ideal S4096x1024 .bf16) (y : Vec Ideal S1024x1024 .bf16) :
    Cert.Reference6Ideal.Read.val_main_v5 (F := Ideal) x y = prod x y := by
  funext i
  rw [Cert.Reference6Ideal.Read.val_main_v5_apply]
  refine (Cert.Reference6Ideal.Read.val_main_v4_apply x y i).trans (Finset.sum_congr rfl fun k _ => ?_)
  refine congrArg₂ (· * ·) (congrArg x ?_) (congrArg y ?_) <;>
    exact funext fun a => Fin.ext (match a with | ⟨0, _⟩ => rfl | ⟨1, _⟩ => rfl)

end Cert.Kernel6Ideal.OutProjBwd

end
-- ==== Proof.FfnUp.lean ====
/- The feed-forward block’s up projection: the gate product and the up product of a block of rows, and the gated
   activation of the two. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit.Tiles

@[expose] public section

set_option maxRecDepth 16384

noncomputable section

namespace Cert.Kernel7Ideal.FfnUp

open Cert.Kernel7Ideal Cert.Kernel7Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The gate product (slab 0) and the up product (slab 1). -/
def gateUp (x : Vec Ideal S4096x1024 .bf16) (y : Vec Ideal S2x2816x1024 .bf16) : Vec Ideal S2x4096x2816 .bf16 :=
  fun i => ∑ k : Fin 1024, x (ix2 (i 1) k) * y (ix3 (i 0) (i 2) k)

/-- The activation: the gate times its logistic times the up product. -/
def act (x : Vec Ideal S4096x1024 .bf16) (y : Vec Ideal S2x2816x1024 .bf16) : Vec Ideal S4096x2816 .bf16 :=
  fun i => (∑ k : Fin 1024, x (ix2 (i 0) k) * y (ix3 (0 : Fin 2) (i 1) k))
    * Ideal.logistic (∑ k : Fin 1024, x (ix2 (i 0) k) * y (ix3 (0 : Fin 2) (i 1) k))
    * ∑ k : Fin 1024, x (ix2 (i 0) k) * y (ix3 (1 : Fin 2) (i 1) k)

theorem ld_rows (x0 : Vec Ideal S512x1024 .bf16) : View.ld x0 r0_0 = x0 := View.ld_unit_zero hz2 _ _

theorem ld_gate (x1 : Vec Ideal S2x1408x1024 .bf16) (c : Fin 1408) (k : Fin 1024) :
    View.ld x1 r0_1 (ix3 (0 : Fin 1) c k) = x1 (ix3 (0 : Fin 2) c k) :=
  View.ld_unit_apply_of x1 _ _ _ _ _ fun a => match a with
    | ⟨0, _⟩ => rfl | ⟨1, _⟩ => (Nat.zero_add _).symm | ⟨2, _⟩ => (Nat.zero_add _).symm

theorem ld_up (x1 : Vec Ideal S2x1408x1024 .bf16) (c : Fin 1408) (k : Fin 1024) :
    View.ld x1 r0_2 (ix3 (0 : Fin 1) c k) = x1 (ix3 (1 : Fin 2) c k) :=
  View.ld_unit_apply_of x1 _ _ _ _ _ fun a => match a with
    | ⟨0, _⟩ => rfl | ⟨1, _⟩ => (Nat.zero_add _).symm | ⟨2, _⟩ => (Nat.zero_add _).symm

/-- The stored pair of products, at an element. -/
theorem pair_apply (x0 : Vec Ideal S512x1024 .bf16) (x1 : Vec Ideal S2x1408x1024 .bf16) (y : S2x512x1408.Idx) :
    out0_2 x0 x1 y = ∑ k : Fin 1024, x0 (ix2 (y 1) k) * x1 (ix3 (y 0) (y 2) k) := by
  unfold out0_2
  refine View.canon_eq_of_allAt _ y _ (cover0_2 _ _ y) fun p hp x hx => ?_
  rcases List.mem_cons.mp hp with rfl | hp
  · subst hx
    refine (show k0_pay4 (View.ld x0 r0_0) (View.ld x1 r0_2) x
        = ∑ k : Fin 1024, x0 (ix2 (x 1) k) * x1 (ix3 (1 : Fin 2) (x 2) k) from ?_).trans
      (Finset.sum_congr rfl fun k _ => congrArg₂ (· * ·) (congrArg x0 ?_) (congrArg x1 ?_))
    · pointwise [k0_pay4, k0_pay2]
    · refine funext fun a => Fin.ext (match a with | ⟨0, _⟩ => ?_ | ⟨1, _⟩ => rfl)
      show (x 1).val = 0 + 1 * (x 1).val; omega
    · have h : (x 0).val < 1 := (x 0).isLt
      refine funext fun a => Fin.ext (match a with | ⟨0, _⟩ => ?_ | ⟨1, _⟩ => ?_ | ⟨2, _⟩ => rfl)
      · show 1 = 1 + 1 * (x 0).val; omega
      · show (x 2).val = 0 + 1 * (x 2).val; omega
  · obtain rfl := List.mem_singleton.mp hp
    subst hx
    refine (show k0_pay3 (View.ld x0 r0_0) (View.ld x1 r0_1) x
        = ∑ k : Fin 1024, x0 (ix2 (x 1) k) * x1 (ix3 (0 : Fin 2) (x 2) k) from ?_).trans
      (Finset.sum_congr rfl fun k _ => congrArg₂ (· * ·) (congrArg x0 ?_) (congrArg x1 ?_))
    · pointwise [k0_pay3, k0_pay1]
    · refine funext fun a => Fin.ext (match a with | ⟨0, _⟩ => ?_ | ⟨1, _⟩ => rfl)
      show (x 1).val = 0 + 1 * (x 1).val; omega
    · have h : (x 0).val < 1 := (x 0).isLt
      refine funext fun a => Fin.ext (match a with | ⟨0, _⟩ => ?_ | ⟨1, _⟩ => ?_ | ⟨2, _⟩ => rfl)
      · show 0 = 0 + 1 * (x 0).val; omega
      · show (x 2).val = 0 + 1 * (x 2).val; omega

/-- The stored activation, at an element. -/
theorem act_apply (x0 : Vec Ideal S512x1024 .bf16) (x1 : Vec Ideal S2x1408x1024 .bf16) (y : S512x1408.Idx) :
    out0_3 x0 x1 y = (∑ k : Fin 1024, x0 (ix2 (y 0) k) * x1 (ix3 (0 : Fin 2) (y 1) k))
      * Ideal.logistic (∑ k : Fin 1024, x0 (ix2 (y 0) k) * x1 (ix3 (0 : Fin 2) (y 1) k))
      * ∑ k : Fin 1024, x0 (ix2 (y 0) k) * x1 (ix3 (1 : Fin 2) (y 1) k) := by
  unfold out0_3
  rw [View.canon_unit_zero hz2]
  pointwise [k0_pay5, k0_pay1, k0_pay2]

theorem idx_0 : ∀ t : Fin grid0.N, win0_0.index t 0 = t.val % 8 ∧ win0_0.index t 1 = 0 := by
  decide +kernel

theorem idx_1 : ∀ t : Fin grid0.N, win0_1.index t 0 = 0 ∧ win0_1.index t 1 = t.val / 8 ∧ win0_1.index t 2 = 0 := by
  decide +kernel

theorem idx_2 : ∀ t : Fin grid0.N, win0_2.index t 0 = 0 ∧ win0_2.index t 1 = t.val % 8 ∧ win0_2.index t 2 = t.val / 8 := by
  decide +kernel

theorem idx_3 : ∀ t : Fin grid0.N, win0_3.index t 0 = t.val % 8 ∧ win0_3.index t 1 = t.val / 8 := by
  decide +kernel

/-- The block of rows at point `t`, at an element. -/
theorem rows_apply (c : Dev nD) (t : Fin cfg0.N) (j : S512x1024.Idx) (i : S4096x1024.Idx)
    (h0 : (i 0).val = t.val % 8 * 512 + (j 0).val) (h1 : (i 1).val = 0 * 1024 + (j 1).val) :
    (iblk m c 0 t : Vec Ideal S512x1024 .bf16) j = m ((c : Thread nD τ).loc main_arg0) i := by
  unfold iblk
  rw [View.read_apply]
  show m ((c : Thread nD τ).loc main_arg0) _ = m ((c : Thread nD τ).loc main_arg0) i
  congr 1
  funext a
  apply Fin.ext
  obtain ⟨e0, e1⟩ := idx_0 t
  match a with
  | ⟨0, _⟩ => show win0_0.index t 0 * 512 + 1 * (j 0).val = (i 0).val; rw [e0, h0]; omega
  | ⟨1, _⟩ => show win0_0.index t 1 * 1024 + 1 * (j 1).val = (i 1).val; rw [e1, h1]; omega

/-- The block of the two weights at point `t`, at an element. -/
theorem weight_apply (c : Dev nD) (t : Fin cfg0.N) (j : S2x1408x1024.Idx) (i : S2x2816x1024.Idx)
    (h0 : (i 0).val = 0 * 2 + (j 0).val) (h1 : (i 1).val = t.val / 8 * 1408 + (j 1).val) (h2 : (i 2).val = 0 * 1024 + (j 2).val) :
    (iblk m c 1 t : Vec Ideal S2x1408x1024 .bf16) j = m ((c : Thread nD τ).loc main_arg1) i := by
  unfold iblk
  rw [View.read_apply]
  show m ((c : Thread nD τ).loc main_arg1) _ = m ((c : Thread nD τ).loc main_arg1) i
  congr 1
  funext a
  apply Fin.ext
  obtain ⟨e0, e1, e2⟩ := idx_1 t
  match a with
  | ⟨0, _⟩ => show win0_1.index t 0 * 2 + 1 * (j 0).val = (i 0).val; rw [e0, h0]; omega
  | ⟨1, _⟩ => show win0_1.index t 1 * 1408 + 1 * (j 1).val = (i 1).val; rw [e1, h1]; omega
  | ⟨2, _⟩ => show win0_1.index t 2 * 1024 + 1 * (j 2).val = (i 2).val; rw [e2, h2]; omega

abbrev argX (c : Dev nD) : Vec Ideal S4096x1024 .bf16 := m ((c : Thread nD τ).loc main_arg0)
abbrev argY (c : Dev nD) : Vec Ideal S2x2816x1024 .bf16 := m ((c : Thread nD τ).loc main_arg1)
abbrev blkX (c : Dev nD) (t : Fin cfg0.N) : Vec Ideal S512x1024 .bf16 := iblk m c 0 t
abbrev blkY (c : Dev nD) (t : Fin cfg0.N) : Vec Ideal S2x1408x1024 .bf16 := iblk m c 1 t

abbrev pair (c : Dev nD) : Buf (Elt Ideal) ((c : Thread nD τ).loc main_v0_0) :=
  gateUp (m ((c : Thread nD τ).loc main_arg0)) (m ((c : Thread nD τ).loc main_arg1))

abbrev activation (c : Dev nD) : Buf (Elt Ideal) ((c : Thread nD τ).loc main_v0_1) :=
  act (m ((c : Thread nD τ).loc main_arg0)) (m ((c : Thread nD τ).loc main_arg1))

/-- What point `t` writes back of the pair is its block of the pair. -/
theorem flushed_pair (c : Dev nD) (t : Fin cfg0.N) :
    (dats m 0 c).flushed 2 t = ((cfg0.win 2).blk t).view.read (Elt Ideal) (pair m c) := by
  rw [Value.flushed2]
  funext j
  show out0_2 (iblk m c 0 t) (iblk m c 1 t) j = pair m c (((cfg0.win 2).blk t).view.emb j)
  rw [pair_apply]
  refine Finset.sum_congr rfl fun k _ => ?_
  obtain ⟨e0, e1, e2⟩ := idx_2 t
  have h0 : ((((cfg0.win 2).blk t).view.emb j) 0).val = win0_2.index t 0 * 2 + 1 * (j 0).val := rfl
  rw [e0] at h0
  have l0 : (j 0).val < 2 := (j 0).isLt
  have h1 : ((((cfg0.win 2).blk t).view.emb j) 1).val = win0_2.index t 1 * 512 + 1 * (j 1).val := rfl
  rw [e1] at h1
  have l1 : (j 1).val < 512 := (j 1).isLt
  have h2 : ((((cfg0.win 2).blk t).view.emb j) 2).val = win0_2.index t 2 * 1408 + 1 * (j 2).val := rfl
  rw [e2] at h2
  have l2 : (j 2).val < 1408 := (j 2).isLt
  exact congrArg₂ (· * ·)
    (rows_apply m c t (ix2 (j 1) k) (ix2 ((((cfg0.win 2).blk t).view.emb j) 1) k) (h1.trans (by show _ = t.val % 8 * 512 + (j 1).val; omega)) (by show k.val = 0 * 1024 + k.val; omega))
    (weight_apply m c t (ix3 (j 0) (j 2) k) (ix3 ((((cfg0.win 2).blk t).view.emb j) 0) ((((cfg0.win 2).blk t).view.emb j) 2) k) (h0.trans (by show _ = 0 * 2 + (j 0).val; omega))
      (h2.trans (by show _ = t.val / 8 * 1408 + (j 2).val; omega)) (by show k.val = 0 * 1024 + k.val; omega))

/-- What point `t` writes back of the activation is its block of it. -/
theorem flushed_act (c : Dev nD) (t : Fin cfg0.N) :
    (dats m 0 c).flushed 3 t = ((cfg0.win 3).blk t).view.read (Elt Ideal) (activation m c) := by
  rw [Value.flushed3]
  funext j
  show out0_3 (iblk m c 0 t) (iblk m c 1 t) j = activation m c (((cfg0.win 3).blk t).view.emb j)
  rw [act_apply]
  obtain ⟨e0, e1⟩ := idx_3 t
  have h0 : ((((cfg0.win 3).blk t).view.emb j) 0).val = win0_3.index t 0 * 512 + 1 * (j 0).val := rfl
  rw [e0] at h0
  have l0 : (j 0).val < 512 := (j 0).isLt
  have h1 : ((((cfg0.win 3).blk t).view.emb j) 1).val = win0_3.index t 1 * 1408 + 1 * (j 1).val := rfl
  rw [e1] at h1
  have l1 : (j 1).val < 1408 := (j 1).isLt
  have key : ∀ s : Fin 2, (∑ k : Fin 1024, blkX m c t (ix2 (j 0) k) * blkY m c t (ix3 s (j 1) k))
      = ∑ k : Fin 1024, argX m c (ix2 ((((cfg0.win 3).blk t).view.emb j) 0) k) * argY m c (ix3 s ((((cfg0.win 3).blk t).view.emb j) 1) k) := fun s =>
    Finset.sum_congr rfl fun k _ => congrArg₂ (· * ·)
      (rows_apply m c t (ix2 (j 0) k) (ix2 ((((cfg0.win 3).blk t).view.emb j) 0) k) (h0.trans (by show _ = t.val % 8 * 512 + (j 0).val; omega))
        (by show k.val = 0 * 1024 + k.val; omega))
      (weight_apply m c t (ix3 s (j 1) k) (ix3 s ((((cfg0.win 3).blk t).view.emb j) 1) k) (by show s.val = 0 * 2 + s.val; omega)
        (h1.trans (by show _ = t.val / 8 * 1408 + (j 1).val; omega)) (by show k.val = 0 * 1024 + k.val; omega))
  exact congrArg₂ (fun g u : EReal => g * Ideal.logistic g * u) (key 0) (key 1)

theorem mem_blk2 (t : Fin cfg0.N) (i : S2x4096x2816.Idx) (h0 : (i 0).val / 2 = 0) (h1 : (i 1).val / 512 = t.val % 8) (h2 : (i 2).val / 1408 = t.val / 8) :
    i ∈ ((cfg0.win 2).blk t).view.set := by
  show i ∈ ((View.whole main_v0_0).slice (win0_2.rect t)).set
  rw [View.set_slice_whole, Rect.mem_set_unit]
  obtain ⟨e0, e1, e2⟩ := idx_2 t
  intro a
  match a with
  | ⟨0, _⟩ =>
    show win0_2.index t 0 * 2 ≤ (i 0 : Nat) ∧ (i 0 : Nat) < win0_2.index t 0 * 2 + 2
    rw [e0]; omega
  | ⟨1, _⟩ =>
    show win0_2.index t 1 * 512 ≤ (i 1 : Nat) ∧ (i 1 : Nat) < win0_2.index t 1 * 512 + 512
    rw [e1]; omega
  | ⟨2, _⟩ =>
    show win0_2.index t 2 * 1408 ≤ (i 2 : Nat) ∧ (i 2 : Nat) < win0_2.index t 2 * 1408 + 1408
    rw [e2]; omega

/-- The blocks written back cover the array. -/
theorem cover2 (i : S2x4096x2816.Idx) :
    ∃ t : Fin cfg0.N, (cfg0.win 2).flush t = true ∧ i ∈ ((cfg0.win 2).blk t).view.set := by
  have h0 : (i 0 : Nat) < 2 := (i 0).isLt
  have h1 : (i 1 : Nat) < 4096 := (i 1).isLt
  have h2 : (i 2 : Nat) < 2816 := (i 2).isLt
  have hN : cfg0.N = 16 := N_0
  refine ⟨⟨(i 2).val / 1408 * 8 + (i 1).val / 512, by omega⟩, flush0_2 _, mem_blk2 _ _ (by first | rfl | (dsimp only; omega) | omega) (by first | rfl | (dsimp only; omega) | omega) (by first | rfl | (dsimp only; omega) | omega)⟩

theorem mem_blk3 (t : Fin cfg0.N) (i : S4096x2816.Idx) (h0 : (i 0).val / 512 = t.val % 8) (h1 : (i 1).val / 1408 = t.val / 8) :
    i ∈ ((cfg0.win 3).blk t).view.set := by
  show i ∈ ((View.whole main_v0_1).slice (win0_3.rect t)).set
  rw [View.set_slice_whole, Rect.mem_set_unit]
  obtain ⟨e0, e1⟩ := idx_3 t
  intro a
  match a with
  | ⟨0, _⟩ =>
    show win0_3.index t 0 * 512 ≤ (i 0 : Nat) ∧ (i 0 : Nat) < win0_3.index t 0 * 512 + 512
    rw [e0]; omega
  | ⟨1, _⟩ =>
    show win0_3.index t 1 * 1408 ≤ (i 1 : Nat) ∧ (i 1 : Nat) < win0_3.index t 1 * 1408 + 1408
    rw [e1]; omega

/-- The blocks written back cover the array. -/
theorem cover3 (i : S4096x2816.Idx) :
    ∃ t : Fin cfg0.N, (cfg0.win 3).flush t = true ∧ i ∈ ((cfg0.win 3).blk t).view.set := by
  have h0 : (i 0 : Nat) < 4096 := (i 0).isLt
  have h1 : (i 1 : Nat) < 2816 := (i 1).isLt
  have hN : cfg0.N = 16 := N_0
  refine ⟨⟨(i 1).val / 1408 * 8 + (i 0).val / 512, by omega⟩, flush0_3 _, mem_blk3 _ _ (by first | rfl | (dsimp only; omega) | omega) (by first | rfl | (dsimp only; omega) | omega)⟩

/-- The final arrays are the pair of products and the activation. -/
theorem final_pair (c : Dev nD) : (dats m 0 c).arrAt 2 cfg0.N = pair m c :=
  (dats m 0 c).arrAt_eq_of_cover 2 (pair m c) (fun t _ => flushed_pair m c t) cover2

theorem final_act (c : Dev nD) : (dats m 0 c).arrAt 3 cfg0.N = activation m c :=
  (dats m 0 c).arrAt_eq_of_cover 3 (activation m c) (fun t _ => flushed_act m c t) cover3

/-- The run: the two results and the arguments unchanged. -/
theorem run : θ_run defs (onTc (τ := τ) (main (F := Ideal))) ⟨m, fun _ => 0, ρ⟩ fun r => ∀ c : Dev nD,
      r.2.mem ((c : Thread nD τ).loc main_v0_0) = pair m c
      ∧ r.2.mem ((c : Thread nD τ).loc main_v0_1) = activation m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_pair m c), (h c).2.1.trans (final_act m c), (h c).2.2⟩)
    (Value.run_blocks m ρ)

/-- The reference's pair of products is the same. -/
theorem ref_pair (x : Vec Ideal S4096x1024 .bf16) (y : Vec Ideal S2x2816x1024 .bf16) :
    Cert.Reference7Ideal.Read.val_main_v14 (F := Ideal) x y = gateUp x y := by
  funext i
  rw [← Cert.Reference7Ideal.Read.val_main_v14_eq]
  pointwise [gateUp]
  have h0 : (i 0).val < 2 := (i 0).isLt
  split
  · next h =>
    have e : (0 : Fin 2) = i 0 := Fin.ext (show 0 = (i 0).val by omega)
    exact Finset.sum_congr rfl fun k _ => congrArg (fun g => x (ix2 (i 1) k) * y (ix3 g (i 2) k)) e
  · next h =>
    have e : (1 : Fin 2) = i 0 := Fin.ext (show 1 = (i 0).val by omega)
    exact Finset.sum_congr rfl fun k _ => congrArg (fun g => x (ix2 (i 1) k) * y (ix3 g (i 2) k)) e

/-- The reference's activation is the same: the logistic is one over one plus the exponential. -/
theorem ref_act (x : Vec Ideal S4096x1024 .bf16) (y : Vec Ideal S2x2816x1024 .bf16) :
    Cert.Reference7Ideal.Read.val_main_v17 (F := Ideal) x y = act x y := by
  funext i
  rw [← Cert.Reference7Ideal.Read.val_main_v17_eq]
  pointwise [act]
  rfl

end Cert.Kernel7Ideal.FfnUp

end
-- ==== Proof.InProj.lean ====
/- The input projection's kernel: every output tile is the product of a block of token rows with the weight's
   rows, so the final array is the product, element by element. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise

@[expose] public section

set_option maxRecDepth 16384

noncomputable section

namespace Cert.Kernel8Ideal.InProj

open Cert.Kernel8Ideal Cert.Kernel8Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- Token rows times the weight's rows. -/
def prod (h : Vec Ideal S4096x1024 .bf16) (w : Vec Ideal S2048x1024 .bf16) : Vec Ideal S4096x2048 .bf16 :=
  fun i => ∑ k : Fin 1024, h (ix2 (i 0) k) * w (ix2 (i 1) k)

/-- The tile's product, at an element. -/
theorem tile_apply (v0 : Vec Ideal S512x1024 .bf16) (v1 : Vec Ideal S2048x1024 .bf16) (j : S512x2048.Idx) :
    k0_pay1 v0 v1 j = ∑ k : Fin 1024, v0 (ix2 (j 0) k) * v1 (ix2 (j 1) k) := by
  pointwise [k0_pay1]

theorem idx_facts : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0) := by decide +kernel

/-- The token block at point `t`, at an element. -/
theorem rows_apply (c : Dev nD) (t : Fin cfg0.N) (r : Fin 512) (k : Fin 1024) (i : S4096x1024.Idx)
    (h0 : (i 0).val = t.val * 512 + r.val) (h1 : (i 1).val = k.val) :
    (iblk m c 0 t : Vec Ideal S512x1024 .bf16) (ix2 r k) = m ((c : Thread nD τ).loc main_arg0) i := by
  unfold iblk
  rw [View.read_apply]
  show m ((c : Thread nD τ).loc main_arg0) _ = m ((c : Thread nD τ).loc main_arg0) i
  congr 1
  funext a
  apply Fin.ext
  obtain ⟨⟨e0, e1⟩, -⟩ := idx_facts t
  match a with
  | ⟨0, _⟩ => show win0_0.index t 0 * 512 + 1 * r.val = (i 0).val; rw [e0, h0]; omega
  | ⟨1, _⟩ => show win0_0.index t 1 * 1024 + 1 * k.val = (i 1).val; rw [e1, h1]; omega

/-- The weight block, the whole weight. -/
theorem weight_apply (c : Dev nD) (t : Fin cfg0.N) (r : Fin 2048) (k : Fin 1024) :
    (iblk m c 1 t : Vec Ideal S2048x1024 .bf16) (ix2 r k) = m ((c : Thread nD τ).loc main_arg1) (ix2 r k) := by
  unfold iblk
  rw [View.read_apply]
  show m ((c : Thread nD τ).loc main_arg1) _ = m ((c : Thread nD τ).loc main_arg1) _
  congr 1
  funext a
  apply Fin.ext
  obtain ⟨-, ⟨e0, e1⟩, -⟩ := idx_facts t
  match a with
  | ⟨0, _⟩ => show win0_1.index t 0 * 2048 + 1 * r.val = r.val; rw [e0]; omega
  | ⟨1, _⟩ => show win0_1.index t 1 * 1024 + 1 * k.val = k.val; rw [e1]; omega

abbrev result (c : Dev nD) : Buf (Elt Ideal) ((c : Thread nD τ).loc main_v0) :=
  prod (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (result m c) := by
  rw [Value.flushed2]
  unfold out0_2
  rw [View.canon_unit_zero hz, View.ld_unit_zero hz, View.ld_unit_zero hz]
  funext j
  show k0_pay1 (iblk m c 0 t) (iblk m c 1 t) j = result m c (((cfg0.win 2).blk t).view.emb j)
  rw [tile_apply]
  refine Finset.sum_congr rfl fun k _ => ?_
  obtain ⟨-, -, e0, e1⟩ := idx_facts t
  have h0 : ((((cfg0.win 2).blk t).view.emb j) 0).val = win0_2.index t 0 * 512 + 1 * (j 0).val := rfl
  have h1 : ((((cfg0.win 2).blk t).view.emb j) 1).val = win0_2.index t 1 * 2048 + 1 * (j 1).val := rfl
  rw [e0] at h0
  rw [e1] at h1
  have hj : (((cfg0.win 2).blk t).view.emb j) 1 = j 1 := Fin.ext (by rw [h1]; omega)
  rw [rows_apply m c t (j 0) k (ix2 ((((cfg0.win 2).blk t).view.emb j) 0) k) (h0.trans (by omega)) rfl,
    weight_apply m c t (j 1) k, ← hj]

theorem mem_blk (t : Fin cfg0.N) (i : S4096x2048.Idx) (h : (i 0).val / 512 = t.val) :
    i ∈ ((cfg0.win 2).blk t).view.set := by
  show i ∈ ((View.whole main_v0).slice (win0_2.rect t)).set
  rw [View.set_slice_whole, Rect.mem_set_unit]
  have h1 : (i 1 : Nat) < 2048 := (i 1).isLt
  obtain ⟨-, -, e0, e1⟩ := idx_facts t
  intro a
  match a with
  | ⟨0, _⟩ =>
    show win0_2.index t 0 * 512 ≤ (i 0 : Nat) ∧ (i 0 : Nat) < win0_2.index t 0 * 512 + 512
    rw [e0]; omega
  | ⟨1, _⟩ =>
    show win0_2.index t 1 * 2048 ≤ (i 1 : Nat) ∧ (i 1 : Nat) < win0_2.index t 1 * 2048 + 2048
    rw [e1]; omega

theorem cover (i : S4096x2048.Idx) :
    ∃ t : Fin cfg0.N, (cfg0.win 2).flush t = true ∧ i ∈ ((cfg0.win 2).blk t).view.set := by
  have h0 : (i 0 : Nat) < 4096 := (i 0).isLt
  have hN : cfg0.N = 8 := N_0
  exact ⟨⟨(i 0).val / 512, by omega⟩, flush0_2 _, mem_blk _ _ rfl⟩

/-- The final array is the product. -/
theorem final (c : Dev nD) : (dats m 0 c).arrAt 2 cfg0.N = result m c :=
  (dats m 0 c).arrAt_eq_of_cover 2 (result m c) (fun t _ => flushed_eq m c t) cover

/-- The run: the result array is the product and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

/-- The reference's value is the same product. -/
theorem ref_eq (h : Vec Ideal S4096x1024 .bf16) (w : Vec Ideal S2048x1024 .bf16) :
    Cert.Reference8Ideal.Read.val_main_v4 (F := Ideal) h w = prod h w := by
  funext i
  rw [Cert.Reference8Ideal.Read.val_main_v4_apply]
  refine (Cert.Reference8Ideal.Read.val_main_v3_apply h w i).trans (Finset.sum_congr rfl fun k _ => ?_)
  refine congr (congrArg _ (congrArg h ?_)) (congrArg w ?_) <;>
    exact funext fun a => Fin.ext (match a with | ⟨0, _⟩ => rfl | ⟨1, _⟩ => rfl)

end Cert.Kernel8Ideal.InProj

end
-- ==== Proof.Windows.lean ====
/- Sums over windows of a sequence: the doubling of shifted sums, which the pooling kernels use, is the sum over a
   window, and the count of a window's members. -/
module

public import proofs.«01_k».proof.Proof.Gen.KernelIdeal.Skeleton
public import Idealize.ShloMosaic.Lib.Pointwise

@[expose] public section

set_option maxRecDepth 16384

noncomputable section

namespace Cert.Windows

open Cert.KernelIdeal Cert.KernelIdeal.Gen Idealize.ShloMosaic
open scoped BigOperators

/-- The sum over the `n` tokens that end at the one asked for. -/
def trail (n : Nat) (x : Vec Ideal S2048x128 .f32) : Vec Ideal S2048x128 .f32 := fun i =>
  ∑ s : Fin 2048, if s.val ≤ (i 0).val ∧ (i 0).val < s.val + n then x (ix2 s (i 1)) else 0

/-- The sum over the `n` tokens that begin at the one asked for. -/
def lead (n : Nat) (x : Vec Ideal S2048x128 .f32) : Vec Ideal S2048x128 .f32 := fun i =>
  ∑ s : Fin 2048, if (i 0).val ≤ s.val ∧ s.val < (i 0).val + n then x (ix2 s (i 1)) else 0

theorem trail_one (x : Vec Ideal S2048x128 .f32) : trail 1 x = x := by
  funext i
  unfold trail
  refine (Finset.sum_eq_single (i 0 : Fin 2048) ?_ ?_).trans ?_
  · intro s _ hs
    exact if_neg fun h => hs (Fin.ext (by omega))
  · exact fun h => absurd (Finset.mem_univ _) h
  · refine (if_pos ⟨le_refl _, Nat.lt_succ_self _⟩).trans (congrArg x ?_)
    exact funext fun a => match a with | ⟨0, _⟩ => rfl | ⟨1, _⟩ => rfl

theorem lead_one (x : Vec Ideal S2048x128 .f32) : lead 1 x = x := by
  funext i
  unfold lead
  refine (Finset.sum_eq_single (i 0 : Fin 2048) ?_ ?_).trans ?_
  · intro s _ hs
    exact if_neg fun h => hs (Fin.ext (by omega))
  · exact fun h => absurd (Finset.mem_univ _) h
  · refine (if_pos ⟨le_refl _, Nat.lt_succ_self _⟩).trans (congrArg x ?_)
    exact funext fun a => match a with | ⟨0, _⟩ => rfl | ⟨1, _⟩ => rfl

/-- A window and the window before it make one of twice the width. -/
theorem trail_double (n : Nat) (x : Vec Ideal S2048x128 .f32) (i j : S2048x128.Idx) (hj : n ≤ (i 0).val → (j 0).val + n = (i 0).val)
    (h1 : j 1 = i 1) :
    trail n x i + (if n ≤ (i 0).val then trail n x j else 0) = trail (n + n) x i := by
  unfold trail
  split
  · next h =>
    have e := hj h
    rw [← Finset.sum_add_distrib, h1]
    refine Finset.sum_congr rfl fun s _ => ?_
    by_cases a : s.val ≤ (i 0).val ∧ (i 0).val < s.val + n
    · rw [if_pos a, if_neg (by omega), if_pos (by omega), add_zero]
    · by_cases b : s.val ≤ (j 0).val ∧ (j 0).val < s.val + n
      · rw [if_neg a, if_pos b, if_pos (by omega), zero_add]
      · rw [if_neg a, if_neg b, if_neg (by omega), add_zero]
  · next h =>
    rw [add_zero]
    refine Finset.sum_congr rfl fun s _ => ?_
    by_cases a : s.val ≤ (i 0).val ∧ (i 0).val < s.val + n
    · rw [if_pos a, if_pos (by omega)]
    · rw [if_neg a, if_neg (by omega)]

/-- A window and the window after it make one of twice the width. -/
theorem lead_double (n : Nat) (x : Vec Ideal S2048x128 .f32) (i j : S2048x128.Idx) (hj : (i 0).val + n < 2048 → (j 0).val = (i 0).val + n)
    (h1 : j 1 = i 1) :
    lead n x i + (if (i 0).val + n < 2048 then lead n x j else 0) = lead (n + n) x i := by
  unfold lead
  split
  · next h =>
    have e := hj h
    rw [← Finset.sum_add_distrib, h1]
    refine Finset.sum_congr rfl fun s _ => ?_
    by_cases a : (i 0).val ≤ s.val ∧ s.val < (i 0).val + n
    · rw [if_pos a, if_neg (by omega), if_pos (by omega), add_zero]
    · by_cases b : (j 0).val ≤ s.val ∧ s.val < (j 0).val + n
      · rw [if_neg a, if_pos b, if_pos (by omega), zero_add]
      · rw [if_neg a, if_neg b, if_neg (by omega), add_zero]
  · next h =>
    rw [add_zero]
    refine Finset.sum_congr rfl fun s _ => ?_
    have hs := s.isLt
    by_cases a : (i 0).val ≤ s.val ∧ s.val < (i 0).val + n
    · rw [if_pos a, if_pos (by omega)]
    · rw [if_neg a, if_neg (by omega)]

/-- The kernels' step down the sequence: each token adds what stands `n` tokens before it, if there is one. -/
def stepDown (n : BitVec 32) (x : FVec Ideal S2048x128 .f32) : FVec Ideal S2048x128 .f32 :=
  addf x (select
    (broadcastTo S2048x128 (shapeCast S2048x1 (cmpi .sge (iota .tc S2048x1 32 [0] iota_S2048x1_d0_w32) (broadcast S2048x1 n))
      shapeCasts_S2048x1_S2048x1) broadcasts_S2048x1_S2048x128)
    (dynamicRotate 0 n none x rotates_S2048x128_d0) (broadcast S2048x128 (Scalar.ofBits .f32 0x00000000#32)))

/-- The kernels' step up the sequence: each token before the `n`-th adds what the turn by `n` brings to it. -/
def stepUp (n : BitVec 32) (x : FVec Ideal S2048x128 .f32) : FVec Ideal S2048x128 .f32 :=
  addf x (select
    (broadcastTo S2048x128 (shapeCast S2048x1 (cmpi .slt (iota .tc S2048x1 32 [0] iota_S2048x1_d0_w32) (broadcast S2048x1 n))
      shapeCasts_S2048x1_S2048x1) broadcasts_S2048x1_S2048x128)
    (dynamicRotate 0 n none x rotates_S2048x128_d0) (broadcast S2048x128 (Scalar.ofBits .f32 0x00000000#32)))

theorem toInt_ofNat {t : Nat} (h : t < 2 ^ 31) : (BitVec.ofNat 32 t).toInt = t := by
  have e : (BitVec.ofNat 32 t).toNat = t := by
    rw [BitVec.toNat_ofNat]
    exact Nat.mod_eq_of_lt (by omega)
  rw [BitVec.toInt_eq_toNat_of_lt (by omega), e]

theorem select_sge {t n : Nat} (ht : t < 2 ^ 31) (hn : n < 2 ^ 31) (a b : EReal) :
    Scalar.select (IntOp.cmpi .sge (BitVec.ofNat 32 t) (BitVec.ofNat 32 n)) a b = if n ≤ t then a else b := by
  unfold Scalar.select
  refine if_congr ?_ rfl rfl
  show IntOp.cmpi .sge _ _ = 1#1 ↔ _
  rw [IntOp.cmpi_sge, toInt_ofNat ht, toInt_ofNat hn]
  exact Int.ofNat_le

theorem select_slt {t n : Nat} (ht : t < 2 ^ 31) (hn : n < 2 ^ 31) (a b : EReal) :
    Scalar.select (IntOp.cmpi .slt (BitVec.ofNat 32 t) (BitVec.ofNat 32 n)) a b = if t < n then a else b := by
  unfold Scalar.select
  refine if_congr ?_ rfl rfl
  show IntOp.cmpi .slt _ _ = 1#1 ↔ _
  rw [IntOp.cmpi_slt, toInt_ofNat ht, toInt_ofNat hn]
  exact Int.ofNat_lt

/-- The step down doubles the window. -/
theorem stepDown_trail (n : Nat) (hn : n < 2048) (x : Vec Ideal S2048x128 .f32) :
    stepDown (BitVec.ofNat 32 n) (trail n x) = trail (n + n) x := by
  funext i
  have hi : (i 0).val < 2048 := (i 0).isLt
  refine Eq.trans ?_ (trail_double n x i (ix2 ⟨((i 0).val + 2048 - n % 2048) % 2048, Nat.mod_lt _ (by decide)⟩ (i 1)) ?_ rfl)
  · pointwise [stepDown]
    refine congrArg (trail n x i + ·) ((select_sge (by omega) (by omega) _ _).trans ?_)
    have e : n % 2 ^ 32 = n := Nat.mod_eq_of_lt (by omega)
    simp only [BitVec.toNat_ofNat, e]
  · intro h
    show ((i 0).val + 2048 - n % 2048) % 2048 + n = (i 0).val
    omega

/-- The step up by a turn of `2048 - n` doubles the window. -/
theorem stepUp_lead (n k : Nat) (hn : n < 2048) (hk : k + n = 2048) (h0 : 0 < n) (x : Vec Ideal S2048x128 .f32) :
    stepUp (BitVec.ofNat 32 k) (lead n x) = lead (n + n) x := by
  funext i
  have hi : (i 0).val < 2048 := (i 0).isLt
  refine Eq.trans ?_ (lead_double n x i (ix2 ⟨((i 0).val + 2048 - k % 2048) % 2048, Nat.mod_lt _ (by decide)⟩ (i 1)) ?_ rfl)
  · pointwise [stepUp]
    refine congrArg (lead n x i + ·) ((select_slt (by omega) (by omega) _ _).trans ?_)
    have e : k % 2 ^ 32 = k := Nat.mod_eq_of_lt (by omega)
    simp only [BitVec.toNat_ofNat, e]
    exact if_congr (by omega) rfl rfl
  · intro h
    show ((i 0).val + 2048 - k % 2048) % 2048 = (i 0).val + n
    omega

/-- How many of the `n` tokens that end at token `t` there are. -/
def count (n t : Nat) : EReal := ((((min (t + 1) n : Nat) : Int) : ℝ) : EReal)

theorem min_toInt {t n : Nat} (ht : t < 2 ^ 30) (hn : n < 2 ^ 30) :
    (IntOp.minsi (IntOp.addi (BitVec.ofNat 32 t) 1#32) (BitVec.ofNat 32 n)).toInt = ((min (t + 1) n : Nat) : Int) := by
  have e : IntOp.addi (BitVec.ofNat 32 t) 1#32 = BitVec.ofNat 32 (t + 1) := (BitVec.ofNat_add t 1).symm
  rw [e]
  unfold IntOp.minsi
  by_cases h : (BitVec.ofNat 32 (t + 1)).slt (BitVec.ofNat 32 n)
  · rw [if_pos h, toInt_ofNat (by omega)]
    rw [BitVec.slt_iff_toInt_lt, toInt_ofNat (by omega), toInt_ofNat (by omega)] at h
    omega
  · rw [if_neg h, toInt_ofNat (by omega)]
    rw [BitVec.slt_iff_toInt_lt, toInt_ofNat (by omega), toInt_ofNat (by omega)] at h
    omega

theorem count_eq {t n : Nat} (ht : t < 2 ^ 30) (hn : n < 2 ^ 30) :
    FloatOps.sitofp (F := Ideal) .f32 (IntOp.minsi (IntOp.addi (BitVec.ofNat 32 t) 1#32) (BitVec.ofNat 32 n)) = count n t :=
  congrArg (fun z : Int => ((z : ℝ) : EReal)) (min_toInt ht hn)

/-- The width of a group's windows: two, four, eight, sixteen. -/
def width (g : Nat) : Nat := 2 ^ (g + 1)

theorem width_eq (g : Fin 4) : IntOp.shli ArithUnit.host (2#32) (BitVec.ofNat 32 g.val) = BitVec.ofNat 32 (width g.val) := by
  revert g; decide

theorem width_lt (g : Fin 4) : width g.val < 17 := by revert g; decide

/-- The zero-or-one number that says whether token `s` is one of the group's window that ends at token `t`. -/
theorem band_eq (g : Fin 4) (t s : Fin 2048) :
    FloatOps.uitofp (F := Ideal) .f32
      (IntOp.andi (IntOp.cmpi .sge (IntOp.subi (BitVec.ofNat 32 t.val) (BitVec.ofNat 32 s.val)) 0#32)
        (IntOp.cmpi .slt (IntOp.subi (BitVec.ofNat 32 t.val) (BitVec.ofNat 32 s.val))
          (IntOp.shli ArithUnit.host (2#32) (BitVec.ofNat 32 g.val))))
      = if s.val ≤ t.val ∧ t.val < s.val + width g.val then 1 else 0 := by
  have ht := t.isLt
  have hs := s.isLt
  have hw := width_lt g
  rw [width_eq]
  have e : (IntOp.subi (BitVec.ofNat 32 t.val) (BitVec.ofNat 32 s.val)).toInt = (t.val : Int) - s.val := by
    show (BitVec.ofNat 32 t.val - BitVec.ofNat 32 s.val).toInt = _
    rw [BitVec.toInt_sub, toInt_ofNat (by omega), toInt_ofNat (by omega)]
    exact Int.bmod_eq_of_le (by omega) (by omega)
  have a := IntOp.cmpi_sge (x := IntOp.subi (BitVec.ofNat 32 t.val) (BitVec.ofNat 32 s.val)) (y := 0#32)
  have b := IntOp.cmpi_slt (x := IntOp.subi (BitVec.ofNat 32 t.val) (BitVec.ofNat 32 s.val)) (y := BitVec.ofNat 32 (width g.val))
  rw [e, toInt_ofNat (by omega)] at b
  rw [e, show (0#32 : BitVec 32).toInt = 0 from by decide] at a
  have one : ∀ v : BitVec 1, v ≠ 1#1 → v = 0#1 := by decide
  have val1 : FloatOps.uitofp (F := Ideal) .f32 (1#1) = (1 : EReal) := by
    show (((1 : Nat) : ℝ) : EReal) = 1
    norm_num
  have val0 : FloatOps.uitofp (F := Ideal) .f32 (0#1) = (0 : EReal) := by
    show (((0 : Nat) : ℝ) : EReal) = 0
    norm_num
  by_cases h1 : s.val ≤ t.val
  · by_cases h2 : t.val < s.val + width g.val
    · rw [a.mpr (by omega), b.mpr (by omega), if_pos ⟨h1, h2⟩]
      exact val1
    · rw [a.mpr (by omega), one (IntOp.cmpi .slt _ _) (fun h => h2 (by have := b.mp h; omega)), if_neg (fun h => h2 h.2)]
      exact val0
  · rw [one (IntOp.cmpi .sge _ _) (fun h => h1 (by have := a.mp h; omega)), if_neg (fun h => h1 h.1)]
    have z : ∀ v : BitVec 1, IntOp.andi (0#1) v = 0#1 := by decide
    rw [z]
    exact val0

/-- A token's window mean less the token. -/
def pooled (n : Nat) (x : S2048x128.Idx → EReal) : S2048x128.Idx → EReal :=
  fun i => Ideal.div (trail n x i) (count n (i 0).val) - x i

/-- The kernels' mean over `n` tokens less the token, of the window sums `s`. -/
def meanLess (n : BitVec 32) (s x : FVec Ideal S2048x128 .f32) : FVec Ideal S2048x128 .bf16 :=
  truncf .bf16 (subf (divf s (broadcastTo S2048x128 (sitofp .f32 (minsi (addi (iota .tc S2048x1 32 [0] iota_S2048x1_d0_w32)
    (broadcast S2048x1 1#32)) (broadcast S2048x1 n))) broadcasts_S2048x1_S2048x128)) x) bitsLt_bf16_f32

theorem meanLess_trail (n : Nat) (hn : n < 2 ^ 30) (x : S2048x128.Idx → EReal) :
    meanLess (BitVec.ofNat 32 n) (trail n x) x = pooled n x := by
  funext i
  have hi : (i 0).val < 2048 := (i 0).isLt
  pointwise [meanLess, pooled]
  exact congrArg (fun z : EReal => Ideal.div (trail n x i) z - x i) (count_eq (by omega) hn)

/-- The mean of two. -/
theorem pooled_two (x : FVec Ideal S2048x128 .f32) : meanLess 2#32 (stepDown 1#32 x) x = pooled 2 x := by
  have a := stepDown_trail 1 (by decide) x
  rw [trail_one] at a
  rw [a]
  exact meanLess_trail 2 (by decide) x

theorem pooled_four (x : FVec Ideal S2048x128 .f32) : meanLess 4#32 (stepDown 2#32 (stepDown 1#32 x)) x = pooled 4 x := by
  have a := stepDown_trail 1 (by decide) x
  rw [trail_one] at a
  have b := stepDown_trail 2 (by decide) x
  rw [a, b]
  exact meanLess_trail 4 (by decide) x

theorem pooled_eight (x : FVec Ideal S2048x128 .f32) :
    meanLess 8#32 (stepDown 4#32 (stepDown 2#32 (stepDown 1#32 x))) x = pooled 8 x := by
  have a := stepDown_trail 1 (by decide) x
  rw [trail_one] at a
  have b := stepDown_trail 2 (by decide) x
  have c := stepDown_trail 4 (by decide) x
  rw [a, b, c]
  exact meanLess_trail 8 (by decide) x

theorem pooled_sixteen (x : FVec Ideal S2048x128 .f32) :
    meanLess 16#32 (stepDown 8#32 (stepDown 4#32 (stepDown 2#32 (stepDown 1#32 x)))) x = pooled 16 x := by
  have a := stepDown_trail 1 (by decide) x
  rw [trail_one] at a
  have b := stepDown_trail 2 (by decide) x
  have c := stepDown_trail 4 (by decide) x
  have d := stepDown_trail 8 (by decide) x
  rw [a, b, c, d]
  exact meanLess_trail 16 (by decide) x

/-- What a window's mean sends back to its tokens: for each token the sum, over the windows it is in, of the mean's
    gradient over the window's count, less the gradient of the token's own place. -/
def spread (n : Nat) (d : S2048x128.Idx → EReal) : S2048x128.Idx → EReal :=
  fun i => lead n (fun j => Ideal.div (d j) (count n (j 0).val)) i - d i

/-- The kernels' division by a window's count. -/
def overCount (n : BitVec 32) (d : FVec Ideal S2048x128 .f32) : FVec Ideal S2048x128 .f32 :=
  divf d (broadcastTo S2048x128 (sitofp .f32 (minsi (addi (iota .tc S2048x1 32 [0] iota_S2048x1_d0_w32)
    (broadcast S2048x1 1#32)) (broadcast S2048x1 n))) broadcasts_S2048x1_S2048x128)

theorem overCount_eq (n : Nat) (hn : n < 2 ^ 30) (d : FVec Ideal S2048x128 .f32) :
    overCount (BitVec.ofNat 32 n) d = fun j => Ideal.div (d j) (count n (j 0).val) := by
  funext i
  have hi : (i 0).val < 2048 := (i 0).isLt
  pointwise [overCount]
  exact congrArg (fun z : EReal => Ideal.div (d i) z) (count_eq (by omega) hn)

theorem spread_two (d : FVec Ideal S2048x128 .f32) : subf (stepUp 2047#32 (overCount 2#32 d)) d = spread 2 d := by
  have a := stepUp_lead 1 2047 (by decide) rfl (by decide) (overCount 2#32 d)
  rw [lead_one] at a
  rw [a, overCount_eq 2 (by decide)]
  rfl

theorem spread_four (d : FVec Ideal S2048x128 .f32) :
    subf (stepUp 2046#32 (stepUp 2047#32 (overCount 4#32 d))) d = spread 4 d := by
  have a := stepUp_lead 1 2047 (by decide) rfl (by decide) (overCount 4#32 d)
  rw [lead_one] at a
  have b := stepUp_lead 2 2046 (by decide) rfl (by decide) (overCount 4#32 d)
  rw [a, b, overCount_eq 4 (by decide)]
  rfl

theorem spread_eight (d : FVec Ideal S2048x128 .f32) :
    subf (stepUp 2044#32 (stepUp 2046#32 (stepUp 2047#32 (overCount 8#32 d)))) d = spread 8 d := by
  have a := stepUp_lead 1 2047 (by decide) rfl (by decide) (overCount 8#32 d)
  rw [lead_one] at a
  have b := stepUp_lead 2 2046 (by decide) rfl (by decide) (overCount 8#32 d)
  have c := stepUp_lead 4 2044 (by decide) rfl (by decide) (overCount 8#32 d)
  rw [a, b, c, overCount_eq 8 (by decide)]
  rfl

theorem spread_sixteen (d : FVec Ideal S2048x128 .f32) :
    subf (stepUp 2040#32 (stepUp 2044#32 (stepUp 2046#32 (stepUp 2047#32 (overCount 16#32 d))))) d = spread 16 d := by
  have a := stepUp_lead 1 2047 (by decide) rfl (by decide) (overCount 16#32 d)
  rw [lead_one] at a
  have b := stepUp_lead 2 2046 (by decide) rfl (by decide) (overCount 16#32 d)
  have c := stepUp_lead 4 2044 (by decide) rfl (by decide) (overCount 16#32 d)
  have e := stepUp_lead 8 2040 (by decide) rfl (by decide) (overCount 16#32 d)
  rw [a, b, c, e, overCount_eq 16 (by decide)]
  rfl

end Cert.Windows

end
-- ==== Proof.PoolBwd.lean ====
/- The pooling branch's backward kernel: from the gradient of the branch's result the gradients of its tokens, of the
   groups' weights and of the scale; the two parameter gradients accumulate over the sequences. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit.Tiles
public import proofs.«01_k».proof.Proof.Windows

@[expose] public section

set_option maxRecDepth 16384

noncomputable section

namespace Cert.KernelIdeal.PoolBwd

open Cert.KernelIdeal Cert.KernelIdeal.Gen Idealize.ShloMosaic Idealize.ShloMosaic.TcCoe Idealize.SL.Sem
open Idealize.ShloMosaic.Pipeline (Dat)
open Cert.Windows
open scoped BigOperators

variable (m : (ℓ : Loc nD τ sig) → Buf (Elt Ideal) ℓ) (ρ : Dev nD → PrngReg)

/-! ## One group: what the kernel computes from a group's columns -/

/-- The gradient before the scale. -/
def scaled (d : S2048x128.Idx → EReal) (s : S1x128.Idx → EReal) : S2048x128.Idx → EReal :=
  fun i => d i * s (ix2 (0 : Fin 1) (i 1))

/-- The gradient of the pooled tokens. -/
def back (d : S2048x128.Idx → EReal) (s : S1x128.Idx → EReal) (w : S1x128x128.Idx → EReal) : S2048x128.Idx → EReal :=
  fun i => ∑ k : Fin 128, scaled d s (ix2 (i 0) k) * w (ix3 (0 : Fin 1) (i 1) k)

/-- A group's product of the pooled tokens with its weight. -/
def mixed (n : Nat) (u : S2048x128.Idx → EReal) (w : S1x128x128.Idx → EReal) (t : Fin 2048) (c : Fin 128) : EReal :=
  ∑ k : Fin 128, pooled n u (ix2 t k) * w (ix3 (0 : Fin 1) k c)

/-- A sequence's part of the gradient of a group's weight. -/
def partW (n : Nat) (u d : S2048x128.Idx → EReal) (s : S1x128.Idx → EReal) (k c : Fin 128) : EReal :=
  ∑ t : Fin 2048, pooled n u (ix2 t k) * scaled d s (ix2 t c)

/-- A sequence's part of the gradient of the scale. -/
def partS (n : Nat) (u : S2048x128.Idx → EReal) (w : S1x128x128.Idx → EReal) (d : S2048x128.Idx → EReal) (c : Fin 128) : EReal :=
  ∑ t : Fin 2048, d (ix2 t c) * mixed n u w t c

def castW (w : Vec Ideal S1x128x128 .f32) : FVec Ideal S128x128 .bf16 :=
  truncf .bf16 (shapeCast S128x128 w shapeCasts_S1x128x128_S128x128) bitsLt_bf16_f32

def scaleOp (d : Vec Ideal S2048x128 .bf16) (s : Vec Ideal S1x128 .f32) : FVec Ideal S2048x128 .bf16 :=
  truncf .bf16 (mulf (extf .f32 d bitsLt_bf16_f32) (broadcastTo S2048x128 s broadcasts_S1x128_S2048x128)) bitsLt_bf16_f32

def backOp (c : FVec Ideal S2048x128 .bf16) (w : FVec Ideal S128x128 .bf16) : FVec Ideal S2048x128 .f32 :=
  matmul dot_S2048x128_S128x128_S2048x128_1_1_0_0_n_n none c w (constant S2048x128 .f32 0x00000000#32)

def scoreOp (p : FVec Ideal S2048x128 .bf16) (w : Vec Ideal S1x128x128 .f32) (d : Vec Ideal S2048x128 .bf16) : FVec Ideal S2048x128 .f32 :=
  mulf (extf .f32 d bitsLt_bf16_f32)
    (matmul dot_S2048x128_S128x128_S2048x128_1_0_0_1_n_n none p (castW w) (constant S2048x128 .f32 0x00000000#32))

def storeOp (x : FVec Ideal S2048x128 .f32) : FVec Ideal S1x2048x128 .bf16 :=
  shapeCast S1x2048x128 (truncf .bf16 x bitsLt_bf16_f32) shapeCasts_S2048x128_S1x2048x128

theorem scaleOp_eq (d : Vec Ideal S2048x128 .bf16) (s : Vec Ideal S1x128 .f32) : scaleOp d s = scaled d s := by
  funext i
  pointwise [scaleOp, scaled]

theorem backOp_eq (d : Vec Ideal S2048x128 .bf16) (s : Vec Ideal S1x128 .f32) (w : Vec Ideal S1x128x128 .f32) :
    backOp (scaleOp d s) (castW w) = back d s w := by
  rw [scaleOp_eq]
  funext i
  pointwise [backOp, castW, back]

theorem storeOp_apply (x : FVec Ideal S2048x128 .f32) (i : S1x2048x128.Idx) : storeOp x i = x (ix2 (i 1) (i 2)) := by
  pointwise [storeOp]

theorem gradW_apply (n : Nat) (u d : S2048x128.Idx → EReal) (s : S1x128.Idx → EReal) (i : S1x128x128.Idx) :
    k0_pay23 (F := Ideal) (pooled n u) (scaled d s) i = partW n u d s (i 1) (i 2) := by
  pointwise [k0_pay23, k0_pay22, partW]

theorem gradW_acc (n : Nat) (u d : S2048x128.Idx → EReal) (s : S1x128.Idx → EReal) (r : Vec Ideal S1x128x128 .f32) (i : S1x128x128.Idx) :
    k0_pay24 (F := Ideal) (pooled n u) (scaled d s) r i = r i + partW n u d s (i 1) (i 2) := by
  pointwise [k0_pay24, k0_pay22, partW]

theorem gradS_apply (n : Nat) (u : S2048x128.Idx → EReal) (w : Vec Ideal S1x128x128 .f32) (d : Vec Ideal S2048x128 .bf16) (i : S1x128.Idx) :
    k0_pay30 (scoreOp (pooled n u) w d) i = partS n u w d (i 1) := by
  pointwise [k0_pay30, scoreOp, castW, partS, mixed]

theorem gradS_acc (n : Nat) (u : S2048x128.Idx → EReal) (w : Vec Ideal S1x128x128 .f32) (d : Vec Ideal S2048x128 .bf16) (r : Vec Ideal S1x128 .f32) (i : S1x128.Idx) :
    k0_pay31 (scoreOp (pooled n u) w d) r i = r i + partS n u w d (i 1) := by
  pointwise [k0_pay31, k0_pay30, scoreOp, castW, partS, mixed]

section Group0

variable (u d : Vec Ideal S2048x128 .bf16) (w : Vec Ideal S1x128x128 .f32) (s : Vec Ideal S1x128 .f32)

theorem pooled_0 : k0_pay2 u = pooled 2 u :=
  (show k0_pay2 u = meanLess 2#32 (stepDown 1#32 u) u from rfl).trans (pooled_two u)

theorem du_0 (i : S1x2048x128.Idx) :
    k0_pay12 (iota Kind.tc S2048x1 32 [0] iota_S2048x1_d0_w32) (k0_pay3 w) (k0_pay4 d) (k0_pay7 s) i = spread 2 (back d s w) (ix2 (i 1) (i 2)) := by
  have e : k0_pay12 (iota Kind.tc S2048x1 32 [0] iota_S2048x1_d0_w32) (k0_pay3 w) (k0_pay4 d) (k0_pay7 s) = storeOp (subf (stepUp 2047#32 (overCount 2#32 (backOp (scaleOp d s) (castW w)))) (backOp (scaleOp d s) (castW w))) := rfl
  rw [e, storeOp_apply, spread_two, backOp_eq]

theorem gw_0 (i : S1x128x128.Idx) : k0_pay10 (k0_pay2 u) (k0_pay4 d) (k0_pay7 s) i = partW 2 u d s (i 1) (i 2) := by
  have e : k0_pay10 (k0_pay2 u) (k0_pay4 d) (k0_pay7 s) = k0_pay23 (k0_pay2 u) (scaleOp d s) := rfl
  rw [e, pooled_0, scaleOp_eq]
  exact gradW_apply 2 u d s i

theorem gwAcc_0 (r : Vec Ideal S1x128x128 .f32) (i : S1x128x128.Idx) :
    k0_pay11 (k0_pay2 u) (k0_pay4 d) (k0_pay7 s) r i = r i + partW 2 u d s (i 1) (i 2) := by
  have e : k0_pay11 (k0_pay2 u) (k0_pay4 d) (k0_pay7 s) r = k0_pay24 (k0_pay2 u) (scaleOp d s) r := rfl
  rw [e, pooled_0, scaleOp_eq]
  exact gradW_acc 2 u d s r i

theorem gs_0 (i : S1x128.Idx) : k0_pay5 u w d i = partS 2 u w d (i 1) := by
  have e : k0_pay5 u w d = k0_pay30 (scoreOp (k0_pay2 u) w d) := rfl
  rw [e, pooled_0]
  exact gradS_apply 2 u w d i

theorem gsAcc_0 (r : Vec Ideal S1x128 .f32) (i : S1x128.Idx) : k0_pay6 u w d r i = r i + partS 2 u w d (i 1) := by
  have e : k0_pay6 u w d r = k0_pay31 (scoreOp (k0_pay2 u) w d) r := rfl
  rw [e, pooled_0]
  exact gradS_acc 2 u w d r i

end Group0

section Group1

variable (u d : Vec Ideal S2048x128 .bf16) (w : Vec Ideal S1x128x128 .f32) (s : Vec Ideal S1x128 .f32)

theorem pooled_1 : k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32)) = pooled 4 u :=
  (show k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32)) = meanLess 4#32 (stepDown 2#32 (stepDown 1#32 u)) u from rfl).trans (pooled_four u)

theorem du_1 (i : S1x2048x128.Idx) :
    k0_pay25 (iota Kind.tc S2048x1 32 [0] iota_S2048x1_d0_w32) (k0_pay17 w) (k0_pay21 d s) i = spread 4 (back d s w) (ix2 (i 1) (i 2)) := by
  have e : k0_pay25 (iota Kind.tc S2048x1 32 [0] iota_S2048x1_d0_w32) (k0_pay17 w) (k0_pay21 d s) = storeOp (subf (stepUp 2046#32 (stepUp 2047#32 (overCount 4#32 (backOp (scaleOp d s) (castW w))))) (backOp (scaleOp d s) (castW w))) := rfl
  rw [e, storeOp_apply, spread_four, backOp_eq]

theorem gw_1 (i : S1x128x128.Idx) : k0_pay23 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (k0_pay21 d s) i = partW 4 u d s (i 1) (i 2) := by
  have e : k0_pay23 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (k0_pay21 d s) = k0_pay23 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (scaleOp d s) := rfl
  rw [e, pooled_1, scaleOp_eq]
  exact gradW_apply 4 u d s i

theorem gwAcc_1 (r : Vec Ideal S1x128x128 .f32) (i : S1x128x128.Idx) :
    k0_pay24 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (k0_pay21 d s) r i = r i + partW 4 u d s (i 1) (i 2) := by
  have e : k0_pay24 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (k0_pay21 d s) r = k0_pay24 (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) (scaleOp d s) r := rfl
  rw [e, pooled_1, scaleOp_eq]
  exact gradW_acc 4 u d s r i

theorem gs_1 (i : S1x128.Idx) : k0_pay19 (iota Kind.tc S2048x1 32 [0] iota_S2048x1_d0_w32) (k0_pay13 u) (k0_pay14 u) (FloatOps.ofBits FTy.f32 0#32) (k0_pay15 (iota Kind.tc S2048x1 32 [0] iota_S2048x1_d0_w32)) w d i = partS 4 u w d (i 1) := by
  have e : k0_pay19 (iota Kind.tc S2048x1 32 [0] iota_S2048x1_d0_w32) (k0_pay13 u) (k0_pay14 u) (FloatOps.ofBits FTy.f32 0#32) (k0_pay15 (iota Kind.tc S2048x1 32 [0] iota_S2048x1_d0_w32)) w d = k0_pay30 (scoreOp (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) w d) := rfl
  rw [e, pooled_1]
  exact gradS_apply 4 u w d i

theorem gsAcc_1 (r : Vec Ideal S1x128 .f32) (i : S1x128.Idx) : k0_pay20 (iota Kind.tc S2048x1 32 [0] iota_S2048x1_d0_w32) (k0_pay13 u) (k0_pay14 u) (FloatOps.ofBits FTy.f32 0#32) (k0_pay15 (iota Kind.tc S2048x1 32 [0] iota_S2048x1_d0_w32)) w d r i = r i + partS 4 u w d (i 1) := by
  have e : k0_pay20 (iota Kind.tc S2048x1 32 [0] iota_S2048x1_d0_w32) (k0_pay13 u) (k0_pay14 u) (FloatOps.ofBits FTy.f32 0#32) (k0_pay15 (iota Kind.tc S2048x1 32 [0] iota_S2048x1_d0_w32)) w d r = k0_pay31 (scoreOp (k0_pay16 (iota Kind.tc S2048x1 32 [0] iota_S2048x1_d0_w32) (k0_pay13 u) (k0_pay14 u) (FloatOps.ofBits FTy.f32 0#32) (k0_pay15 (iota Kind.tc S2048x1 32 [0] iota_S2048x1_d0_w32))) w d) r := rfl
  rw [e, pooled_1]
  exact gradS_acc 4 u w d r i

end Group1

section Group2

variable (u d : Vec Ideal S2048x128 .bf16) (w : Vec Ideal S1x128x128 .f32) (s : Vec Ideal S1x128 .f32)

theorem pooled_2 : k0_pay26 (iota Kind.tc S2048x1 32 [0] iota_S2048x1_d0_w32) u = pooled 8 u :=
  (show k0_pay26 (iota Kind.tc S2048x1 32 [0] iota_S2048x1_d0_w32) u = meanLess 8#32 (stepDown 4#32 (stepDown 2#32 (stepDown 1#32 u))) u from rfl).trans (pooled_eight u)

theorem du_2 (i : S1x2048x128.Idx) :
    k0_pay39 (iota Kind.tc S2048x1 32 [0] iota_S2048x1_d0_w32) (k0_pay36 (k0_pay27 w) (k0_pay28 d) s) (k0_pay37 (iota Kind.tc S2048x1 32 [0] iota_S2048x1_d0_w32) (k0_pay27 w) (k0_pay28 d) s) k0_pay38 i = spread 8 (back d s w) (ix2 (i 1) (i 2)) := by
  have e : k0_pay39 (iota Kind.tc S2048x1 32 [0] iota_S2048x1_d0_w32) (k0_pay36 (k0_pay27 w) (k0_pay28 d) s) (k0_pay37 (iota Kind.tc S2048x1 32 [0] iota_S2048x1_d0_w32) (k0_pay27 w) (k0_pay28 d) s) k0_pay38 = storeOp (subf (stepUp 2044#32 (stepUp 2046#32 (stepUp 2047#32 (overCount 8#32 (backOp (scaleOp d s) (castW w)))))) (backOp (scaleOp d s) (castW w))) := rfl
  rw [e, storeOp_apply, spread_eight, backOp_eq]

theorem gw_2 (i : S1x128x128.Idx) : k0_pay34 (k0_pay26 (iota Kind.tc S2048x1 32 [0] iota_S2048x1_d0_w32) u) (k0_pay28 d) s i = partW 8 u d s (i 1) (i 2) := by
  have e : k0_pay34 (k0_pay26 (iota Kind.tc S2048x1 32 [0] iota_S2048x1_d0_w32) u) (k0_pay28 d) s = k0_pay23 (k0_pay26 (iota Kind.tc S2048x1 32 [0] iota_S2048x1_d0_w32) u) (scaleOp d s) := rfl
  rw [e, pooled_2, scaleOp_eq]
  exact gradW_apply 8 u d s i

theorem gwAcc_2 (r : Vec Ideal S1x128x128 .f32) (i : S1x128x128.Idx) :
    k0_pay35 (k0_pay26 (iota Kind.tc S2048x1 32 [0] iota_S2048x1_d0_w32) u) (k0_pay28 d) s r i = r i + partW 8 u d s (i 1) (i 2) := by
  have e : k0_pay35 (k0_pay26 (iota Kind.tc S2048x1 32 [0] iota_S2048x1_d0_w32) u) (k0_pay28 d) s r = k0_pay24 (k0_pay26 (iota Kind.tc S2048x1 32 [0] iota_S2048x1_d0_w32) u) (scaleOp d s) r := rfl
  rw [e, pooled_2, scaleOp_eq]
  exact gradW_acc 8 u d s r i

theorem gs_2 (i : S1x128.Idx) : k0_pay30 (k0_pay29 (iota Kind.tc S2048x1 32 [0] iota_S2048x1_d0_w32) u w d) i = partS 8 u w d (i 1) := by
  have e : k0_pay30 (k0_pay29 (iota Kind.tc S2048x1 32 [0] iota_S2048x1_d0_w32) u w d) = k0_pay30 (scoreOp (k0_pay26 (iota Kind.tc S2048x1 32 [0] iota_S2048x1_d0_w32) u) w d) := rfl
  rw [e, pooled_2]
  exact gradS_apply 8 u w d i

theorem gsAcc_2 (r : Vec Ideal S1x128 .f32) (i : S1x128.Idx) : k0_pay31 (k0_pay29 (iota Kind.tc S2048x1 32 [0] iota_S2048x1_d0_w32) u w d) r i = r i + partS 8 u w d (i 1) := by
  have e : k0_pay31 (k0_pay29 (iota Kind.tc S2048x1 32 [0] iota_S2048x1_d0_w32) u w d) r = k0_pay31 (scoreOp (k0_pay26 (iota Kind.tc S2048x1 32 [0] iota_S2048x1_d0_w32) u) w d) r := rfl
  rw [e, pooled_2]
  exact gradS_acc 8 u w d r i

end Group2

section Group3

variable (u d : Vec Ideal S2048x128 .bf16) (w : Vec Ideal S1x128x128 .f32) (s : Vec Ideal S1x128 .f32)

theorem pooled_3 : k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) = pooled 16 u :=
  (show k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) = meanLess 16#32 (stepDown 8#32 (stepDown 4#32 (stepDown 2#32 (stepDown 1#32 u)))) u from rfl).trans (pooled_sixteen u)

theorem du_3 (i : S1x2048x128.Idx) :
    k0_pay1 (iota Kind.tc S2048x1 32 [0] iota_S2048x1_d0_w32) (k0_pay54 (k0_pay45 w) (k0_pay46 d) (k0_pay49 s)) (k0_pay55 (iota Kind.tc S2048x1 32 [0] iota_S2048x1_d0_w32) (k0_pay45 w) (k0_pay46 d) (k0_pay49 s)) (k0_pay56 (iota Kind.tc S2048x1 32 [0] iota_S2048x1_d0_w32) (k0_pay45 w) (k0_pay46 d) (k0_pay49 s)) (k0_pay57 (iota Kind.tc S2048x1 32 [0] iota_S2048x1_d0_w32)) k0_pay58 i = spread 16 (back d s w) (ix2 (i 1) (i 2)) := by
  have e : k0_pay1 (iota Kind.tc S2048x1 32 [0] iota_S2048x1_d0_w32) (k0_pay54 (k0_pay45 w) (k0_pay46 d) (k0_pay49 s)) (k0_pay55 (iota Kind.tc S2048x1 32 [0] iota_S2048x1_d0_w32) (k0_pay45 w) (k0_pay46 d) (k0_pay49 s)) (k0_pay56 (iota Kind.tc S2048x1 32 [0] iota_S2048x1_d0_w32) (k0_pay45 w) (k0_pay46 d) (k0_pay49 s)) (k0_pay57 (iota Kind.tc S2048x1 32 [0] iota_S2048x1_d0_w32)) k0_pay58 = storeOp (subf (stepUp 2040#32 (stepUp 2044#32 (stepUp 2046#32 (stepUp 2047#32 (overCount 16#32 (backOp (scaleOp d s) (castW w))))))) (backOp (scaleOp d s) (castW w))) := rfl
  rw [e, storeOp_apply, spread_sixteen, backOp_eq]

theorem gw_3 (i : S1x128x128.Idx) : k0_pay52 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (k0_pay46 d) (k0_pay49 s) i = partW 16 u d s (i 1) (i 2) := by
  have e : k0_pay52 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (k0_pay46 d) (k0_pay49 s) = k0_pay23 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (scaleOp d s) := rfl
  rw [e, pooled_3, scaleOp_eq]
  exact gradW_apply 16 u d s i

theorem gwAcc_3 (r : Vec Ideal S1x128x128 .f32) (i : S1x128x128.Idx) :
    k0_pay53 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (k0_pay46 d) (k0_pay49 s) r i = r i + partW 16 u d s (i 1) (i 2) := by
  have e : k0_pay53 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (k0_pay46 d) (k0_pay49 s) r = k0_pay24 (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) (scaleOp d s) r := rfl
  rw [e, pooled_3, scaleOp_eq]
  exact gradW_acc 16 u d s r i

theorem gs_3 (i : S1x128.Idx) : k0_pay47 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) w d i = partS 16 u w d (i 1) := by
  have e : k0_pay47 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) w d = k0_pay30 (scoreOp (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) w d) := rfl
  rw [e, pooled_3]
  exact gradS_apply 16 u w d i

theorem gsAcc_3 (r : Vec Ideal S1x128 .f32) (i : S1x128.Idx) : k0_pay48 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) w d r i = r i + partS 16 u w d (i 1) := by
  have e : k0_pay48 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u) w d r = k0_pay31 (scoreOp (k0_pay44 (iota Kind.tc S2048x1 32 [0] iota_S2048x1_d0_w32) (k0_pay40 u) (k0_pay41 (iota Kind.tc S2048x1 32 [0] iota_S2048x1_d0_w32) u) (k0_pay42 (iota Kind.tc S2048x1 32 [0] iota_S2048x1_d0_w32)) (k0_pay43 (iota Kind.tc S2048x1 32 [0] iota_S2048x1_d0_w32) u)) w d) r := rfl
  rw [e, pooled_3]
  exact gradS_acc 16 u w d r i

end Group3

/-! ## A sequence's block -/

/-- The columns of a group. -/
def cols (x : S2048x512.Idx → EReal) (g : Fin 4) : S2048x128.Idx → EReal :=
  fun j => x (ix2 (j 0) ⟨g.val * 128 + (j 1).val, by have := g.isLt; have := show (j 1).val < 128 from (j 1).isLt; omega⟩)

/-- The scale of a group's columns. -/
def scales (s : S1x512.Idx → EReal) (g : Fin 4) : S1x128.Idx → EReal :=
  fun j => s (ix2 (0 : Fin 1) ⟨g.val * 128 + (j 1).val, by have := g.isLt; have := show (j 1).val < 128 from (j 1).isLt; omega⟩)

/-- The weight of a group. -/
def slab (w : S4x128x128.Idx → EReal) (g : Fin 4) : S1x128x128.Idx → EReal :=
  fun j => w (ix3 g (j 1) (j 2))

/-- The group a column is of. -/
def grp (p : Fin 512) : Fin 4 := ⟨p.val / 128, by have := p.isLt; omega⟩

/-- The column within its group. -/
def sub (p : Fin 512) : Fin 128 := ⟨p.val % 128, Nat.mod_lt _ (by decide)⟩

theorem grp_eq (g : Fin 4) (k : Fin 128) (p : Fin 512) (h : p.val = g.val * 128 + k.val) : grp p = g :=
  Fin.ext (by show p.val / 128 = g.val; have := k.isLt; omega)

theorem sub_eq (g : Fin 4) (k : Fin 128) (p : Fin 512) (h : p.val = g.val * 128 + k.val) : sub p = k :=
  Fin.ext (by show p.val % 128 = k.val; have := k.isLt; omega)

/-- The gradient of one sequence's tokens. -/
def duAt (x1 : S2048x512.Idx → EReal) (x2 : S4x128x128.Idx → EReal) (x3 : S1x512.Idx → EReal) (t : Fin 2048) (p : Fin 512) : EReal :=
  spread (width (grp p).val) (back (cols x1 (grp p)) (scales x3 (grp p)) (slab x2 (grp p))) (ix2 t (sub p))

/-- One sequence's part of the gradient of the weights. -/
def gwAt (x0 x1 : S2048x512.Idx → EReal) (x3 : S1x512.Idx → EReal) (g : Fin 4) (k c : Fin 128) : EReal :=
  partW (width g.val) (cols x0 g) (cols x1 g) (scales x3 g) k c

/-- One sequence's part of the gradient of the scale. -/
def gsAt (x0 x1 : S2048x512.Idx → EReal) (x2 : S4x128x128.Idx → EReal) (p : Fin 512) : EReal :=
  partS (width (grp p).val) (cols x0 (grp p)) (slab x2 (grp p)) (cols x1 (grp p)) (sub p)

theorem ld_cols (x0 : Vec Ideal S2048x512 .bf16) (g : Fin 4) (o : Nat) (ho : o = g.val * 128)
    (h : ∀ a, (![0, o] : Fin 2 → Nat) a + S2048x128.size a ≤ S2048x512.size a) :
    View.ld x0 (Rect.unit ![0, o] S2048x128.size h) = cols x0 g := by
  subst ho
  funext j
  exact View.ld_unit_apply_of x0 _ _ _ _ _ fun a => match a with
    | ⟨0, _⟩ => (Nat.zero_add _).symm | ⟨1, _⟩ => rfl

theorem ld_scales (x3 : Vec Ideal S1x512 .f32) (g : Fin 4) (o : Nat) (ho : o = g.val * 128)
    (h : ∀ a, (![0, o] : Fin 2 → Nat) a + S1x128.size a ≤ S1x512.size a) :
    View.ld x3 (Rect.unit ![0, o] S1x128.size h) = scales x3 g := by
  subst ho
  funext j
  have l0 : (j 0).val < 1 := (j 0).isLt
  exact View.ld_unit_apply_of x3 _ _ _ _ _ fun a => match a with
    | ⟨0, _⟩ => by show 0 = 0 + (j 0).val; omega
    | ⟨1, _⟩ => rfl

theorem ld_slab (x2 : Vec Ideal S4x128x128 .f32) (g : Fin 4)
    (h : ∀ a, (![g.val, 0, 0] : Fin 3 → Nat) a + S1x128x128.size a ≤ S4x128x128.size a) :
    View.ld x2 (Rect.unit ![g.val, 0, 0] S1x128x128.size h) = slab x2 g := by
  funext j
  have l0 : (j 0).val < 1 := (j 0).isLt
  exact View.ld_unit_apply_of x2 _ _ _ _ _ fun a => match a with
    | ⟨0, _⟩ => by show g.val = g.val + (j 0).val; omega
    | ⟨1, _⟩ => (Nat.zero_add _).symm
    | ⟨2, _⟩ => (Nat.zero_add _).symm

/-- A group's piece of the tokens' gradient, from what was loaded for it. -/
theorem piece_du (g : Fin 4) (x1 : S2048x512.Idx → EReal) (x2 : S4x128x128.Idx → EReal) (x3 : S1x512.Idx → EReal)
    (d : S2048x128.Idx → EReal) (w : S1x128x128.Idx → EReal) (s : S1x128.Idx → EReal)
    (hd : d = cols x1 g) (hw : w = slab x2 g) (hs : s = scales x3 g)
    (x : S1x2048x128.Idx) (t : Fin 2048) (p : Fin 512) (ht : t = x 1) (hp : p.val = g.val * 128 + (x 2).val) :
    spread (width g.val) (back d s w) (ix2 (x 1) (x 2)) = duAt x1 x2 x3 t p := by
  unfold duAt
  rw [grp_eq g (x 2) p hp, sub_eq g (x 2) p hp, ht, hd, hw, hs]

/-- A group's piece of the weights' gradient. -/
theorem piece_gw (g : Fin 4) (x0 x1 : S2048x512.Idx → EReal) (x3 : S1x512.Idx → EReal)
    (u d : S2048x128.Idx → EReal) (s : S1x128.Idx → EReal)
    (hu : u = cols x0 g) (hd : d = cols x1 g) (hs : s = scales x3 g)
    (x : S1x128x128.Idx) (y0 : Fin 4) (k c : Fin 128) (h0 : y0 = g) (h1 : k = x 1) (h2 : c = x 2) :
    partW (width g.val) u d s (x 1) (x 2) = gwAt x0 x1 x3 y0 k c := by
  unfold gwAt
  rw [h0, h1, h2, hu, hd, hs]

/-- A group's piece of the scale's gradient. -/
theorem piece_gs (g : Fin 4) (x0 x1 : S2048x512.Idx → EReal) (x2 : S4x128x128.Idx → EReal)
    (u d : S2048x128.Idx → EReal) (w : S1x128x128.Idx → EReal)
    (hu : u = cols x0 g) (hd : d = cols x1 g) (hw : w = slab x2 g)
    (x : S1x128.Idx) (p : Fin 512) (hp : p.val = g.val * 128 + (x 1).val) :
    partS (width g.val) u w d (x 1) = gsAt x0 x1 x2 p := by
  unfold gsAt
  rw [grp_eq g (x 1) p hp, sub_eq g (x 1) p hp, hu, hd, hw]

/-- At the first point the tokens’ block is the gradient of its sequence. -/
theorem out_A4 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i)
    (x0 : Vec Ideal S2048x512 .bf16) (x1 : Vec Ideal S2048x512 .bf16) (x2 : Vec Ideal S4x128x128 .f32) (x3 : Vec Ideal S1x512 .f32)
    (y : S1x2048x512.Idx) : out0_A_4 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 y = duAt x1 x2 x3 (y 1) (y 2) := by
  have hc := cover0_A_4 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3
  unfold out0_A_4
  rw [View.read_writes_eq_canon _ _ _ hc]
  replace hc := hc y
  revert hc
  unfold kernelRun0_A
  dsimp only
  sl_unfold_words
  simp only [View.readAt_eq_ld, harg1.read_unread, harg2.read_unread, harg3.read_unread, harg4.read_unread]
  intro hc
  refine View.canon_eq_of_allAt _ y _ hc fun p hp x hx => ?_
  rcases List.mem_cons.mp hp with rfl | hp
  · subst hx
    refine (du_3 _ _ _ x).trans (piece_du 3 x1 x2 x3 _ _ _ (ld_cols x1 3 384 rfl _) (ld_slab x2 3 _) (ld_scales x3 3 384 rfl _) x _ _ ?_ ?_)
    · exact Fin.ext (by show 0 + 1 * (x 1).val = (x 1).val; omega)
    · show 384 + 1 * (x 2).val = 384 + (x 2).val; omega
  rcases List.mem_cons.mp hp with rfl | hp
  · subst hx
    refine (du_2 _ _ _ x).trans (piece_du 2 x1 x2 x3 _ _ _ (ld_cols x1 2 256 rfl _) (ld_slab x2 2 _) (ld_scales x3 2 256 rfl _) x _ _ ?_ ?_)
    · exact Fin.ext (by show 0 + 1 * (x 1).val = (x 1).val; omega)
    · show 256 + 1 * (x 2).val = 256 + (x 2).val; omega
  rcases List.mem_cons.mp hp with rfl | hp
  · subst hx
    refine (du_1 _ _ _ x).trans (piece_du 1 x1 x2 x3 _ _ _ (ld_cols x1 1 128 rfl _) (ld_slab x2 1 _) (ld_scales x3 1 128 rfl _) x _ _ ?_ ?_)
    · exact Fin.ext (by show 0 + 1 * (x 1).val = (x 1).val; omega)
    · show 128 + 1 * (x 2).val = 128 + (x 2).val; omega
  obtain rfl := List.mem_singleton.mp hp
  subst hx
  refine (du_0 _ _ _ x).trans (piece_du 0 x1 x2 x3 _ _ _ (ld_cols x1 0 0 rfl _) (ld_slab x2 0 _) (ld_scales x3 0 0 rfl _) x _ _ ?_ ?_)
  · exact Fin.ext (by show 0 + 1 * (x 1).val = (x 1).val; omega)
  · show 0 + 1 * (x 2).val = 0 + (x 2).val; omega

/-- At the first point the weights’ block becomes the sequence’s part. -/
theorem out_A5 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i)
    (x0 : Vec Ideal S2048x512 .bf16) (x1 : Vec Ideal S2048x512 .bf16) (x2 : Vec Ideal S4x128x128 .f32) (x3 : Vec Ideal S1x512 .f32)
    (y : S4x128x128.Idx) : out0_A_5 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 y = gwAt x0 x1 x3 (y 0) (y 1) (y 2) := by
  have hc := cover0_A_5 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3
  unfold out0_A_5
  rw [View.read_writes_eq_canon _ _ _ hc]
  replace hc := hc y
  revert hc
  unfold kernelRun0_A
  dsimp only
  sl_unfold_words
  simp only [View.readAt_eq_ld, harg1.read_unread, harg2.read_unread, harg3.read_unread, harg4.read_unread]
  intro hc
  refine View.canon_eq_of_allAt _ y _ hc fun p hp x hx => ?_
  rcases List.mem_cons.mp hp with rfl | hp
  · subst hx
    refine (gw_3 _ _ _ x).trans (piece_gw 3 x0 x1 x3 _ _ _ (ld_cols x0 3 384 rfl _) (ld_cols x1 3 384 rfl _) (ld_scales x3 3 384 rfl _) x _ _ _ ?_ ?_ ?_)
    · have l0 : (x 0).val < 1 := (x 0).isLt
      exact Fin.ext (by show 3 + 1 * (x 0).val = 3; omega)
    · exact Fin.ext (by show 0 + 1 * (x 1).val = (x 1).val; omega)
    · exact Fin.ext (by show 0 + 1 * (x 2).val = (x 2).val; omega)
  rcases List.mem_cons.mp hp with rfl | hp
  · subst hx
    refine (gw_2 _ _ _ x).trans (piece_gw 2 x0 x1 x3 _ _ _ (ld_cols x0 2 256 rfl _) (ld_cols x1 2 256 rfl _) (ld_scales x3 2 256 rfl _) x _ _ _ ?_ ?_ ?_)
    · have l0 : (x 0).val < 1 := (x 0).isLt
      exact Fin.ext (by show 2 + 1 * (x 0).val = 2; omega)
    · exact Fin.ext (by show 0 + 1 * (x 1).val = (x 1).val; omega)
    · exact Fin.ext (by show 0 + 1 * (x 2).val = (x 2).val; omega)
  rcases List.mem_cons.mp hp with rfl | hp
  · subst hx
    refine (gw_1 _ _ _ x).trans (piece_gw 1 x0 x1 x3 _ _ _ (ld_cols x0 1 128 rfl _) (ld_cols x1 1 128 rfl _) (ld_scales x3 1 128 rfl _) x _ _ _ ?_ ?_ ?_)
    · have l0 : (x 0).val < 1 := (x 0).isLt
      exact Fin.ext (by show 1 + 1 * (x 0).val = 1; omega)
    · exact Fin.ext (by show 0 + 1 * (x 1).val = (x 1).val; omega)
    · exact Fin.ext (by show 0 + 1 * (x 2).val = (x 2).val; omega)
  obtain rfl := List.mem_singleton.mp hp
  subst hx
  refine (gw_0 _ _ _ x).trans (piece_gw 0 x0 x1 x3 _ _ _ (ld_cols x0 0 0 rfl _) (ld_cols x1 0 0 rfl _) (ld_scales x3 0 0 rfl _) x _ _ _ ?_ ?_ ?_)
  · have l0 : (x 0).val < 1 := (x 0).isLt
    exact Fin.ext (by show 0 + 1 * (x 0).val = 0; omega)
  · exact Fin.ext (by show 0 + 1 * (x 1).val = (x 1).val; omega)
  · exact Fin.ext (by show 0 + 1 * (x 2).val = (x 2).val; omega)

/-- At the first point the scale’s block becomes the sequence’s part. -/
theorem out_A6 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i)
    (x0 : Vec Ideal S2048x512 .bf16) (x1 : Vec Ideal S2048x512 .bf16) (x2 : Vec Ideal S4x128x128 .f32) (x3 : Vec Ideal S1x512 .f32)
    (y : S1x512.Idx) : out0_A_6 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 y = gsAt x0 x1 x2 (y 1) := by
  have hc := cover0_A_6 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3
  unfold out0_A_6
  rw [View.read_writes_eq_canon _ _ _ hc]
  replace hc := hc y
  revert hc
  unfold kernelRun0_A
  dsimp only
  sl_unfold_words
  simp only [View.readAt_eq_ld, harg1.read_unread, harg2.read_unread, harg3.read_unread, harg4.read_unread]
  intro hc
  refine View.canon_eq_of_allAt _ y _ hc fun p hp x hx => ?_
  rcases List.mem_cons.mp hp with rfl | hp
  · subst hx
    refine (gs_3 _ _ _ x).trans (piece_gs 3 x0 x1 x2 _ _ _ (ld_cols x0 3 384 rfl _) (ld_cols x1 3 384 rfl _) (ld_slab x2 3 _) x _ ?_)
    show 384 + 1 * (x 1).val = 384 + (x 1).val; omega
  rcases List.mem_cons.mp hp with rfl | hp
  · subst hx
    refine (gs_2 _ _ _ x).trans (piece_gs 2 x0 x1 x2 _ _ _ (ld_cols x0 2 256 rfl _) (ld_cols x1 2 256 rfl _) (ld_slab x2 2 _) x _ ?_)
    show 256 + 1 * (x 1).val = 256 + (x 1).val; omega
  rcases List.mem_cons.mp hp with rfl | hp
  · subst hx
    refine (gs_1 _ _ _ x).trans (piece_gs 1 x0 x1 x2 _ _ _ (ld_cols x0 1 128 rfl _) (ld_cols x1 1 128 rfl _) (ld_slab x2 1 _) x _ ?_)
    show 128 + 1 * (x 1).val = 128 + (x 1).val; omega
  obtain rfl := List.mem_singleton.mp hp
  subst hx
  refine (gs_0 _ _ _ x).trans (piece_gs 0 x0 x1 x2 _ _ _ (ld_cols x0 0 0 rfl _) (ld_cols x1 0 0 rfl _) (ld_slab x2 0 _) x _ ?_)
  show 0 + 1 * (x 1).val = 0 + (x 1).val; omega

/-- So it is at the second. -/
theorem out_B4 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i)
    (x0 : Vec Ideal S2048x512 .bf16) (x1 : Vec Ideal S2048x512 .bf16) (x2 : Vec Ideal S4x128x128 .f32) (x3 : Vec Ideal S1x512 .f32) (xo5 : Vec Ideal S4x128x128 .f32) (xo6 : Vec Ideal S1x512 .f32)
    (y : S1x2048x512.Idx) : out0_B_4 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6 y = duAt x1 x2 x3 (y 1) (y 2) := by
  have hc := cover0_B_4 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6
  unfold out0_B_4
  rw [View.read_writes_eq_canon _ _ _ hc]
  replace hc := hc y
  revert hc
  unfold kernelRun0_B
  dsimp only
  sl_unfold_words
  simp only [View.readAt_eq_ld, harg1.read_unread, harg2.read_unread, harg3.read_unread, harg4.read_unread]
  intro hc
  refine View.canon_eq_of_allAt _ y _ hc fun p hp x hx => ?_
  rcases List.mem_cons.mp hp with rfl | hp
  · subst hx
    refine (du_3 _ _ _ x).trans (piece_du 3 x1 x2 x3 _ _ _ (ld_cols x1 3 384 rfl _) (ld_slab x2 3 _) (ld_scales x3 3 384 rfl _) x _ _ ?_ ?_)
    · exact Fin.ext (by show 0 + 1 * (x 1).val = (x 1).val; omega)
    · show 384 + 1 * (x 2).val = 384 + (x 2).val; omega
  rcases List.mem_cons.mp hp with rfl | hp
  · subst hx
    refine (du_2 _ _ _ x).trans (piece_du 2 x1 x2 x3 _ _ _ (ld_cols x1 2 256 rfl _) (ld_slab x2 2 _) (ld_scales x3 2 256 rfl _) x _ _ ?_ ?_)
    · exact Fin.ext (by show 0 + 1 * (x 1).val = (x 1).val; omega)
    · show 256 + 1 * (x 2).val = 256 + (x 2).val; omega
  rcases List.mem_cons.mp hp with rfl | hp
  · subst hx
    refine (du_1 _ _ _ x).trans (piece_du 1 x1 x2 x3 _ _ _ (ld_cols x1 1 128 rfl _) (ld_slab x2 1 _) (ld_scales x3 1 128 rfl _) x _ _ ?_ ?_)
    · exact Fin.ext (by show 0 + 1 * (x 1).val = (x 1).val; omega)
    · show 128 + 1 * (x 2).val = 128 + (x 2).val; omega
  obtain rfl := List.mem_singleton.mp hp
  subst hx
  refine (du_0 _ _ _ x).trans (piece_du 0 x1 x2 x3 _ _ _ (ld_cols x1 0 0 rfl _) (ld_slab x2 0 _) (ld_scales x3 0 0 rfl _) x _ _ ?_ ?_)
  · exact Fin.ext (by show 0 + 1 * (x 1).val = (x 1).val; omega)
  · show 0 + 1 * (x 2).val = 0 + (x 2).val; omega

/-- At the second point the sequence’s part is added. -/
theorem out_B5 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i)
    (x0 : Vec Ideal S2048x512 .bf16) (x1 : Vec Ideal S2048x512 .bf16) (x2 : Vec Ideal S4x128x128 .f32) (x3 : Vec Ideal S1x512 .f32) (xo5 : Vec Ideal S4x128x128 .f32) (xo6 : Vec Ideal S1x512 .f32)
    (y : S4x128x128.Idx) : out0_B_5 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6 y = xo5 y + gwAt x0 x1 x3 (y 0) (y 1) (y 2) := by
  have hc := cover0_B_5 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6
  unfold out0_B_5
  rw [View.read_writes_eq_canon _ _ _ hc]
  replace hc := hc y
  revert hc
  unfold kernelRun0_B
  dsimp only
  sl_unfold_words
  simp only [View.readAt_eq_ld, harg1.read_unread, harg2.read_unread, harg3.read_unread, harg4.read_unread, harg7.read_unread, harg8.read_unread]
  intro hc
  refine View.canon_eq_of_allAt _ y _ hc fun p hp x hx => ?_
  rcases List.mem_cons.mp hp with rfl | hp
  · subst hx
    refine (gwAcc_3 _ _ _ _ x).trans (congrArg₂ (fun a b : EReal => a + b) rfl (piece_gw 3 x0 x1 x3 _ _ _ (ld_cols x0 3 384 rfl _) (ld_cols x1 3 384 rfl _) (ld_scales x3 3 384 rfl _) x _ _ _ ?_ ?_ ?_))
    · have l0 : (x 0).val < 1 := (x 0).isLt
      exact Fin.ext (by show 3 + 1 * (x 0).val = 3; omega)
    · exact Fin.ext (by show 0 + 1 * (x 1).val = (x 1).val; omega)
    · exact Fin.ext (by show 0 + 1 * (x 2).val = (x 2).val; omega)
  rcases List.mem_cons.mp hp with rfl | hp
  · subst hx
    refine (gwAcc_2 _ _ _ _ x).trans (congrArg₂ (fun a b : EReal => a + b) rfl (piece_gw 2 x0 x1 x3 _ _ _ (ld_cols x0 2 256 rfl _) (ld_cols x1 2 256 rfl _) (ld_scales x3 2 256 rfl _) x _ _ _ ?_ ?_ ?_))
    · have l0 : (x 0).val < 1 := (x 0).isLt
      exact Fin.ext (by show 2 + 1 * (x 0).val = 2; omega)
    · exact Fin.ext (by show 0 + 1 * (x 1).val = (x 1).val; omega)
    · exact Fin.ext (by show 0 + 1 * (x 2).val = (x 2).val; omega)
  rcases List.mem_cons.mp hp with rfl | hp
  · subst hx
    refine (gwAcc_1 _ _ _ _ x).trans (congrArg₂ (fun a b : EReal => a + b) rfl (piece_gw 1 x0 x1 x3 _ _ _ (ld_cols x0 1 128 rfl _) (ld_cols x1 1 128 rfl _) (ld_scales x3 1 128 rfl _) x _ _ _ ?_ ?_ ?_))
    · have l0 : (x 0).val < 1 := (x 0).isLt
      exact Fin.ext (by show 1 + 1 * (x 0).val = 1; omega)
    · exact Fin.ext (by show 0 + 1 * (x 1).val = (x 1).val; omega)
    · exact Fin.ext (by show 0 + 1 * (x 2).val = (x 2).val; omega)
  obtain rfl := List.mem_singleton.mp hp
  subst hx
  refine (gwAcc_0 _ _ _ _ x).trans (congrArg₂ (fun a b : EReal => a + b) rfl (piece_gw 0 x0 x1 x3 _ _ _ (ld_cols x0 0 0 rfl _) (ld_cols x1 0 0 rfl _) (ld_scales x3 0 0 rfl _) x _ _ _ ?_ ?_ ?_))
  · have l0 : (x 0).val < 1 := (x 0).isLt
    exact Fin.ext (by show 0 + 1 * (x 0).val = 0; omega)
  · exact Fin.ext (by show 0 + 1 * (x 1).val = (x 1).val; omega)
  · exact Fin.ext (by show 0 + 1 * (x 2).val = (x 2).val; omega)

/-- At the second point the sequence’s part is added. -/
theorem out_B6 (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i)
    (x0 : Vec Ideal S2048x512 .bf16) (x1 : Vec Ideal S2048x512 .bf16) (x2 : Vec Ideal S4x128x128 .f32) (x3 : Vec Ideal S1x512 .f32) (xo5 : Vec Ideal S4x128x128 .f32) (xo6 : Vec Ideal S1x512 .f32)
    (y : S1x512.Idx) : out0_B_6 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6 y = xo6 y + gsAt x0 x1 x2 (y 1) := by
  have hc := cover0_B_6 c i arg1 harg1 arg2 harg2 arg3 harg3 arg4 harg4 arg6 harg6 arg7 harg7 arg8 harg8 hc0 hc1 hc2 hc3 hc4 hc5 hc6 hc7 hc8 hc9 hc10 hc11 hc12 hc13 hc14 hc15 x0 x1 x2 x3 xo5 xo6
  unfold out0_B_6
  rw [View.read_writes_eq_canon _ _ _ hc]
  replace hc := hc y
  revert hc
  unfold kernelRun0_B
  dsimp only
  sl_unfold_words
  simp only [View.readAt_eq_ld, harg1.read_unread, harg2.read_unread, harg3.read_unread, harg4.read_unread, harg7.read_unread, harg8.read_unread]
  intro hc
  refine View.canon_eq_of_allAt _ y _ hc fun p hp x hx => ?_
  rcases List.mem_cons.mp hp with rfl | hp
  · subst hx
    refine (gsAcc_3 _ _ _ _ x).trans (congrArg₂ (fun a b : EReal => a + b) rfl (piece_gs 3 x0 x1 x2 _ _ _ (ld_cols x0 3 384 rfl _) (ld_cols x1 3 384 rfl _) (ld_slab x2 3 _) x _ ?_))
    show 384 + 1 * (x 1).val = 384 + (x 1).val; omega
  rcases List.mem_cons.mp hp with rfl | hp
  · subst hx
    refine (gsAcc_2 _ _ _ _ x).trans (congrArg₂ (fun a b : EReal => a + b) rfl (piece_gs 2 x0 x1 x2 _ _ _ (ld_cols x0 2 256 rfl _) (ld_cols x1 2 256 rfl _) (ld_slab x2 2 _) x _ ?_))
    show 256 + 1 * (x 1).val = 256 + (x 1).val; omega
  rcases List.mem_cons.mp hp with rfl | hp
  · subst hx
    refine (gsAcc_1 _ _ _ _ x).trans (congrArg₂ (fun a b : EReal => a + b) rfl (piece_gs 1 x0 x1 x2 _ _ _ (ld_cols x0 1 128 rfl _) (ld_cols x1 1 128 rfl _) (ld_slab x2 1 _) x _ ?_))
    show 128 + 1 * (x 1).val = 128 + (x 1).val; omega
  obtain rfl := List.mem_singleton.mp hp
  subst hx
  refine (gsAcc_0 _ _ _ _ x).trans (congrArg₂ (fun a b : EReal => a + b) rfl (piece_gs 0 x0 x1 x2 _ _ _ (ld_cols x0 0 0 rfl _) (ld_cols x1 0 0 rfl _) (ld_slab x2 0 _) x _ ?_))
  show 0 + 1 * (x 1).val = 0 + (x 1).val; omega

/-! ## The arrays -/

/-- A sequence's tokens, of the projection's last 512 columns. -/
def tokens (x : S4096x2048.Idx → EReal) (b : Nat) (hb : b < 2) : S2048x512.Idx → EReal :=
  fun j => x (ix2 ⟨b * 2048 + (j 0).val, by have := show (j 0).val < 2048 from (j 0).isLt; omega⟩
    ⟨1536 + (j 1).val, by have := show (j 1).val < 512 from (j 1).isLt; omega⟩)

/-- A sequence's gradient of the branch's result, the last 512 columns. -/
def grads (x : S4096x1024.Idx → EReal) (b : Nat) (hb : b < 2) : S2048x512.Idx → EReal :=
  fun j => x (ix2 ⟨b * 2048 + (j 0).val, by have := show (j 0).val < 2048 from (j 0).isLt; omega⟩
    ⟨512 + (j 1).val, by have := show (j 1).val < 512 from (j 1).isLt; omega⟩)

theorem seq_lt {r : Nat} (h : r < 4096) : r / 2048 < 2 := by omega

/-- The projection's gradient: its last slab the tokens' gradient, the other slabs as they were. -/
def tokenGrad (x1 : S4096x1024.Idx → EReal) (x2 : S4x128x128.Idx → EReal) (x3 : S1x512.Idx → EReal) (a : S4x4096x512.Idx → EReal) :
    S4x4096x512.Idx → EReal :=
  fun i => if (i 0).val < 3 then a i
    else duAt (grads x1 ((i 1).val / 2048) (seq_lt (i 1).isLt)) x2 x3 ⟨(i 1).val % 2048, Nat.mod_lt _ (by decide)⟩ (i 2)

/-- The weights' gradient, over both sequences. -/
def weightGrad (x0 : S4096x2048.Idx → EReal) (x1 : S4096x1024.Idx → EReal) (x3 : S1x512.Idx → EReal) : S4x128x128.Idx → EReal :=
  fun i => gwAt (tokens x0 0 (by decide)) (grads x1 0 (by decide)) x3 (i 0) (i 1) (i 2)
    + gwAt (tokens x0 1 (by decide)) (grads x1 1 (by decide)) x3 (i 0) (i 1) (i 2)

/-- The scale's gradient, over both sequences. -/
def scaleGrad (x0 : S4096x2048.Idx → EReal) (x1 : S4096x1024.Idx → EReal) (x2 : S4x128x128.Idx → EReal) : S1x512.Idx → EReal :=
  fun i => gsAt (tokens x0 0 (by decide)) (grads x1 0 (by decide)) x2 (i 1)
    + gsAt (tokens x0 1 (by decide)) (grads x1 1 (by decide)) x2 (i 1)

abbrev argX (c : Dev nD) : Vec Ideal S4096x2048 .bf16 := m ((c : Thread nD τ).loc main_arg0)
abbrev argD (c : Dev nD) : Vec Ideal S4096x1024 .bf16 := m ((c : Thread nD τ).loc main_arg1)
abbrev argW (c : Dev nD) : Vec Ideal S4x128x128 .f32 := m ((c : Thread nD τ).loc main_arg2)
abbrev argS (c : Dev nD) : Vec Ideal S1x512 .f32 := m ((c : Thread nD τ).loc main_arg3)
abbrev argA (c : Dev nD) : Vec Ideal S4x4096x512 .bf16 := m ((c : Thread nD τ).loc main_arg4)

abbrev rTokens (c : Dev nD) : Buf (Elt Ideal) ((c : Thread nD τ).loc main_v0_0) :=
  tokenGrad (argD m c) (argW m c) (argS m c) (argA m c)
abbrev rWeight (c : Dev nD) : Buf (Elt Ideal) ((c : Thread nD τ).loc main_v0_1) :=
  weightGrad (argX m c) (argD m c) (argS m c)
abbrev rScale (c : Dev nD) : Buf (Elt Ideal) ((c : Thread nD τ).loc main_v0_2) :=
  scaleGrad (argX m c) (argD m c) (argW m c)

theorem idx_facts : ∀ t : Fin grid0.N,
    (win0_0.index t 0 = t.val ∧ win0_0.index t 1 = 3) ∧ (win0_1.index t 0 = t.val ∧ win0_1.index t 1 = 1)
      ∧ (win0_2.index t 0 = 0 ∧ win0_2.index t 1 = 0 ∧ win0_2.index t 2 = 0)
      ∧ (win0_3.index t 0 = 0 ∧ win0_3.index t 1 = 0) ∧ (win0_4.index t 0 = 3 ∧ win0_4.index t 1 = t.val ∧ win0_4.index t 2 = 0)
      ∧ (win0_5.index t 0 = 0 ∧ win0_5.index t 1 = 0 ∧ win0_5.index t 2 = 0) ∧ (win0_6.index t 0 = 0 ∧ win0_6.index t 1 = 0) := by
  decide +kernel

theorem N_lt (t : Fin cfg0.N) : t.val < 2 := by
  have h : cfg0.N = 2 := N_0
  have := t.isLt
  omega

theorem tokens_blk (c : Dev nD) (t : Fin cfg0.N) :
    (iblk m c 0 t : Vec Ideal S2048x512 .bf16) = tokens (argX m c) t.val (N_lt t) := by
  funext j
  unfold iblk
  rw [View.read_apply]
  show V m c main_arg0 _ = m ((c : Thread nD τ).loc main_arg0) _
  rw [V_main_arg0]
  congr 1
  funext a
  apply Fin.ext
  obtain ⟨⟨e0, e1⟩, -⟩ := idx_facts t
  match a with
  | ⟨0, _⟩ => show win0_0.index t 0 * 2048 + 1 * (j 0).val = t.val * 2048 + (j 0).val; rw [e0]; omega
  | ⟨1, _⟩ => show win0_0.index t 1 * 512 + 1 * (j 1).val = 1536 + (j 1).val; rw [e1]; omega

theorem grads_blk (c : Dev nD) (t : Fin cfg0.N) :
    (iblk m c 1 t : Vec Ideal S2048x512 .bf16) = grads (argD m c) t.val (N_lt t) := by
  funext j
  unfold iblk
  rw [View.read_apply]
  show V m c main_arg1 _ = m ((c : Thread nD τ).loc main_arg1) _
  rw [V_main_arg1]
  congr 1
  funext a
  apply Fin.ext
  obtain ⟨-, ⟨e0, e1⟩, -⟩ := idx_facts t
  match a with
  | ⟨0, _⟩ => show win0_1.index t 0 * 2048 + 1 * (j 0).val = t.val * 2048 + (j 0).val; rw [e0]; omega
  | ⟨1, _⟩ => show win0_1.index t 1 * 512 + 1 * (j 1).val = 512 + (j 1).val; rw [e1]; omega

theorem weight_blk (c : Dev nD) (t : Fin cfg0.N) : (iblk m c 2 t : Vec Ideal S4x128x128 .f32) = argW m c := by
  funext j
  unfold iblk
  rw [View.read_apply]
  show V m c main_arg2 _ = m ((c : Thread nD τ).loc main_arg2) _
  rw [V_main_arg2]
  congr 1
  funext a
  apply Fin.ext
  obtain ⟨-, -, ⟨e0, e1, e2⟩, -⟩ := idx_facts t
  match a with
  | ⟨0, _⟩ => show win0_2.index t 0 * 4 + 1 * (j 0).val = (j 0).val; rw [e0]; omega
  | ⟨1, _⟩ => show win0_2.index t 1 * 128 + 1 * (j 1).val = (j 1).val; rw [e1]; omega
  | ⟨2, _⟩ => show win0_2.index t 2 * 128 + 1 * (j 2).val = (j 2).val; rw [e2]; omega

theorem scale_blk (c : Dev nD) (t : Fin cfg0.N) : (iblk m c 3 t : Vec Ideal S1x512 .f32) = argS m c := by
  funext j
  unfold iblk
  rw [View.read_apply]
  show V m c main_arg3 _ = m ((c : Thread nD τ).loc main_arg3) _
  rw [V_main_arg3]
  congr 1
  funext a
  apply Fin.ext
  obtain ⟨-, -, -, ⟨e0, e1⟩, -⟩ := idx_facts t
  match a with
  | ⟨0, _⟩ => show win0_3.index t 0 * 1 + 1 * (j 0).val = (j 0).val; rw [e0]; omega
  | ⟨1, _⟩ => show win0_3.index t 1 * 512 + 1 * (j 1).val = (j 1).val; rw [e1]; omega

/-! ## What the points leave in the blocks -/

/-- The tokens' block after a point. -/
theorem after_tokens (c : Dev nD) (t : Fin cfg0.N) (y : S1x2048x512.Idx) :
    (outsAt0 m c t.val t.isLt).1 y = duAt (grads (argD m c) t.val (N_lt t)) (argW m c) (argS m c) (y 1) (y 2) := by
  rcases Nat.mod_two_eq_zero_or_one t.val with h | h
  · have h' : ¬t.val % 2 = 1 := by omega
    rw [outsAt0_A m c t h h' h h' h h' h h' h h' h h' h h' h h']
    dsimp only
    refine (out_A4 c _ _ _ _ _ _ _ _ _ _ _ _ _ _ _ _ _ _ _ _ _ _ _ _ _ _ _ _ _ _ _ (iblk m c 0 t) (iblk m c 1 t) (iblk m c 2 t) (iblk m c 3 t) y).trans ?_
    rw [grads_blk, weight_blk, scale_blk]
  · have h' : ¬t.val % 2 = 0 := by omega
    rw [outsAt0_B m c t h' h h' h h' h h' h h' h h' h h' h h' h]
    dsimp only
    refine (out_B4 c _ _ _ _ _ _ _ _ _ _ _ _ _ _ _ _ _ _ _ _ _ _ _ _ _ _ _ _ _ _ _ (iblk m c 0 t) (iblk m c 1 t) (iblk m c 2 t) (iblk m c 3 t) _ _ y).trans ?_
    rw [grads_blk, weight_blk, scale_blk]

/-- The weights' block after the first point. -/
theorem first_weight (c : Dev nD) (t : Fin cfg0.N) (h : t.val % 2 = 0) (y : S4x128x128.Idx) :
    (outsAt0 m c t.val t.isLt).2.1 y
      = gwAt (tokens (argX m c) t.val (N_lt t)) (grads (argD m c) t.val (N_lt t)) (argS m c) (y 0) (y 1) (y 2) := by
  have h' : ¬t.val % 2 = 1 := by omega
  rw [outsAt0_A m c t h h' h h' h h' h h' h h' h h' h h' h h']
  dsimp only
  refine (out_A5 c _ _ _ _ _ _ _ _ _ _ _ _ _ _ _ _ _ _ _ _ _ _ _ _ _ _ _ _ _ _ _ (iblk m c 0 t) (iblk m c 1 t) (iblk m c 2 t) (iblk m c 3 t) y).trans ?_
  rw [tokens_blk, grads_blk, scale_blk]

/-- The scale's block after the first point. -/
theorem first_scale (c : Dev nD) (t : Fin cfg0.N) (h : t.val % 2 = 0) (y : S1x512.Idx) :
    (outsAt0 m c t.val t.isLt).2.2 y
      = gsAt (tokens (argX m c) t.val (N_lt t)) (grads (argD m c) t.val (N_lt t)) (argW m c) (y 1) := by
  have h' : ¬t.val % 2 = 1 := by omega
  rw [outsAt0_A m c t h h' h h' h h' h h' h h' h h' h h' h h']
  dsimp only
  refine (out_A6 c _ _ _ _ _ _ _ _ _ _ _ _ _ _ _ _ _ _ _ _ _ _ _ _ _ _ _ _ _ _ _ (iblk m c 0 t) (iblk m c 1 t) (iblk m c 2 t) (iblk m c 3 t) y).trans ?_
  rw [tokens_blk, grads_blk, weight_blk]

/-- The weights' block after the second point: what the first left, and the second sequence's part. -/
theorem second_weight (c : Dev nD) (t : Fin cfg0.N) (h : t.val % 2 = 1) (y : S4x128x128.Idx) :
    (outsAt0 m c t.val t.isLt).2.1 y = (outsAt0 m c (t.val - 1) (Nat.lt_of_le_of_lt (Nat.sub_le _ _) t.isLt)).2.1 y
      + gwAt (tokens (argX m c) t.val (N_lt t)) (grads (argD m c) t.val (N_lt t)) (argS m c) (y 0) (y 1) (y 2) := by
  have h' : ¬t.val % 2 = 0 := by omega
  rw [outsAt0_B m c t h' h h' h h' h h' h h' h h' h h' h h' h]
  dsimp only
  refine (out_B5 c _ _ _ _ _ _ _ _ _ _ _ _ _ _ _ _ _ _ _ _ _ _ _ _ _ _ _ _ _ _ _ (iblk m c 0 t) (iblk m c 1 t) (iblk m c 2 t) (iblk m c 3 t) _ _ y).trans ?_
  rw [tokens_blk, grads_blk, scale_blk]

/-- The scale's block after the second point. -/
theorem second_scale (c : Dev nD) (t : Fin cfg0.N) (h : t.val % 2 = 1) (y : S1x512.Idx) :
    (outsAt0 m c t.val t.isLt).2.2 y = (outsAt0 m c (t.val - 1) (Nat.lt_of_le_of_lt (Nat.sub_le _ _) t.isLt)).2.2 y
      + gsAt (tokens (argX m c) t.val (N_lt t)) (grads (argD m c) t.val (N_lt t)) (argW m c) (y 1) := by
  have h' : ¬t.val % 2 = 0 := by omega
  rw [outsAt0_B m c t h' h h' h h' h h' h h' h h' h h' h h' h]
  dsimp only
  refine (out_B6 c _ _ _ _ _ _ _ _ _ _ _ _ _ _ _ _ _ _ _ _ _ _ _ _ _ _ _ _ _ _ _ (iblk m c 0 t) (iblk m c 1 t) (iblk m c 2 t) (iblk m c 3 t) _ _ y).trans ?_
  rw [tokens_blk, grads_blk, weight_blk]

/-- At an element of the last slab, the gradient of the sequence the token is of. -/
theorem tokenGrad_at (x1 : S4096x1024.Idx → EReal) (x2 : S4x128x128.Idx → EReal) (x3 : S1x512.Idx → EReal) (a : S4x4096x512.Idx → EReal)
    (b : Nat) (hb : b < 2) (i : S4x4096x512.Idx) (t : Fin 2048) (p : Fin 512) (h0 : (i 0).val = 3) (h1 : (i 1).val = b * 2048 + t.val)
    (h2 : i 2 = p) : tokenGrad x1 x2 x3 a i = duAt (grads x1 b hb) x2 x3 t p := by
  have ht := t.isLt
  have eb : (i 1).val / 2048 = b := by omega
  have et : (⟨(i 1).val % 2048, Nat.mod_lt _ (by decide)⟩ : Fin 2048) = t := Fin.ext (by show (i 1).val % 2048 = t.val; omega)
  subst eb
  unfold tokenGrad
  rw [if_neg (by omega), et]
  exact congrArg (duAt _ x2 x3 t) h2

/-- What a point writes back of the tokens' gradient is its block of it. -/
theorem flushed_tokens (c : Dev nD) (t : Fin cfg0.N) :
    (dats m 0 c).flushed 4 t = ((cfg0.win 4).blk t).view.read (Elt Ideal) (rTokens m c) := by
  rw [Value.flushed4]
  funext j
  show (outsAt0 m c t.val t.isLt).1 j = rTokens m c (((cfg0.win 4).blk t).view.emb j)
  refine (after_tokens m c t j).trans ?_
  obtain ⟨-, -, -, -, ⟨e0, e1, e2⟩, -⟩ := idx_facts t
  have h0 : ((((cfg0.win 4).blk t).view.emb j) 0).val = win0_4.index t 0 * 1 + 1 * (j 0).val := rfl
  have h1 : ((((cfg0.win 4).blk t).view.emb j) 1).val = win0_4.index t 1 * 2048 + 1 * (j 1).val := rfl
  have h2 : ((((cfg0.win 4).blk t).view.emb j) 2).val = win0_4.index t 2 * 512 + 1 * (j 2).val := rfl
  have l0 : (j 0).val < 1 := (j 0).isLt
  rw [e0] at h0
  rw [e1] at h1
  rw [e2] at h2
  exact (tokenGrad_at _ _ _ _ t.val (N_lt t) _ (j 1) (j 2) (by omega) (by omega) (Fin.ext (by omega))).symm

theorem mem_blk4 (t : Fin cfg0.N) (i : S4x4096x512.Idx) (h0 : (i 0).val = 3) (h1 : (i 1).val / 2048 = t.val) :
    i ∈ ((cfg0.win 4).blk t).view.set := by
  show i ∈ ((View.whole main_v0_0).slice (win0_4.rect t)).set
  rw [View.set_slice_whole, Rect.mem_set_unit]
  have h2 : (i 2 : Nat) < 512 := (i 2).isLt
  obtain ⟨-, -, -, -, ⟨e0, e1, e2⟩, -⟩ := idx_facts t
  intro a
  match a with
  | ⟨0, _⟩ =>
    show win0_4.index t 0 * 1 ≤ (i 0 : Nat) ∧ (i 0 : Nat) < win0_4.index t 0 * 1 + 1
    rw [e0]; omega
  | ⟨1, _⟩ =>
    show win0_4.index t 1 * 2048 ≤ (i 1 : Nat) ∧ (i 1 : Nat) < win0_4.index t 1 * 2048 + 2048
    rw [e1]; omega
  | ⟨2, _⟩ =>
    show win0_4.index t 2 * 512 ≤ (i 2 : Nat) ∧ (i 2 : Nat) < win0_4.index t 2 * 512 + 512
    rw [e2]; omega

/-- The array the tokens' gradient is written into begins as the argument. -/
theorem entry (c : Dev nD) : V m c main_v0_0 = m ((c : Thread nD τ).loc main_arg4) := by
  simp only [V, hostOps0, StableHlo.after_cons, StableHlo.after_nil]
  exact StableHlo.unary_result ..

theorem final_tokens (c : Dev nD) : (dats m 0 c).arrAt 4 cfg0.N = rTokens m c := by
  funext i
  rw [(dats m 0 c).arrAt_eq_piecewise 4 (rTokens m c) (fun t _ => flushed_tokens m c t) i]
  split
  · rfl
  · next h =>
    have h0 : (i 0).val < 4 := (i 0).isLt
    have h1 : (i 1).val < 4096 := (i 1).isLt
    have hN : cfg0.N = 2 := N_0
    have hi : (i 0).val < 3 := by
      by_contra hc
      exact h ⟨⟨(i 1).val / 2048, by omega⟩, flush0_4 _, mem_blk4 _ i (by omega) rfl⟩
    rw [A_eq]
    show V m c main_v0_0 i = tokenGrad _ _ _ _ i
    rw [entry]
    exact (if_pos hi).symm

/-- The last point's number is one. -/
theorem last_val (t : Fin cfg0.N) (h : t.val % 2 = 1) : t.val = 1 := by
  have := N_lt t
  omega

theorem weight_parts (x0 : S4096x2048.Idx → EReal) (x1 : S4096x1024.Idx → EReal) (x3 : S1x512.Idx → EReal) (j : S4x128x128.Idx)
    (a b : Nat) (ha : a < 2) (hb : b < 2) (h0 : a = 0) (h1 : b = 1) :
    gwAt (tokens x0 a ha) (grads x1 a ha) x3 (j 0) (j 1) (j 2) + gwAt (tokens x0 b hb) (grads x1 b hb) x3 (j 0) (j 1) (j 2)
      = weightGrad x0 x1 x3 j := by
  subst h0 h1
  rfl

theorem scale_parts (x0 : S4096x2048.Idx → EReal) (x1 : S4096x1024.Idx → EReal) (x2 : S4x128x128.Idx → EReal) (j : S1x512.Idx)
    (a b : Nat) (ha : a < 2) (hb : b < 2) (h0 : a = 0) (h1 : b = 1) :
    gsAt (tokens x0 a ha) (grads x1 a ha) x2 (j 1) + gsAt (tokens x0 b hb) (grads x1 b hb) x2 (j 1) = scaleGrad x0 x1 x2 j := by
  subst h0 h1
  rfl

/-- What the last point writes back of the weights' gradient is both sequences' parts. -/
theorem flushed_weight (c : Dev nD) (t : Fin cfg0.N) (ht : (cfg0.win 5).flush t = true) :
    (dats m 0 c).flushed 5 t = ((cfg0.win 5).blk t).view.read (Elt Ideal) (rWeight m c) := by
  have h := (flush0_5 t).mp ht
  have h1 := last_val t h
  rw [Value.flushed5]
  funext j
  show (outsAt0 m c t.val t.isLt).2.1 j = rWeight m c (((cfg0.win 5).blk t).view.emb j)
  have hj : ((cfg0.win 5).blk t).view.emb j = j := by
    obtain ⟨-, -, -, -, -, ⟨e0, e1, e2⟩, -⟩ := idx_facts t
    funext a
    apply Fin.ext
    match a with
    | ⟨0, _⟩ => show win0_5.index t 0 * 4 + 1 * (j 0).val = (j 0).val; rw [e0]; omega
    | ⟨1, _⟩ => show win0_5.index t 1 * 128 + 1 * (j 1).val = (j 1).val; rw [e1]; omega
    | ⟨2, _⟩ => show win0_5.index t 2 * 128 + 1 * (j 2).val = (j 2).val; rw [e2]; omega
  rw [hj]
  have h0 : t.val - 1 = 0 := by omega
  have hN : cfg0.N = 2 := N_0
  have e := first_weight m c ⟨t.val - 1, by omega⟩ (by show (t.val - 1) % 2 = 0; omega) j
  refine (second_weight m c t h j).trans ((congrArg₂ (fun a b : EReal => a + b) e rfl).trans ?_)
  exact weight_parts _ _ _ j (t.val - 1) t.val _ _ h0 h1

/-- What the last point writes back of the scale's gradient is both sequences' parts. -/
theorem flushed_scale (c : Dev nD) (t : Fin cfg0.N) (ht : (cfg0.win 6).flush t = true) :
    (dats m 0 c).flushed 6 t = ((cfg0.win 6).blk t).view.read (Elt Ideal) (rScale m c) := by
  have h := (flush0_6 t).mp ht
  have h1 := last_val t h
  rw [Value.flushed6]
  funext j
  show (outsAt0 m c t.val t.isLt).2.2 j = rScale m c (((cfg0.win 6).blk t).view.emb j)
  have hj : ((cfg0.win 6).blk t).view.emb j = j := by
    obtain ⟨-, -, -, -, -, -, e0, e1⟩ := idx_facts t
    funext a
    apply Fin.ext
    match a with
    | ⟨0, _⟩ => show win0_6.index t 0 * 1 + 1 * (j 0).val = (j 0).val; rw [e0]; omega
    | ⟨1, _⟩ => show win0_6.index t 1 * 512 + 1 * (j 1).val = (j 1).val; rw [e1]; omega
  rw [hj]
  have hN : cfg0.N = 2 := N_0
  have e := first_scale m c ⟨t.val - 1, by omega⟩ (by show (t.val - 1) % 2 = 0; omega) j
  refine (second_scale m c t h j).trans ((congrArg₂ (fun a b : EReal => a + b) e rfl).trans ?_)
  exact scale_parts _ _ _ j (t.val - 1) t.val _ _ (by omega) h1

/-- The last point of the grid. -/
def lastPoint : Fin cfg0.N := ⟨1, lt_of_lt_of_eq (by decide : 1 < 2) N_0.symm⟩

theorem final_weight (c : Dev nD) : (dats m 0 c).arrAt 5 cfg0.N = rWeight m c := by
  refine (dats m 0 c).arrAt_eq_of_cover 5 (rWeight m c) (fun t ht => flushed_weight m c t ht) fun i => ?_
  refine ⟨lastPoint, (flush0_5 _).mpr rfl, ?_⟩
  show i ∈ ((View.whole main_v0_1).slice (win0_5.rect lastPoint)).set
  rw [View.set_slice_whole, Rect.mem_set_unit]
  obtain ⟨-, -, -, -, -, ⟨e0, e1, e2⟩, -⟩ := idx_facts lastPoint
  intro a
  match a with
  | ⟨0, _⟩ =>
    have h : (i 0 : Nat) < 4 := (i 0).isLt
    show win0_5.index lastPoint 0 * 4 ≤ (i 0 : Nat) ∧ (i 0 : Nat) < win0_5.index lastPoint 0 * 4 + 4
    rw [e0]; omega
  | ⟨1, _⟩ =>
    have h : (i 1 : Nat) < 128 := (i 1).isLt
    show win0_5.index lastPoint 1 * 128 ≤ (i 1 : Nat) ∧ (i 1 : Nat) < win0_5.index lastPoint 1 * 128 + 128
    rw [e1]; omega
  | ⟨2, _⟩ =>
    have h : (i 2 : Nat) < 128 := (i 2).isLt
    show win0_5.index lastPoint 2 * 128 ≤ (i 2 : Nat) ∧ (i 2 : Nat) < win0_5.index lastPoint 2 * 128 + 128
    rw [e2]; omega

theorem final_scale (c : Dev nD) : (dats m 0 c).arrAt 6 cfg0.N = rScale m c := by
  refine (dats m 0 c).arrAt_eq_of_cover 6 (rScale m c) (fun t ht => flushed_scale m c t ht) fun i => ?_
  refine ⟨lastPoint, (flush0_6 _).mpr rfl, ?_⟩
  show i ∈ ((View.whole main_v0_2).slice (win0_6.rect lastPoint)).set
  rw [View.set_slice_whole, Rect.mem_set_unit]
  obtain ⟨-, -, -, -, -, -, e0, e1⟩ := idx_facts lastPoint
  intro a
  match a with
  | ⟨0, _⟩ =>
    have h : (i 0 : Nat) < 1 := (i 0).isLt
    show win0_6.index lastPoint 0 * 1 ≤ (i 0 : Nat) ∧ (i 0 : Nat) < win0_6.index lastPoint 0 * 1 + 1
    rw [e0]; omega
  | ⟨1, _⟩ =>
    have h : (i 1 : Nat) < 512 := (i 1).isLt
    show win0_6.index lastPoint 1 * 512 ≤ (i 1 : Nat) ∧ (i 1 : Nat) < win0_6.index lastPoint 1 * 512 + 512
    rw [e1]; omega

/-- The run: the three gradients, and the arguments unchanged. -/
theorem run : θ_run defs (onTc (τ := τ) (main (F := Ideal))) ⟨m, fun _ => 0, ρ⟩ fun r => ∀ c : Dev nD,
      r.2.mem ((c : Thread nD τ).loc main_v0_0) = rTokens m c
      ∧ r.2.mem ((c : Thread nD τ).loc main_v0_1) = rWeight m c
      ∧ r.2.mem ((c : Thread nD τ).loc main_v0_2) = rScale m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_tokens m c), (h c).2.1.trans (final_weight m c),
    (h c).2.2.1.trans (final_scale m c), (h c).2.2.2⟩) (Value.run_blocks m ρ)

section Reference

open Cert.ReferenceIdeal.Read

/-- The reference’s zero-or-one array: which tokens are in a group’s window. -/
theorem ref_band (g : Fin 4) (t s : Fin 2048) :
    val_main_v33 (F := Ideal) (ix3 g t s) = if s.val ≤ t.val ∧ t.val < s.val + width g.val then 1 else 0 := by
  refine Eq.trans ?_ (band_eq g t s)
  pointwise [val_main_v33, val_main_v24, val_main_v23, val_main_v22, val_main_v21, val_main_v20, val_main_v19, val_main_v18, val_main_v17, val_main_v16, val_main_v15, val_main_v14, val_main_v13, val_main_v12, val_main_v8, val_main_c_0, val_main_v11, val_main_v10, val_main_v9, val_main_c]

/-- The reference’s window counts. -/
theorem ref_count (g : Fin 4) (t : Fin 2048) : val_main_v32 (F := Ideal) (ix2 t g) = count (width g.val) t.val := by
  have ht := t.isLt
  have hw := width_lt g
  refine Eq.trans ?_ (count_eq (t := t.val) (n := width g.val) (by omega) (by omega))
  rw [← width_eq]
  pointwise [val_main_v32, val_main_v31, val_main_v30, val_main_v29, val_main_v28, val_main_v27, val_main_v26, val_main_v25, val_main_c_1, val_main_v8, val_main_v11, val_main_v10, val_main_v9, val_main_c]

/-- The reference’s pooled tokens. -/
theorem ref_pooled (x : Vec Ideal S4096x2048 .bf16) (b : Fin 2) (t : Fin 2048) (g : Fin 4) (k : Fin 128) :
    val_main_v39 (F := Ideal) x (ix4 b t g k) = pooled (width g.val) (cols (tokens x b.val b.isLt) g) (ix2 t k) := by
  pointwise [val_main_v39, val_main_v38, val_main_v37, val_main_v36, val_main_v35, val_main_v34, val_main_v7, val_main_v2, val_main_v1, val_main_v0]
  rw [ref_count]
  refine congrArg₂ (fun u v : EReal => Ideal.div u (count (width g.val) t.val) - v) (Finset.sum_congr rfl fun s _ => ?_) ?_
  · rw [ref_band, mul_ite, mul_one, mul_zero]
    refine if_congr Iff.rfl (congrArg x ?_) rfl
    exact funext fun a => Fin.ext (match a with | ⟨0, _⟩ => rfl | ⟨1, _⟩ => rfl)
  · exact congrArg x (funext fun a => Fin.ext (match a with | ⟨0, _⟩ => rfl | ⟨1, _⟩ => rfl))

/-- The reference’s weights’ gradient. -/
theorem ref_weight (x : Vec Ideal S4096x2048 .bf16) (d : Vec Ideal S4096x1024 .bf16) (s : Vec Ideal S1x512 .f32) :
    val_main_v57 (F := Ideal) x d s = weightGrad x d s := by
  funext i
  pointwise [val_main_v57, val_main_v56, val_main_v53, val_main_v52, val_main_v50, val_main_v49, val_main_v43, val_main_v6, val_main_v5, val_main_v4, val_main_v3]
  rw [Fin.sum_univ_two]
  unfold weightGrad gwAt partW
  refine congrArg₂ (fun a b : EReal => a + b) ?_ ?_
  · refine Finset.sum_congr rfl fun t _ => ?_
    refine (mul_comm _ _).trans (congrArg₂ (fun a b : EReal => a * b) (ref_pooled x 0 t (i 0) (i 1)) (congrArg₂ (fun a b : EReal => a * b) (congrArg d ?_) (congrArg s ?_))) <;>
    exact funext fun a => Fin.ext (match a with | ⟨0, _⟩ => rfl | ⟨1, _⟩ => rfl)
  · refine Finset.sum_congr rfl fun t _ => ?_
    refine (mul_comm _ _).trans (congrArg₂ (fun a b : EReal => a * b) (ref_pooled x 1 t (i 0) (i 1)) (congrArg₂ (fun a b : EReal => a * b) (congrArg d ?_) (congrArg s ?_))) <;>
    exact funext fun a => Fin.ext (match a with | ⟨0, _⟩ => rfl | ⟨1, _⟩ => rfl)

/-- The reference’s gradient of the pooled tokens. -/
theorem ref_back (d : Vec Ideal S4096x1024 .bf16) (w : Vec Ideal S4x128x128 .f32) (s : Vec Ideal S1x512 .f32) (b : Fin 2) (t : Fin 2048) (g : Fin 4) (k : Fin 128) :
    val_main_v55 (F := Ideal) d w s (ix4 b t g k) = back (cols (grads d b.val b.isLt) g) (scales s g) (slab w g) (ix2 t k) := by
  pointwise [val_main_v55, val_main_v54, val_main_v53, val_main_v52, val_main_v50, val_main_v49, val_main_v43, val_main_v6, val_main_v5, val_main_v4, val_main_v3]
  refine Finset.sum_congr rfl fun j _ => congrArg₂ (fun a b : EReal => a * b) (congrArg₂ (fun a b : EReal => a * b) (congrArg d ?_) (congrArg s ?_)) rfl <;>
  exact funext fun a => Fin.ext (match a with | ⟨0, _⟩ => rfl | ⟨1, _⟩ => rfl)

theorem ref_spread (d : Vec Ideal S4096x1024 .bf16) (w : Vec Ideal S4x128x128 .f32) (s : Vec Ideal S1x512 .f32) (b : Fin 2) (r : Fin 2048) (g : Fin 4) (k : Fin 128) :
    -val_main_v55 (F := Ideal) d w s (ix4 b r g k) + ∑ t : Fin 2048, Ideal.div (val_main_v55 (F := Ideal) d w s (ix4 b t g k)) (val_main_v32 (F := Ideal) (ix2 t g)) * val_main_v33 (F := Ideal) (ix3 g t r)
      = spread (width g.val) (back (cols (grads d b.val b.isLt) g) (scales s g) (slab w g)) (ix2 r k) := by
  rw [add_comm, ← sub_eq_add_neg, ref_back]
  refine congrArg₂ (fun a b : EReal => a - b) (Finset.sum_congr rfl fun t _ => ?_) rfl
  rw [ref_band, mul_ite, mul_one, mul_zero, ref_count, ref_back]
  rfl

/-- The reference’s tokens’ gradient. -/
theorem ref_tokens (d : Vec Ideal S4096x1024 .bf16) (w : Vec Ideal S4x128x128 .f32) (s : Vec Ideal S1x512 .f32) (a : Vec Ideal S4x4096x512 .bf16) :
    val_main_v69 (F := Ideal) d w s a = tokenGrad d w s a := by
  funext i
  pointwise [val_main_v69, val_main_v68, val_main_v67, val_main_v66, val_main_v65, val_main_v64, val_main_v63, val_main_v62, val_main_v61, val_main_v60, val_main_v59, val_main_v58, val_main_v36]
  refine if_congr Iff.rfl rfl ?_
  exact ref_spread d w s ⟨(i 1).val / 2048, seq_lt (i 1).isLt⟩ ⟨(i 1).val % 2048, Nat.mod_lt _ (by decide)⟩ (grp (i 2)) (sub (i 2))

/-- A sum over an array’s first two axes, entry by entry. -/
theorem sum_two_axes {n0 n1 n2 : Nat} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) ?_
  refine (Finset.sum_filter_eq_sum_of_fiber _ (fun k : Fin n0 × Fin n1 => (ix3 k.1 k.2 (j 0) : (⟨3, ![n0, n1, n2]⟩ : Shape).Idx))
    (fun a b e => Prod.ext (congrFun e 0) (congrFun e 1)) (fun i => ⟨fun e => ⟨(i 0, i 1), ?_⟩, ?_⟩) v).trans (Fintype.sum_prod_type _)
  · subst e
    exact funext fun a => Fin.ext (match a with | ⟨0, _⟩ => rfl | ⟨1, _⟩ => rfl | ⟨2, _⟩ => rfl)
  · rintro ⟨k, rfl⟩
    exact funext fun a => Fin.ext (match a with | ⟨0, _⟩ => rfl)

/-- The reference’s gradient of the scale, before the sum over the tokens. -/
theorem ref_score (x : Vec Ideal S4096x2048 .bf16) (d : Vec Ideal S4096x1024 .bf16) (w : Vec Ideal S4x128x128 .f32) (b : Fin 2) (t : Fin 2048) (p : Fin 512) :
    val_main_v46 (F := Ideal) x d w (ix3 b t p)
      = grads d b.val b.isLt (ix2 t p) * mixed (width (grp p).val) (cols (tokens x b.val b.isLt) (grp p)) (slab w (grp p)) t (sub p) := by
  pointwise [val_main_v46, val_main_v42, val_main_v41, val_main_v40, val_main_v5, val_main_v4, val_main_v3]
  rw [mul_comm]
  refine congrArg₂ (fun a b : EReal => a * b) (congrArg d ?_) (Finset.sum_congr rfl fun k _ => ?_)
  · exact funext fun a => Fin.ext (match a with | ⟨0, _⟩ => rfl | ⟨1, _⟩ => rfl)
  · rw [mul_comm, ref_pooled]
    rfl

theorem zero_word : FloatOps.ofBits (F := Ideal) .f32 0x00000000#32 = (0 : EReal) := by
  pointwise []

theorem ref_sum (x : Vec Ideal S4096x2048 .bf16) (d : Vec Ideal S4096x1024 .bf16) (w : Vec Ideal S4x128x128 .f32) (p : Fin 512) :
    val_main_v47 (F := Ideal) x d w (ix1 p) = ∑ b : Fin 2, ∑ t : Fin 2048, val_main_v46 (F := Ideal) x d w (ix3 b t p) := by
  refine (sum_two_axes _ (val_main_v46 (F := Ideal) x d w) _ (ix1 p)).trans ?_
  refine (congrArg₂ (fun a b : EReal => a + b) zero_word rfl).trans (zero_add _)

/-- The reference’s scale’s gradient. -/
theorem ref_scale (x : Vec Ideal S4096x2048 .bf16) (d : Vec Ideal S4096x1024 .bf16) (w : Vec Ideal S4x128x128 .f32) :
    val_main_v70 (F := Ideal) x d w = scaleGrad x d w := by
  funext i
  have e : val_main_v51 (F := Ideal) x d w (ix1 (i 1)) = val_main_v47 (F := Ideal) x d w (ix1 (i 1)) := by
    refine (sum_two_axes _ (val_main_v48 (F := Ideal) x d w) _ (ix1 (i 1))).trans ?_
    refine (congrArg₂ (fun a b : EReal => a + b) zero_word rfl).trans ((zero_add _).trans ?_)
    rw [Fin.sum_univ_one, Fin.sum_univ_one]
    pointwise [val_main_v48]
  have e' : val_main_v70 (F := Ideal) x d w i = val_main_v51 (F := Ideal) x d w (ix1 (i 1)) := by
    pointwise [val_main_v70]
  refine e'.trans (e.trans ((ref_sum x d w (i 1)).trans ((Fin.sum_univ_two _).trans ?_)))
  unfold scaleGrad gsAt partS
  refine congrArg₂ (fun a b : EReal => a + b) ?_ ?_
  · refine Finset.sum_congr rfl fun t _ => (ref_score x d w 0 t (i 1)).trans (congrArg₂ (fun a b : EReal => a * b) ?_ rfl)
    refine congrArg d (funext fun a => Fin.ext ?_)
    match a with
    | ⟨0, _⟩ => rfl
    | ⟨1, _⟩ => show 512 + (i 1).val = 512 + ((i 1).val / 128 * 128 + (i 1).val % 128); omega
  · refine Finset.sum_congr rfl fun t _ => (ref_score x d w 1 t (i 1)).trans (congrArg₂ (fun a b : EReal => a * b) ?_ rfl)
    refine congrArg d (funext fun a => Fin.ext ?_)
    match a with
    | ⟨0, _⟩ => rfl
    | ⟨1, _⟩ => show 512 + (i 1).val = 512 + ((i 1).val / 128 * 128 + (i 1).val % 128); omega

end Reference

end Cert.KernelIdeal.PoolBwd

end
-- ==== Proof.PoolFwd.lean ====
/- The pooling branch's forward kernel: on each sequence and each group of columns the mean of a window of tokens less
   the token, times the group's weight, times the scale, written into the second half of the mixers' array. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit.Tiles
public import proofs.«01_k».proof.Proof.Windows

@[expose] public section

set_option maxRecDepth 16384

noncomputable section

namespace Cert.Kernel9Ideal.PoolFwd

open Cert.Kernel9Ideal Cert.Kernel9Ideal.Gen Idealize.ShloMosaic Idealize.ShloMosaic.TcCoe Idealize.SL.Sem
open Idealize.ShloMosaic.Pipeline (Dat)
open Cert.Windows
open scoped BigOperators

variable (m : (ℓ : Loc nD τ sig) → Buf (Elt Ideal) ℓ) (ρ : Dev nD → PrngReg)

/-- A group's product of the pooled tokens with its weight. -/
def mixed (n : Nat) (x : S2048x128.Idx → EReal) (w : S1x128x128.Idx → EReal) (i : S2048x128.Idx) : EReal :=
  ∑ k : Fin 128, pooled n x (ix2 (i 0) k) * w (ix3 (0 : Fin 1) k (i 1))

/-- The end of each group: the product, the scale, the cast. -/
def closing (p : FVec Ideal S2048x128 .bf16) (w : Vec Ideal S1x128x128 .f32) (s : Vec Ideal S1x128 .f32) :
    FVec Ideal S1x2048x128 .bf16 :=
  k0_pay1 p (k0_pay14 w) s

theorem closing_apply (p : FVec Ideal S2048x128 .bf16) (w : Vec Ideal S1x128x128 .f32) (s : Vec Ideal S1x128 .f32)
    (i : S1x2048x128.Idx) :
    closing p w s i = (∑ k : Fin 128, p (ix2 (i 1) k) * w (ix3 (0 : Fin 1) k (i 2))) * s (ix2 (0 : Fin 1) (i 2)) := by
  pointwise [closing, k0_pay1, k0_pay14]

theorem group0 (x : Vec Ideal S2048x128 .bf16) (w : Vec Ideal S1x128x128 .f32) (s : Vec Ideal S1x128 .f32)
    (i : S1x2048x128.Idx) : k0_pay2 x w s i = mixed 2 x w (ix2 (i 1) (i 2)) * s (ix2 (0 : Fin 1) (i 2)) := by
  have e : k0_pay2 x w s = closing (meanLess 2#32 (stepDown 1#32 x) x) w s := rfl
  rw [e, closing_apply, pooled_two]
  rfl

theorem group1 (x : Vec Ideal S2048x128 .bf16) (w : Vec Ideal S1x128x128 .f32) (s : Vec Ideal S1x128 .f32)
    (i : S1x2048x128.Idx) :
    k0_pay6 (iota Kind.tc S2048x1 32 [0] iota_S2048x1_d0_w32) (k0_pay3 x) (k0_pay4 x) (FloatOps.ofBits FTy.f32 0#32) k0_pay5 w s i
      = mixed 4 x w (ix2 (i 1) (i 2)) * s (ix2 (0 : Fin 1) (i 2)) := by
  have e : k0_pay6 (iota Kind.tc S2048x1 32 [0] iota_S2048x1_d0_w32) (k0_pay3 x) (k0_pay4 x) (FloatOps.ofBits FTy.f32 0#32) k0_pay5 w s
      = closing (meanLess 4#32 (stepDown 2#32 (stepDown 1#32 x)) x) w s := rfl
  rw [e, closing_apply, pooled_four]
  rfl

theorem group2 (x : Vec Ideal S2048x128 .bf16) (w : Vec Ideal S1x128x128 .f32) (s : Vec Ideal S1x128 .f32)
    (i : S1x2048x128.Idx) :
    k0_pay11 (iota Kind.tc S2048x1 32 [0] iota_S2048x1_d0_w32) (k0_pay7 x) (k0_pay8 x)
        (k0_pay9 (iota Kind.tc S2048x1 32 [0] iota_S2048x1_d0_w32)) k0_pay10 w s i
      = mixed 8 x w (ix2 (i 1) (i 2)) * s (ix2 (0 : Fin 1) (i 2)) := by
  have e : k0_pay11 (iota Kind.tc S2048x1 32 [0] iota_S2048x1_d0_w32) (k0_pay7 x) (k0_pay8 x)
        (k0_pay9 (iota Kind.tc S2048x1 32 [0] iota_S2048x1_d0_w32)) k0_pay10 w s
      = closing (meanLess 8#32 (stepDown 4#32 (stepDown 2#32 (stepDown 1#32 x))) x) w s := rfl
  rw [e, closing_apply, pooled_eight]
  rfl

theorem group3 (x : Vec Ideal S2048x128 .bf16) (w : Vec Ideal S1x128x128 .f32) (s : Vec Ideal S1x128 .f32)
    (i : S1x2048x128.Idx) :
    k0_pay1 (k0_pay13 (iota Kind.tc S2048x1 32 [0] iota_S2048x1_d0_w32) (k0_pay12 x)) (k0_pay14 w) s i
      = mixed 16 x w (ix2 (i 1) (i 2)) * s (ix2 (0 : Fin 1) (i 2)) := by
  have e : k0_pay13 (iota Kind.tc S2048x1 32 [0] iota_S2048x1_d0_w32) (k0_pay12 x)
      = meanLess 16#32 (stepDown 8#32 (stepDown 4#32 (stepDown 2#32 (stepDown 1#32 x)))) x := rfl
  rw [e, pooled_sixteen]
  exact closing_apply _ w s i

/-- The group's 128 columns of a sequence's token block. -/
def cols (x : S2048x512.Idx → EReal) (g : Fin 4) : S2048x128.Idx → EReal :=
  fun j => x (ix2 (j 0) ⟨g.val * 128 + (j 1).val, by have := g.isLt; have := show (j 1).val < 128 from (j 1).isLt; omega⟩)

/-- The pooled tokens of a group times the group's weight. -/
def product (x : S2048x512.Idx → EReal) (w : S4x128x128.Idx → EReal) (g : Fin 4) (t : Fin 2048) (d : Fin 128) : EReal :=
  ∑ k : Fin 128, pooled (width g.val) (cols x g) (ix2 t k) * w (ix3 g k d)

theorem group_lt {p : Nat} (h : p < 512) : p / 128 < 4 := by omega

/-- The pooling of one sequence's token block, at a token and a column. -/
def poolAt (x : S2048x512.Idx → EReal) (w : S4x128x128.Idx → EReal) (s : S1x512.Idx → EReal) (t : Fin 2048) (p : Fin 512) : EReal :=
  product x w ⟨p.val / 128, group_lt p.isLt⟩ t ⟨p.val % 128, Nat.mod_lt _ (by decide)⟩ * s (ix2 (0 : Fin 1) p)

/-- A group's piece, from what was loaded for it. -/
theorem piece (g : Fin 4) (x0 : S2048x512.Idx → EReal) (x1 : S4x128x128.Idx → EReal) (x2 : S1x512.Idx → EReal)
    (u : S2048x128.Idx → EReal) (w : S1x128x128.Idx → EReal) (s : S1x128.Idx → EReal) (hu : u = cols x0 g)
    (hw : ∀ k d : Fin 128, w (ix3 (0 : Fin 1) k d) = x1 (ix3 g k d))
    (hs : ∀ (d : Fin 128) (p : Fin 512), p.val = g.val * 128 + d.val → s (ix2 (0 : Fin 1) d) = x2 (ix2 (0 : Fin 1) p))
    (x : S1x2048x128.Idx) (t : Fin 2048) (p : Fin 512) (ht : t = x 1) (hp : p.val = g.val * 128 + (x 2).val) :
    mixed (width g.val) u w (ix2 (x 1) (x 2)) * s (ix2 (0 : Fin 1) (x 2)) = poolAt x0 x1 x2 t p := by
  have hx : (x 2).val < 128 := (x 2).isLt
  have eg : (⟨p.val / 128, group_lt p.isLt⟩ : Fin 4) = g := Fin.ext (by show p.val / 128 = g.val; omega)
  have ed : (⟨p.val % 128, Nat.mod_lt _ (by decide)⟩ : Fin 128) = x 2 := Fin.ext (by show p.val % 128 = (x 2).val; omega)
  unfold poolAt
  rw [eg, ed, hs (x 2) p hp, ht, hu]
  exact congrArg (· * _) (Finset.sum_congr rfl fun k _ => congrArg _ (hw k (x 2)))

theorem ld_cols (x0 : Vec Ideal S2048x512 .bf16) (g : Fin 4) (o : Nat) (ho : o = g.val * 128)
    (h : ∀ a, (![0, o] : Fin 2 → Nat) a + S2048x128.size a ≤ S2048x512.size a) :
    View.ld x0 (Rect.unit ![0, o] S2048x128.size h) = cols x0 g := by
  subst ho
  funext j
  exact View.ld_unit_apply_of x0 _ _ _ _ _ fun a => match a with
    | ⟨0, _⟩ => (Nat.zero_add _).symm | ⟨1, _⟩ => rfl

theorem ld_weight (x1 : Vec Ideal S4x128x128 .f32) (g : Fin 4) (h : ∀ a, (![g.val, 0, 0] : Fin 3 → Nat) a + S1x128x128.size a ≤ S4x128x128.size a)
    (k d : Fin 128) : View.ld x1 (Rect.unit ![g.val, 0, 0] S1x128x128.size h) (ix3 (0 : Fin 1) k d) = x1 (ix3 g k d) :=
  View.ld_unit_apply_of x1 _ _ _ _ _ fun a => match a with
    | ⟨0, _⟩ => rfl | ⟨1, _⟩ => (Nat.zero_add _).symm | ⟨2, _⟩ => (Nat.zero_add _).symm

theorem ld_scale (x2 : Vec Ideal S1x512 .f32) (o : Nat) (h : ∀ a, (![0, o] : Fin 2 → Nat) a + S1x128.size a ≤ S1x512.size a)
    (d : Fin 128) (p : Fin 512) (hp : p.val = o + d.val) :
    View.ld x2 (Rect.unit ![0, o] S1x128.size h) (ix2 (0 : Fin 1) d) = x2 (ix2 (0 : Fin 1) p) :=
  View.ld_unit_apply_of x2 _ _ _ _ _ fun a => match a with
    | ⟨0, _⟩ => rfl | ⟨1, _⟩ => hp

/-- What a point's body leaves in the output block: the pooling of the point's token block. -/
theorem out_apply (c : Dev nD) (i : grid0.Coords) (arg1 : Memref sig .tc .vmem S2048x512 .bf16) (harg1 : arg1.IsWhole) (arg2 : Memref sig .tc .vmem S4x128x128 .f32) (harg2 : arg2.IsWhole) (arg3 : Memref sig .tc .vmem S1x512 .f32) (harg3 : arg3.IsWhole) (arg5 : Memref sig .tc .vmem S1x2048x512 .bf16) (harg5 : arg5.IsWhole)
    (x0 : Vec Ideal S2048x512 .bf16) (x1 : Vec Ideal S4x128x128 .f32) (x2 : Vec Ideal S1x512 .f32) (y : S1x2048x512.Idx) :
    out0_A_3 c i arg1 harg1 arg2 harg2 arg3 harg3 arg5 harg5 x0 x1 x2 y = poolAt x0 x1 x2 (y 1) (y 2) := by
  have hc := cover0_A_3 c i arg1 harg1 arg2 harg2 arg3 harg3 arg5 harg5 x0 x1 x2
  unfold out0_A_3
  rw [View.read_writes_eq_canon _ _ _ hc]
  replace hc := hc y
  revert hc
  unfold kernelRun0_A
  dsimp only
  sl_unfold_words
  simp only [View.readAt_eq_ld, harg1.read_unread, harg2.read_unread, harg3.read_unread]
  intro hc
  refine View.canon_eq_of_allAt _ y _ hc fun p hp x hx => ?_
  rcases List.mem_cons.mp hp with rfl | hp
  · subst hx
    refine (group3 _ _ _ x).trans (piece 3 x0 x1 x2 _ _ _ (ld_cols x0 3 384 rfl _) (ld_weight x1 3 _) (ld_scale x2 384 _) x _ _ ?_ ?_)
    · exact Fin.ext (by show 0 + 1 * (x 1).val = (x 1).val; omega)
    · show 384 + 1 * (x 2).val = 384 + (x 2).val; omega
  rcases List.mem_cons.mp hp with rfl | hp
  · subst hx
    refine (group2 _ _ _ x).trans (piece 2 x0 x1 x2 _ _ _ (ld_cols x0 2 256 rfl _) (ld_weight x1 2 _) (ld_scale x2 256 _) x _ _ ?_ ?_)
    · exact Fin.ext (by show 0 + 1 * (x 1).val = (x 1).val; omega)
    · show 256 + 1 * (x 2).val = 256 + (x 2).val; omega
  rcases List.mem_cons.mp hp with rfl | hp
  · subst hx
    refine (group1 _ _ _ x).trans (piece 1 x0 x1 x2 _ _ _ (ld_cols x0 1 128 rfl _) (ld_weight x1 1 _) (ld_scale x2 128 _) x _ _ ?_ ?_)
    · exact Fin.ext (by show 0 + 1 * (x 1).val = (x 1).val; omega)
    · show 128 + 1 * (x 2).val = 128 + (x 2).val; omega
  obtain rfl := List.mem_singleton.mp hp
  subst hx
  refine (group0 _ _ _ x).trans (piece 0 x0 x1 x2 _ _ _ (ld_cols x0 0 0 rfl _) (ld_weight x1 0 _) (ld_scale x2 0 _) x _ _ ?_ ?_)
  · exact Fin.ext (by show 0 + 1 * (x 1).val = (x 1).val; omega)
  · show 0 + 1 * (x 2).val = 0 + (x 2).val; omega

/-- A sequence's tokens, of the projection's last 512 columns. -/
def tokens (x : S4096x2048.Idx → EReal) (b : Nat) (hb : b < 2) : S2048x512.Idx → EReal :=
  fun j => x (ix2 ⟨b * 2048 + (j 0).val, by have := show (j 0).val < 2048 from (j 0).isLt; omega⟩
    ⟨1536 + (j 1).val, by have := show (j 1).val < 512 from (j 1).isLt; omega⟩)

theorem seq_lt {r : Nat} (h : r < 4096) : r / 2048 < 2 := by omega

/-- The mixers' array after the pooling: its first half as it was, its second half the pooled tokens. -/
def pooling (x : S4096x2048.Idx → EReal) (w : S4x128x128.Idx → EReal) (s : S1x512.Idx → EReal) (a : S2x4096x512.Idx → EReal) :
    S2x4096x512.Idx → EReal :=
  fun i => if (i 0).val < 1 then a i
    else poolAt (tokens x ((i 1).val / 2048) (seq_lt (i 1).isLt)) w s ⟨(i 1).val % 2048, Nat.mod_lt _ (by decide)⟩ (i 2)

abbrev argX (c : Dev nD) : Vec Ideal S4096x2048 .bf16 := m ((c : Thread nD τ).loc main_arg0)
abbrev argW (c : Dev nD) : Vec Ideal S4x128x128 .f32 := m ((c : Thread nD τ).loc main_arg1)
abbrev argS (c : Dev nD) : Vec Ideal S1x512 .f32 := m ((c : Thread nD τ).loc main_arg2)
abbrev argA (c : Dev nD) : Vec Ideal S2x4096x512 .bf16 := m ((c : Thread nD τ).loc main_arg3)

abbrev result (c : Dev nD) : Buf (Elt Ideal) ((c : Thread nD τ).loc main_v0) :=
  pooling (argX m c) (argW m c) (argS m c) (argA m c)

theorem idx_facts : ∀ t : Fin grid0.N,
    (win0_0.index t 0 = t.val ∧ win0_0.index t 1 = 3) ∧ (win0_1.index t 0 = 0 ∧ win0_1.index t 1 = 0 ∧ win0_1.index t 2 = 0)
      ∧ (win0_2.index t 0 = 0 ∧ win0_2.index t 1 = 0) ∧ (win0_3.index t 0 = 1 ∧ win0_3.index t 1 = t.val ∧ win0_3.index t 2 = 0) := by
  decide +kernel

theorem N_lt (t : Fin cfg0.N) : t.val < 2 := by
  have h : cfg0.N = 2 := N_0
  have := t.isLt
  omega

theorem tokens_blk (c : Dev nD) (t : Fin cfg0.N) :
    (iblk m c 0 t : Vec Ideal S2048x512 .bf16) = tokens (argX m c) t.val (N_lt t) := by
  funext j
  unfold iblk
  rw [View.read_apply]
  show V m c main_arg0 _ = m ((c : Thread nD τ).loc main_arg0) _
  rw [V_main_arg0]
  congr 1
  funext a
  apply Fin.ext
  obtain ⟨⟨e0, e1⟩, -⟩ := idx_facts t
  match a with
  | ⟨0, _⟩ => show win0_0.index t 0 * 2048 + 1 * (j 0).val = t.val * 2048 + (j 0).val; rw [e0]; omega
  | ⟨1, _⟩ => show win0_0.index t 1 * 512 + 1 * (j 1).val = 1536 + (j 1).val; rw [e1]; omega

theorem weight_blk (c : Dev nD) (t : Fin cfg0.N) : (iblk m c 1 t : Vec Ideal S4x128x128 .f32) = argW m c := by
  funext j
  unfold iblk
  rw [View.read_apply]
  show V m c main_arg1 _ = m ((c : Thread nD τ).loc main_arg1) _
  rw [V_main_arg1]
  congr 1
  funext a
  apply Fin.ext
  obtain ⟨-, ⟨e0, e1, e2⟩, -⟩ := idx_facts t
  match a with
  | ⟨0, _⟩ => show win0_1.index t 0 * 4 + 1 * (j 0).val = (j 0).val; rw [e0]; omega
  | ⟨1, _⟩ => show win0_1.index t 1 * 128 + 1 * (j 1).val = (j 1).val; rw [e1]; omega
  | ⟨2, _⟩ => show win0_1.index t 2 * 128 + 1 * (j 2).val = (j 2).val; rw [e2]; omega

theorem scale_blk (c : Dev nD) (t : Fin cfg0.N) : (iblk m c 2 t : Vec Ideal S1x512 .f32) = argS m c := by
  funext j
  unfold iblk
  rw [View.read_apply]
  show V m c main_arg2 _ = m ((c : Thread nD τ).loc main_arg2) _
  rw [V_main_arg2]
  congr 1
  funext a
  apply Fin.ext
  obtain ⟨-, -, ⟨e0, e1⟩, -⟩ := idx_facts t
  match a with
  | ⟨0, _⟩ => show win0_2.index t 0 * 1 + 1 * (j 0).val = (j 0).val; rw [e0]; omega
  | ⟨1, _⟩ => show win0_2.index t 1 * 512 + 1 * (j 1).val = (j 1).val; rw [e1]; omega

/-- At an element of the second half, the pooling of the sequence the token is of. -/
theorem pooling_at (x : S4096x2048.Idx → EReal) (w : S4x128x128.Idx → EReal) (s : S1x512.Idx → EReal) (a : S2x4096x512.Idx → EReal)
    (b : Nat) (hb : b < 2) (i : S2x4096x512.Idx) (t : Fin 2048) (p : Fin 512) (h0 : (i 0).val = 1) (h1 : (i 1).val = b * 2048 + t.val)
    (h2 : i 2 = p) : pooling x w s a i = poolAt (tokens x b hb) w s t p := by
  have ht := t.isLt
  have eb : (i 1).val / 2048 = b := by omega
  have et : (⟨(i 1).val % 2048, Nat.mod_lt _ (by decide)⟩ : Fin 2048) = t := Fin.ext (by show (i 1).val % 2048 = t.val; omega)
  subst eb
  unfold pooling
  rw [if_neg (by omega), et]
  exact congrArg (poolAt _ w s t) h2

/-- What point `t` writes back is its block of the pooled array. -/
theorem flushed_eq (c : Dev nD) (t : Fin cfg0.N) :
    (dats m 0 c).flushed 3 t = ((cfg0.win 3).blk t).view.read (Elt Ideal) (result m c) := by
  rw [Value.flushed3_A]
  funext j
  show out0_A_3 c (grid0.coords t) (ms0_0 t) (hs0_0 t) (ms0_1 t) (hs0_1 t) (ms0_2 t) (hs0_2 t) (ms0_3 t) (hs0_3 t) (iblk m c 0 t) (iblk m c 1 t) (iblk m c 2 t) j = result m c (((cfg0.win 3).blk t).view.emb j)
  refine (out_apply c _ _ _ _ _ _ _ _ _ (iblk m c 0 t) (iblk m c 1 t) (iblk m c 2 t) j).trans ?_
  rw [tokens_blk, weight_blk, scale_blk]
  obtain ⟨-, -, -, e0, e1, e2⟩ := idx_facts t
  have h0 : ((((cfg0.win 3).blk t).view.emb j) 0).val = win0_3.index t 0 * 1 + 1 * (j 0).val := rfl
  have h1 : ((((cfg0.win 3).blk t).view.emb j) 1).val = win0_3.index t 1 * 2048 + 1 * (j 1).val := rfl
  have h2 : ((((cfg0.win 3).blk t).view.emb j) 2).val = win0_3.index t 2 * 512 + 1 * (j 2).val := rfl
  have l0 : (j 0).val < 1 := (j 0).isLt
  rw [e0] at h0
  rw [e1] at h1
  rw [e2] at h2
  exact (pooling_at _ _ _ _ t.val (N_lt t) _ (j 1) (j 2) (by omega) (by omega) (Fin.ext (by omega))).symm

theorem mem_blk (t : Fin cfg0.N) (i : S2x4096x512.Idx) (h0 : (i 0).val = 1) (h1 : (i 1).val / 2048 = t.val) :
    i ∈ ((cfg0.win 3).blk t).view.set := by
  show i ∈ ((View.whole main_v0).slice (win0_3.rect t)).set
  rw [View.set_slice_whole, Rect.mem_set_unit]
  have h2 : (i 2 : Nat) < 512 := (i 2).isLt
  obtain ⟨-, -, -, e0, e1, e2⟩ := idx_facts t
  intro a
  match a with
  | ⟨0, _⟩ =>
    show win0_3.index t 0 * 1 ≤ (i 0 : Nat) ∧ (i 0 : Nat) < win0_3.index t 0 * 1 + 1
    rw [e0]; omega
  | ⟨1, _⟩ =>
    show win0_3.index t 1 * 2048 ≤ (i 1 : Nat) ∧ (i 1 : Nat) < win0_3.index t 1 * 2048 + 2048
    rw [e1]; omega
  | ⟨2, _⟩ =>
    show win0_3.index t 2 * 512 ≤ (i 2 : Nat) ∧ (i 2 : Nat) < win0_3.index t 2 * 512 + 512
    rw [e2]; omega

theorem half_of_mem (t : Fin cfg0.N) (i : S2x4096x512.Idx) (h : i ∈ ((cfg0.win 3).blk t).view.set) : (i 0).val = 1 := by
  have h' : i ∈ ((View.whole main_v0).slice (win0_3.rect t)).set := h
  rw [View.set_slice_whole, Rect.mem_set_unit] at h'
  obtain ⟨-, -, -, e0, -⟩ := idx_facts t
  have h0 : win0_3.index t 0 * 1 ≤ (i 0 : Nat) ∧ (i 0 : Nat) < win0_3.index t 0 * 1 + 1 := h' 0
  rw [e0] at h0
  omega

/-- The array the kernel writes into begins as the argument. -/
theorem entry (c : Dev nD) : V m c main_v0 = m ((c : Thread nD τ).loc main_arg3) := by
  simp only [V, hostOps0, StableHlo.after_cons, StableHlo.after_nil]
  exact StableHlo.unary_result ..

/-- The final array is the pooled one. -/
theorem final (c : Dev nD) : (dats m 0 c).arrAt 3 cfg0.N = result m c := by
  funext i
  rw [(dats m 0 c).arrAt_eq_piecewise 3 (result m c) (fun t _ => flushed_eq m c t) i]
  split
  · rfl
  · next h =>
    have h0 : (i 0).val < 2 := (i 0).isLt
    have h1 : (i 1).val < 4096 := (i 1).isLt
    have hN : cfg0.N = 2 := N_0
    have hi : (i 0).val < 1 := by
      by_contra hc
      exact h ⟨⟨(i 1).val / 2048, by omega⟩, flush0_3 _, mem_blk _ i (by omega) rfl⟩
    rw [A_eq]
    show V m c main_v0 i = pooling _ _ _ _ i
    rw [entry]
    exact (if_pos hi).symm

/-- The run: the pooled array, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

section Reference

open Cert.Reference9Ideal.Read

/-- The reference's zero-or-one array: which tokens are in a group's window. -/
theorem ref_band (g : Fin 4) (t s : Fin 2048) :
    val_main_v30 (F := Ideal) (ix3 g t s) = if s.val ≤ t.val ∧ t.val < s.val + width g.val then 1 else 0 := by
  refine Eq.trans ?_ (band_eq g t s)
  pointwise [val_main_v30, val_main_v21, val_main_v20, val_main_v19, val_main_v18, val_main_v17, val_main_v16, val_main_v15, val_main_v14, val_main_v13, val_main_v12, val_main_v11, val_main_v10, val_main_v9, val_main_v8, val_main_v7, val_main_v6, val_main_v5, val_main_c, val_main_c_0]

/-- The reference's window counts. -/
theorem ref_count (g : Fin 4) (t : Fin 2048) :
    FloatOps.sitofp (F := Ideal) .f32 (IntOp.minsi (IntOp.addi (BitVec.ofNat 32 t.val) 1#32) (IntOp.shli ArithUnit.host 2#32 (BitVec.ofNat 32 g.val)))
      = count (width g.val) t.val := by
  have ht := t.isLt
  have hw := width_lt g
  rw [width_eq]
  exact count_eq (by omega) (by omega)

/-- The reference's pooled tokens. -/
theorem ref_pooled (x : Vec Ideal S4096x2048 .bf16) (b : Fin 2) (t : Fin 2048) (g : Fin 4) (k : Fin 128) :
    val_main_v36 (F := Ideal) x (ix4 b t g k) = pooled (width g.val) (cols (tokens x b.val b.isLt) g) (ix2 t k) := by
  pointwise [val_main_v36, val_main_v35, val_main_v34, val_main_v33, val_main_v32, val_main_v31, val_main_v29, val_main_v28, val_main_v27, val_main_v26, val_main_v25, val_main_v24, val_main_v23, val_main_v22, val_main_c_1, val_main_v8, val_main_v7, val_main_v6, val_main_v5, val_main_c, val_main_v4, val_main_v2, val_main_v1, val_main_v0]
  rw [ref_count]
  refine congrArg₂ (fun u v : EReal => Ideal.div u (count (width g.val) t.val) - v) (Finset.sum_congr rfl fun s _ => ?_) ?_
  · rw [ref_band, mul_ite, mul_one, mul_zero]
    refine if_congr Iff.rfl (congrArg x ?_) rfl
    exact funext fun a => Fin.ext (match a with | ⟨0, _⟩ => rfl | ⟨1, _⟩ => rfl)
  · exact congrArg x (funext fun a => Fin.ext (match a with | ⟨0, _⟩ => rfl | ⟨1, _⟩ => rfl))

/-- The reference's array. -/
theorem ref_eq (x : Vec Ideal S4096x2048 .bf16) (w : Vec Ideal S4x128x128 .f32) (s : Vec Ideal S1x512 .f32) (a : Vec Ideal S2x4096x512 .bf16) :
    val_main_v46 (F := Ideal) x w s a = pooling x w s a := by
  funext i
  pointwise [val_main_v46, val_main_v45, val_main_v44, val_main_v43, val_main_v42, val_main_v41, val_main_v40, val_main_v39, val_main_v38, val_main_v37, val_main_v3]
  refine if_congr Iff.rfl rfl (congrArg (· * s (ix2 (0 : Fin 1) (i 2))) (Finset.sum_congr rfl fun k _ => ?_))
  rw [mul_comm]
  refine congrArg (· * w _) ?_
  exact ref_pooled x _ _ _ k

end Reference

end Cert.Kernel9Ideal.PoolFwd

end
-- ==== Proof.CondFwd.lean ====
/- The conditioning kernel: a sequence's modulation is the product of its conditioning vector, put through the
   SiLU gate, with the weight's columns, and the bias. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise

@[expose] public section

set_option maxRecDepth 16384

noncomputable section

namespace Cert.Kernel10Ideal.CondFwd

open Cert.Kernel10Ideal Cert.Kernel10Ideal.Gen Idealize.ShloMosaic Idealize.ShloMosaic.TcCoe Idealize.SL.Sem
open scoped BigOperators

variable (m : (ℓ : Loc nD τ sig) → Buf (Elt Ideal) ℓ) (ρ : Dev nD → PrngReg)

/-- The gate `x ↦ x · σ(x)`. -/
def silu (x : EReal) : EReal := x * Ideal.logistic x

/-- The gated conditioning vectors times the weight, plus the bias. -/
def modulation (x : Vec Ideal S16x1024 .f32) (w : Vec Ideal S1024x768 .f32) (b : Vec Ideal S1x768 .f32) : Vec Ideal S16x768 .f32 :=
  fun i => (∑ k : Fin 1024, silu (x (ix2 (i 0) k)) * w (ix2 k (i 1))) + b (ix2 0 (i 1))

/-- What the kernel stores is the modulation. -/
theorem stored_eq (x : Vec Ideal S16x1024 .f32) (w : Vec Ideal S1024x768 .f32) (b : Vec Ideal S1x768 .f32) :
    k0_pay1 x w b = modulation x w b := by
  funext i
  pointwise [k0_pay1, modulation, silu]

abbrev result (c : Dev nD) : Buf (Elt Ideal) ((c : Thread nD τ).loc main_v0) :=
  modulation (m ((c : Thread nD τ).loc main_arg0)) (m ((c : Thread nD τ).loc main_arg1)) (m ((c : Thread nD τ).loc main_arg2))

/-- The run: the result array is the modulation and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (stored_eq _ _ _), (h c).2⟩) (Value.run m ρ)

/-- The reference's value is the same modulation. -/
theorem ref_eq (x : Vec Ideal S16x1024 .f32) (w : Vec Ideal S1024x768 .f32) (b : Vec Ideal S1x768 .f32) :
    Cert.Reference10Ideal.Read.val_main_v3 (F := Ideal) x w b = modulation x w b := by
  funext i
  pointwise [Cert.Reference10Ideal.Read.val_main_call0_v0, Cert.Reference10Ideal.Read.val_main_call0_v1, Cert.Reference10Ideal.Read.val_main_call0_cst, Cert.Reference10Ideal.Read.val_main_call0_v2, Cert.Reference10Ideal.Read.val_main_call0_v3, Cert.Reference10Ideal.Read.val_main_call0_cst_0, Cert.Reference10Ideal.Read.val_main_call0_v4, Cert.Reference10Ideal.Read.val_main_call0_v5, Cert.Reference10Ideal.Read.val_main_v0, Cert.Reference10Ideal.Read.val_main_v1, Cert.Reference10Ideal.Read.val_main_v2, Cert.Reference10Ideal.Read.val_main_v3, modulation, silu]
  rfl

end Cert.Kernel10Ideal.CondFwd

end
-- ==== Proof.AdamW.lean ====
/- One AdamW step of an array, element by element: the running means of the gradient and of its square, and the step. -/
module

public import Idealize.ShloMosaic.Lib.Pointwise

@[expose] public section

noncomputable section

namespace Cert.AdamW

open Idealize.ShloMosaic

/-- The running mean of the gradients after one more step: nine tenths of the old one and one tenth of the gradient
    (the factors are the numbers of type `f32` nearest to these). -/
def newMean {s : Shape} (g m : Vec Ideal s .f32) : Vec Ideal s .f32 :=
  fun i => Ideal.ofBits .f32 0x3F666666#32 * m i + Ideal.ofBits .f32 0x3DCCCCCD#32 * g i

/-- The running mean of the gradients' squares after one more step: 0.999 of the old one and 0.001 of the square. -/
def newSquare {s : Shape} (g v : Vec Ideal s .f32) : Vec Ideal s .f32 :=
  fun i => Ideal.ofBits .f32 0x3F7FBE77#32 * v i + Ideal.ofBits .f32 0x3A83126F#32 * (g i * g i)

/-- The step: minus the learning rate times the sum of the mean over the square root of the mean square, both put
    right for the start at zero, and of the weight decay. -/
def step {s : Shape} (w g m v : Vec Ideal s .f32) : Vec Ideal s .f32 := fun i =>
  Ideal.ofBits .f32 0xBA83126F#32
    * (Ideal.div (Ideal.div (newMean g m i) (Ideal.ofBits .f32 0x3F26BD02#32))
        (Ideal.sqrt (Ideal.div (newSquare g v i) (Ideal.ofBits .f32 0x3C231ACC#32)) + Ideal.ofBits .f32 0x322BCC77#32)
      + Ideal.ofBits .f32 0x3C23D70A#32 * w i)

/-! Each of the three reads its arrays at one element. -/

theorem newMean_congr {s s' : Shape} {g m : Vec Ideal s .f32} {g' m' : Vec Ideal s' .f32} {i : s.Idx} {j : s'.Idx}
    (hg : g i = g' j) (hm : m i = m' j) : newMean g m i = newMean g' m' j := by
  unfold newMean
  rw [hg, hm]

theorem newSquare_congr {s s' : Shape} {g v : Vec Ideal s .f32} {g' v' : Vec Ideal s' .f32} {i : s.Idx} {j : s'.Idx}
    (hg : g i = g' j) (hv : v i = v' j) : newSquare g v i = newSquare g' v' j := by
  unfold newSquare
  rw [hg, hv]

theorem step_congr {s s' : Shape} {w g m v : Vec Ideal s .f32} {w' g' m' v' : Vec Ideal s' .f32} {i : s.Idx} {j : s'.Idx}
    (hw : w i = w' j) (hg : g i = g' j) (hm : m i = m' j) (hv : v i = v' j) : step w g m v i = step w' g' m' v' j := by
  unfold step
  rw [newMean_congr hg hm, newSquare_congr hg hv, hw]

end Cert.AdamW

end
-- ==== Proof.CondBwd.lean ====
/- The backward pass of the conditioning layer with its optimiser step: the weight's gradient is the product of the
   gated conditioning vectors, transposed, with the modulation's gradient, the bias's gradient is that gradient's column
   sums, and each goes through one AdamW step. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.AdamW
public import Idealize.ShloMosaic.Lib.Pointwise

@[expose] public section

set_option maxRecDepth 16384

noncomputable section

namespace Cert.Kernel11Ideal.CondBwd

open Cert.AdamW Cert.Kernel11Ideal Cert.Kernel11Ideal.Gen Idealize.ShloMosaic Idealize.ShloMosaic.TcCoe Idealize.SL.Sem
open scoped BigOperators

variable (m : (ℓ : Loc nD τ sig) → Buf (Elt Ideal) ℓ) (ρ : Dev nD → PrngReg)

/-- The gate `x ↦ x · σ(x)`. -/
def silu (x : EReal) : EReal := x * Ideal.logistic x

/-- The weight's gradient: the gated conditioning vectors, transposed, times the modulation's gradient. -/
def gradW (x : Vec Ideal S16x1024 .f32) (d : Vec Ideal S16x768 .f32) : Vec Ideal S1024x768 .f32 :=
  fun i => ∑ k : Fin 16, silu (x (ix2 k (i 0))) * d (ix2 k (i 1))

/-- The bias's gradient: the sum over the sequences. -/
def gradB (d : Vec Ideal S16x6144 .f32) : Vec Ideal S1x6144 .f32 := fun i => ∑ k : Fin 16, d (ix2 k (i 1))

theorem stored_gradW (x : Vec Ideal S16x1024 .f32) (d : Vec Ideal S16x768 .f32) : k0_pay1 x d = gradW x d := by
  funext i
  pointwise [k0_pay1, gradW, silu]

theorem stored_gradB (d : Vec Ideal S16x6144 .f32) : k0_pay5 d = gradB d := by
  funext i
  pointwise [k0_pay5, gradB]

theorem stored_meanW (x : Vec Ideal S16x1024 .f32) (d : Vec Ideal S16x768 .f32) (v : Vec Ideal S1024x768 .f32) :
    k0_pay2 x d v = newMean (gradW x d) v := by
  rw [← stored_gradW]
  funext i
  pointwise [k0_pay2, newMean]

theorem stored_squareW (x : Vec Ideal S16x1024 .f32) (d : Vec Ideal S16x768 .f32) (v : Vec Ideal S1024x768 .f32) :
    k0_pay3 x d v = newSquare (gradW x d) v := by
  rw [← stored_gradW]
  funext i
  pointwise [k0_pay3, newSquare]

theorem stored_stepW (x : Vec Ideal S16x1024 .f32) (d : Vec Ideal S16x768 .f32) (w : Vec Ideal S1024x768 .f32) (u : Vec Ideal S1024x768 .f32) (v : Vec Ideal S1024x768 .f32) :
    k0_pay4 x d w u v = step w (gradW x d) u v := by
  rw [← stored_gradW]
  funext i
  pointwise [k0_pay4, k0_pay2, k0_pay3, step, newMean, newSquare]

theorem stored_meanB (d : Vec Ideal S16x6144 .f32) (v : Vec Ideal S1x6144 .f32) :
    k0_pay6 d v = newMean (gradB d) v := by
  rw [← stored_gradB]
  funext i
  pointwise [k0_pay6, newMean]

theorem stored_squareB (d : Vec Ideal S16x6144 .f32) (v : Vec Ideal S1x6144 .f32) :
    k0_pay7 d v = newSquare (gradB d) v := by
  rw [← stored_gradB]
  funext i
  pointwise [k0_pay7, newSquare]

theorem stored_stepB (d : Vec Ideal S16x6144 .f32) (w : Vec Ideal S1x6144 .f32) (u : Vec Ideal S1x6144 .f32) (v : Vec Ideal S1x6144 .f32) :
    k0_pay8 d w u v = step w (gradB d) u v := by
  rw [← stored_gradB]
  funext i
  pointwise [k0_pay8, k0_pay6, k0_pay7, step, newMean, newSquare]

abbrev rGradW (c : Dev nD) : Buf (Elt Ideal) ((c : Thread nD τ).loc main_v0_0) :=
  gradW (m ((c : Thread nD τ).loc main_arg0)) (m ((c : Thread nD τ).loc main_arg2))

abbrev rStepW (c : Dev nD) : Buf (Elt Ideal) ((c : Thread nD τ).loc main_v0_1) :=
  step (m ((c : Thread nD τ).loc main_arg3)) (gradW (m ((c : Thread nD τ).loc main_arg0)) (m ((c : Thread nD τ).loc main_arg2))) (m ((c : Thread nD τ).loc main_arg4)) (m ((c : Thread nD τ).loc main_arg5))

abbrev rMeanW (c : Dev nD) : Buf (Elt Ideal) ((c : Thread nD τ).loc main_v0_2) :=
  newMean (gradW (m ((c : Thread nD τ).loc main_arg0)) (m ((c : Thread nD τ).loc main_arg2))) (m ((c : Thread nD τ).loc main_arg4))

abbrev rSquareW (c : Dev nD) : Buf (Elt Ideal) ((c : Thread nD τ).loc main_v0_3) :=
  newSquare (gradW (m ((c : Thread nD τ).loc main_arg0)) (m ((c : Thread nD τ).loc main_arg2))) (m ((c : Thread nD τ).loc main_arg5))

abbrev rGradB (c : Dev nD) : Buf (Elt Ideal) ((c : Thread nD τ).loc main_v0_4) :=
  gradB (m ((c : Thread nD τ).loc main_arg1))

abbrev rStepB (c : Dev nD) : Buf (Elt Ideal) ((c : Thread nD τ).loc main_v0_5) :=
  step (m ((c : Thread nD τ).loc main_arg6)) (gradB (m ((c : Thread nD τ).loc main_arg1))) (m ((c : Thread nD τ).loc main_arg7)) (m ((c : Thread nD τ).loc main_arg8))

abbrev rMeanB (c : Dev nD) : Buf (Elt Ideal) ((c : Thread nD τ).loc main_v0_6) :=
  newMean (gradB (m ((c : Thread nD τ).loc main_arg1))) (m ((c : Thread nD τ).loc main_arg7))

abbrev rSquareB (c : Dev nD) : Buf (Elt Ideal) ((c : Thread nD τ).loc main_v0_7) :=
  newSquare (gradB (m ((c : Thread nD τ).loc main_arg1))) (m ((c : Thread nD τ).loc main_arg8))

/-- The run: the results are the two gradients with their optimiser steps, and the arguments are unchanged. -/
theorem run : θ_run defs (onTc (τ := τ) (main (F := Ideal))) ⟨m, fun _ => 0, ρ⟩ fun r => ∀ c : Dev nD,
      r.2.mem ((c : Thread nD τ).loc main_v0_0) = rGradW m c
      ∧ r.2.mem ((c : Thread nD τ).loc main_v0_1) = rStepW m c
      ∧ r.2.mem ((c : Thread nD τ).loc main_v0_2) = rMeanW m c
      ∧ r.2.mem ((c : Thread nD τ).loc main_v0_3) = rSquareW m c
      ∧ r.2.mem ((c : Thread nD τ).loc main_v0_4) = rGradB m c
      ∧ r.2.mem ((c : Thread nD τ).loc main_v0_5) = rStepB m c
      ∧ r.2.mem ((c : Thread nD τ).loc main_v0_6) = rMeanB m c
      ∧ r.2.mem ((c : Thread nD τ).loc main_v0_7) = rSquareB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (stored_gradW _ _),
      (h c).2.1.trans (stored_stepW _ _ _ _ _),
      (h c).2.2.1.trans (stored_meanW _ _ _),
      (h c).2.2.2.1.trans (stored_squareW _ _ _),
      (h c).2.2.2.2.1.trans (stored_gradB _),
      (h c).2.2.2.2.2.1.trans (stored_stepB _ _ _ _),
      (h c).2.2.2.2.2.2.1.trans (stored_meanB _ _),
      (h c).2.2.2.2.2.2.2.1.trans (stored_squareB _ _), (h c).2.2.2.2.2.2.2.2⟩) (Value.run m ρ)

/-- The reference's gradient of the weight is the same: its products have their factors the other way round. -/
theorem ref_gradW (x : Vec Ideal S16x1024 .f32) (d : Vec Ideal S16x768 .f32) : Cert.Reference11Ideal.Read.val_main_v3 x d = gradW x d := by
  have e : Cert.Reference11Ideal.Read.val_main_v3 (F := Ideal) x d = fun i => ∑ k : Fin 16, d (ix2 k (i 1)) * silu (x (ix2 k (i 0))) := by
    funext i
    pointwise [Cert.Reference11Ideal.Read.val_main_v3, Cert.Reference11Ideal.Read.val_main_v2, Cert.Reference11Ideal.Read.val_main_v0, Cert.Reference11Ideal.Read.val_main_call0_v0, Cert.Reference11Ideal.Read.val_main_call0_v1, Cert.Reference11Ideal.Read.val_main_call0_cst, Cert.Reference11Ideal.Read.val_main_call0_v2, Cert.Reference11Ideal.Read.val_main_call0_v3, Cert.Reference11Ideal.Read.val_main_call0_cst_0, Cert.Reference11Ideal.Read.val_main_call0_v4, Cert.Reference11Ideal.Read.val_main_call0_v5, silu]
    rfl
  rw [e]
  exact funext fun i => Finset.sum_congr rfl fun k _ => mul_comm _ _

theorem ref_gradB (d : Vec Ideal S16x6144 .f32) : Cert.Reference11Ideal.Read.val_main_v12 (F := Ideal) d = gradB d := by
  funext i
  pointwise [Cert.Reference11Ideal.Read.val_main_v12, Cert.Reference11Ideal.Read.val_main_v11, Cert.Reference11Ideal.Read.val_main_v10, Cert.Reference11Ideal.Read.val_main_v9, Cert.Reference11Ideal.Read.val_main_cst_0, Cert.Reference11Ideal.Read.val_main_cst_1, gradB]
  exact Fin.sum_univ_one _

theorem ref_meanW (x : Vec Ideal S16x1024 .f32) (d : Vec Ideal S16x768 .f32) (v : Vec Ideal S1024x768 .f32) :
    Cert.Reference11Ideal.Read.val_main_v17 x d v = newMean (gradW x d) v := by
  rw [← ref_gradW]
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_v13, Cert.Reference11Ideal.Read.val_main_v14, Cert.Reference11Ideal.Read.val_main_cst_3, Cert.Reference11Ideal.Read.val_main_v15, Cert.Reference11Ideal.Read.val_main_v16, Cert.Reference11Ideal.Read.val_main_v17, Cert.Reference11Ideal.Read.val_main_cst_4, Cert.Reference11Ideal.Read.val_main_cst_5, Cert.Reference11Ideal.Read.val_main_cst_6, Cert.Reference11Ideal.Read.val_main_cst_7, Cert.Reference11Ideal.Read.val_main_cst_8, Cert.Reference11Ideal.Read.val_main_cst_9, Cert.Reference11Ideal.Read.val_main_cst_10, Cert.Reference11Ideal.Read.val_main_cst_11, Cert.Reference11Ideal.Read.val_main_cst_12, Cert.Reference11Ideal.Read.val_main_cst_13, Cert.Reference11Ideal.Read.val_main_cst_14, Cert.Reference11Ideal.Read.val_main_cst_15, Cert.Reference11Ideal.Read.val_main_cst_16, Cert.Reference11Ideal.Read.val_main_cst_17, Cert.Reference11Ideal.Read.val_main_cst_18, Cert.Reference11Ideal.Read.val_main_cst_19, newMean]

theorem ref_squareW (x : Vec Ideal S16x1024 .f32) (d : Vec Ideal S16x768 .f32) (v : Vec Ideal S1024x768 .f32) :
    Cert.Reference11Ideal.Read.val_main_v23 x d v = newSquare (gradW x d) v := by
  rw [← ref_gradW]
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_v18, Cert.Reference11Ideal.Read.val_main_v19, Cert.Reference11Ideal.Read.val_main_v20, Cert.Reference11Ideal.Read.val_main_cst_5, Cert.Reference11Ideal.Read.val_main_v21, Cert.Reference11Ideal.Read.val_main_v22, Cert.Reference11Ideal.Read.val_main_v23, Cert.Reference11Ideal.Read.val_main_cst_6, Cert.Reference11Ideal.Read.val_main_cst_7, Cert.Reference11Ideal.Read.val_main_cst_8, Cert.Reference11Ideal.Read.val_main_cst_9, Cert.Reference11Ideal.Read.val_main_cst_10, Cert.Reference11Ideal.Read.val_main_cst_11, Cert.Reference11Ideal.Read.val_main_cst_12, Cert.Reference11Ideal.Read.val_main_cst_13, Cert.Reference11Ideal.Read.val_main_cst_14, Cert.Reference11Ideal.Read.val_main_cst_15, Cert.Reference11Ideal.Read.val_main_cst_16, Cert.Reference11Ideal.Read.val_main_cst_17, Cert.Reference11Ideal.Read.val_main_cst_18, Cert.Reference11Ideal.Read.val_main_cst_19, newSquare]

theorem ref_stepW (x : Vec Ideal S16x1024 .f32) (d : Vec Ideal S16x768 .f32) (w : Vec Ideal S1024x768 .f32) (u : Vec Ideal S1024x768 .f32) (v : Vec Ideal S1024x768 .f32) :
    Cert.Reference11Ideal.Read.val_main_v36 x d w u v = step w (gradW x d) u v := by
  rw [← ref_gradW]
  have e1 := ref_meanW x d u
  have e2 := ref_squareW x d v
  rw [← ref_gradW] at e1 e2
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_v24, Cert.Reference11Ideal.Read.val_main_v25, Cert.Reference11Ideal.Read.val_main_cst_7, Cert.Reference11Ideal.Read.val_main_v26, Cert.Reference11Ideal.Read.val_main_v27, Cert.Reference11Ideal.Read.val_main_v28, Cert.Reference11Ideal.Read.val_main_cst_8, Cert.Reference11Ideal.Read.val_main_v29, Cert.Reference11Ideal.Read.val_main_v30, Cert.Reference11Ideal.Read.val_main_v31, Cert.Reference11Ideal.Read.val_main_cst_9, Cert.Reference11Ideal.Read.val_main_v32, Cert.Reference11Ideal.Read.val_main_v33, Cert.Reference11Ideal.Read.val_main_v34, Cert.Reference11Ideal.Read.val_main_cst_10, Cert.Reference11Ideal.Read.val_main_v35, Cert.Reference11Ideal.Read.val_main_v36, Cert.Reference11Ideal.Read.val_main_cst_11, Cert.Reference11Ideal.Read.val_main_cst_12, Cert.Reference11Ideal.Read.val_main_cst_13, Cert.Reference11Ideal.Read.val_main_cst_14, Cert.Reference11Ideal.Read.val_main_cst_15, Cert.Reference11Ideal.Read.val_main_cst_16, Cert.Reference11Ideal.Read.val_main_cst_17, Cert.Reference11Ideal.Read.val_main_cst_18, Cert.Reference11Ideal.Read.val_main_cst_19, step, e1, e2]

theorem ref_meanB (d : Vec Ideal S16x6144 .f32) (v : Vec Ideal S1x6144 .f32) :
    Cert.Reference11Ideal.Read.val_main_v41 d v = newMean (gradB d) v := by
  rw [← ref_gradB]
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7, Cert.Reference11Ideal.Read.val_main_cst_8, Cert.Reference11Ideal.Read.val_main_cst_9, Cert.Reference11Ideal.Read.val_main_cst_10, Cert.Reference11Ideal.Read.val_main_cst_11, Cert.Reference11Ideal.Read.val_main_v37, Cert.Reference11Ideal.Read.val_main_v38, Cert.Reference11Ideal.Read.val_main_cst_12, Cert.Reference11Ideal.Read.val_main_v39, Cert.Reference11Ideal.Read.val_main_v40, Cert.Reference11Ideal.Read.val_main_v41, Cert.Reference11Ideal.Read.val_main_cst_13, Cert.Reference11Ideal.Read.val_main_cst_14, Cert.Reference11Ideal.Read.val_main_cst_15, Cert.Reference11Ideal.Read.val_main_cst_16, Cert.Reference11Ideal.Read.val_main_cst_17, Cert.Reference11Ideal.Read.val_main_cst_18, Cert.Reference11Ideal.Read.val_main_cst_19, newMean]

theorem ref_squareB (d : Vec Ideal S16x6144 .f32) (v : Vec Ideal S1x6144 .f32) :
    Cert.Reference11Ideal.Read.val_main_v47 d v = newSquare (gradB d) v := by
  rw [← ref_gradB]
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7, Cert.Reference11Ideal.Read.val_main_cst_8, Cert.Reference11Ideal.Read.val_main_cst_9, Cert.Reference11Ideal.Read.val_main_cst_10, Cert.Reference11Ideal.Read.val_main_cst_11, Cert.Reference11Ideal.Read.val_main_cst_12, Cert.Reference11Ideal.Read.val_main_cst_13, Cert.Reference11Ideal.Read.val_main_v42, Cert.Reference11Ideal.Read.val_main_v43, Cert.Reference11Ideal.Read.val_main_v44, Cert.Reference11Ideal.Read.val_main_cst_14, Cert.Reference11Ideal.Read.val_main_v45, Cert.Reference11Ideal.Read.val_main_v46, Cert.Reference11Ideal.Read.val_main_v47, Cert.Reference11Ideal.Read.val_main_cst_15, Cert.Reference11Ideal.Read.val_main_cst_16, Cert.Reference11Ideal.Read.val_main_cst_17, Cert.Reference11Ideal.Read.val_main_cst_18, Cert.Reference11Ideal.Read.val_main_cst_19, newSquare]

theorem ref_stepB (d : Vec Ideal S16x6144 .f32) (w : Vec Ideal S1x6144 .f32) (u : Vec Ideal S1x6144 .f32) (v : Vec Ideal S1x6144 .f32) :
    Cert.Reference11Ideal.Read.val_main_v60 d w u v = step w (gradB d) u v := by
  rw [← ref_gradB]
  have e1 := ref_meanB d u
  have e2 := ref_squareB d v
  rw [← ref_gradB] at e1 e2
  funext i
  pointwise [Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7, Cert.Reference11Ideal.Read.val_main_cst_8, Cert.Reference11Ideal.Read.val_main_cst_9, Cert.Reference11Ideal.Read.val_main_cst_10, Cert.Reference11Ideal.Read.val_main_cst_11, Cert.Reference11Ideal.Read.val_main_cst_12, Cert.Reference11Ideal.Read.val_main_cst_13, Cert.Reference11Ideal.Read.val_main_cst_14, Cert.Reference11Ideal.Read.val_main_cst_15, Cert.Reference11Ideal.Read.val_main_v48, Cert.Reference11Ideal.Read.val_main_v49, Cert.Reference11Ideal.Read.val_main_cst_16, Cert.Reference11Ideal.Read.val_main_v50, Cert.Reference11Ideal.Read.val_main_v51, Cert.Reference11Ideal.Read.val_main_v52, Cert.Reference11Ideal.Read.val_main_cst_17, Cert.Reference11Ideal.Read.val_main_v53, Cert.Reference11Ideal.Read.val_main_v54, Cert.Reference11Ideal.Read.val_main_v55, Cert.Reference11Ideal.Read.val_main_cst_18, Cert.Reference11Ideal.Read.val_main_v56, Cert.Reference11Ideal.Read.val_main_v57, Cert.Reference11Ideal.Read.val_main_v58, Cert.Reference11Ideal.Read.val_main_cst_19, Cert.Reference11Ideal.Read.val_main_v59, Cert.Reference11Ideal.Read.val_main_v60, step, e1, e2]

end Cert.Kernel11Ideal.CondBwd

end
-- ==== Proof.StepOut.lean ====
/- The gradient of the output projection’s weight, summed over the devices, and its optimiser step: the device’s own part,
   found by the device’s number, plus the seven parts received, then one AdamW step. -/
module

public import proofs.«01_k».proof.Proof.Gen.Kernel12Ideal.Frame
public import proofs.«01_k».proof.Proof.Gen.Kernel12.Frame
public import proofs.«01_k».proof.Proof.Gen.Reference12Ideal.Run
public import proofs.«01_k».proof.Proof.Gen.Reference12Ideal.Read
public import proofs.«01_k».proof.Proof.Gen.Pre_device12
public import proofs.«01_k».proof.Proof.AdamW
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Kernel12Ideal.StepOut

open Cert.AdamW Cert.Kernel12Ideal Cert.Kernel12Ideal.Gen Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The device’s number -/

/-- The one index of the device’s number. -/
abbrev at0 : S1.Idx := ix1 (0 : Fin 1)

theorem idx_one (x : S1.Idx) : x = at0 :=
  funext fun a => by
    obtain rfl : a = 0 := Subsingleton.elim _ _
    exact Fin.ext (by have := (x 0).isLt; show (x 0).val = 0; change (x 0).val < 1 at this; omega)

/-- A word between 0 and 7 as a signed number is one of the first eight words. -/
theorem small_word (v : BitVec 32) (h1 : IntOp.cmpi .sge v 0#32 = 1#1) (h2 : IntOp.cmpi .slt v 8#32 = 1#1) : v.toNat < 8 := by
  have ofBool_one (p : Bool) : (BitVec.ofBool p = 1#1) ↔ p = true := by cases p <;> decide
  simp only [IntOp.cmpi, ofBool_one, BitVec.sle, BitVec.slt, decide_eq_true_eq, BitVec.toInt] at h1 h2
  simp at h1 h2
  have := v.isLt
  split at h1 <;> split at h2 <;> omega

/-- The precondition’s reading: the device’s number is one of the eight. -/
theorem me_lt {F : FTy → Type} [FloatOps F] (x : IVec Cert.Pre_device12.S1 32) (a b d e f)
    (h : Cert.Pre_device12.fn (F := F) x a b d e f = fun _ => 1#1) (w : Cert.Pre_device12.S1.Idx) : (x w).toNat < 8 := by
  have andi_one (a b : BitVec 1) : IntOp.andi a b = 1#1 ↔ a = 1#1 ∧ b = 1#1 := by revert a b; decide
  have pre := congrFun h w
  simp only [Cert.Pre_device12.fn, constantI, broadcastInDim, cmpi, andi, andi_one] at pre
  exact small_word _ pre.1 pre.2

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x128x256.size a ≤ S1x8x128x1024.size a := by
    intro a
    rw [own_index (tbl m) i]
    match a with
    | ⟨0, _⟩ => show (0 + 1) * 1 ≤ 1; omega
    | ⟨1, _⟩ =>
      show (BitVec.toNat (m (((0 : Dev nD) : Thread nD τ).loc main_arg0) at0) + 1) * 1 ≤ 8
      omega
    | ⟨2, _⟩ => show (0 + 1) * 128 ≤ 128; omega
    | ⟨3, _⟩ => show ((i 0).val + 1) * 256 ≤ 1024; omega
  exact ⟨hb, .inr (Affine.block_words_dvd (of_decide_eq_true rfl) (by decide))⟩

/-! ## One tile -/

/-- The gradient of a tile: the own part plus the seven parts received. -/
def tileG (x0 : Vec Ideal S1x1x128x256 .bf16) (x1 : Vec Ideal S1x7x128x256 .bf16) : Vec Ideal S128x256 .f32 :=
  fun i => x0 (ix4 0 0 (i 0) (i 1)) + ∑ k : Fin 7, x1 (ix4 0 k (i 0) (i 1))

/-- A received part of the block. -/
def part (x1 : Vec Ideal S1x7x128x256 .bf16) (k : Fin 7) : Vec Ideal S1x1x128x256 .bf16 := fun i => x1 (ix4 0 k (i 2) (i 3))

theorem ld_part (x1 : Vec Ideal S1x7x128x256 .bf16) (k : Fin 7)
    (h : ∀ a, (![0, k.val, 0, 0] : Fin 4 → Nat) a + S1x1x128x256.size a ≤ S1x7x128x256.size a) :
    View.ld x1 (Rect.unit ![0, k.val, 0, 0] S1x1x128x256.size h) = part x1 k := by
  funext j
  have l0 : (j 0).val < 1 := (j 0).isLt
  have l1 : (j 1).val < 1 := (j 1).isLt
  exact View.ld_unit_apply_of x1 _ _ _ _ _ fun a => match a with
    | ⟨0, _⟩ => by show 0 = 0 + (j 0).val; omega
    | ⟨1, _⟩ => by show k.val = k.val + (j 1).val; omega
    | ⟨2, _⟩ => (Nat.zero_add _).symm
    | ⟨3, _⟩ => (Nat.zero_add _).symm

theorem ld_part0 (x1 : Vec Ideal S1x7x128x256 .bf16) :
    View.ld x1 (Rect.unit ![0, 0, 0, 0] ![1, 1, 128, 256] inb_S1x7x128x256_S1x1x128x256_0_0_0_0) = part x1 0 :=
  ld_part x1 0 inb_S1x7x128x256_S1x1x128x256_0_0_0_0

theorem ld_part1 (x1 : Vec Ideal S1x7x128x256 .bf16) :
    View.ld x1 (Rect.unit ![0, 1, 0, 0] ![1, 1, 128, 256] inb_S1x7x128x256_S1x1x128x256_0_1_0_0) = part x1 1 :=
  ld_part x1 1 inb_S1x7x128x256_S1x1x128x256_0_1_0_0

theorem ld_part2 (x1 : Vec Ideal S1x7x128x256 .bf16) :
    View.ld x1 (Rect.unit ![0, 2, 0, 0] ![1, 1, 128, 256] inb_S1x7x128x256_S1x1x128x256_0_2_0_0) = part x1 2 :=
  ld_part x1 2 inb_S1x7x128x256_S1x1x128x256_0_2_0_0

theorem ld_part3 (x1 : Vec Ideal S1x7x128x256 .bf16) :
    View.ld x1 (Rect.unit ![0, 3, 0, 0] ![1, 1, 128, 256] inb_S1x7x128x256_S1x1x128x256_0_3_0_0) = part x1 3 :=
  ld_part x1 3 inb_S1x7x128x256_S1x1x128x256_0_3_0_0

theorem ld_part4 (x1 : Vec Ideal S1x7x128x256 .bf16) :
    View.ld x1 (Rect.unit ![0, 4, 0, 0] ![1, 1, 128, 256] inb_S1x7x128x256_S1x1x128x256_0_4_0_0) = part x1 4 :=
  ld_part x1 4 inb_S1x7x128x256_S1x1x128x256_0_4_0_0

theorem ld_part5 (x1 : Vec Ideal S1x7x128x256 .bf16) :
    View.ld x1 (Rect.unit ![0, 5, 0, 0] ![1, 1, 128, 256] inb_S1x7x128x256_S1x1x128x256_0_5_0_0) = part x1 5 :=
  ld_part x1 5 inb_S1x7x128x256_S1x1x128x256_0_5_0_0

theorem ld_part6 (x1 : Vec Ideal S1x7x128x256 .bf16) :
    View.ld x1 (Rect.unit ![0, 6, 0, 0] ![1, 1, 128, 256] inb_S1x7x128x256_S1x1x128x256_0_6_0_0) = part x1 6 :=
  ld_part x1 6 inb_S1x7x128x256_S1x1x128x256_0_6_0_0

theorem stored_grad (x0 : Vec Ideal S1x1x128x256 .bf16) (x1 : Vec Ideal S1x7x128x256 .bf16) :
    k0_pay2 (k0_pay1 x0 (part x1 0) (part x1 1) (part x1 2) (part x1 3) (part x1 4) (part x1 5)) (part x1 6) = tileG x0 x1 := by
  funext i
  have e : tileG x0 x1 i = x0 (ix4 0 0 (i 0) (i 1)) + x1 (ix4 0 0 (i 0) (i 1)) + x1 (ix4 0 1 (i 0) (i 1))
      + x1 (ix4 0 2 (i 0) (i 1)) + x1 (ix4 0 3 (i 0) (i 1)) + x1 (ix4 0 4 (i 0) (i 1)) + x1 (ix4 0 5 (i 0) (i 1))
      + x1 (ix4 0 6 (i 0) (i 1)) := by
    unfold tileG
    rw [Fin.sum_univ_seven]
    simp only [add_assoc]
  rw [e]
  pointwise [k0_pay1, k0_pay2, part]

theorem stored_mean (x0 : Vec Ideal S1x1x128x256 .bf16) (x1 : Vec Ideal S1x7x128x256 .bf16) (v : Vec Ideal S128x256 .f32) :
    k0_pay3 (k0_pay1 x0 (part x1 0) (part x1 1) (part x1 2) (part x1 3) (part x1 4) (part x1 5)) (part x1 6) v = newMean (tileG x0 x1) v := by
  rw [← stored_grad]
  funext i
  pointwise [k0_pay3, newMean]

theorem stored_square (x0 : Vec Ideal S1x1x128x256 .bf16) (x1 : Vec Ideal S1x7x128x256 .bf16) (v : Vec Ideal S128x256 .f32) :
    k0_pay4 (k0_pay1 x0 (part x1 0) (part x1 1) (part x1 2) (part x1 3) (part x1 4) (part x1 5)) (part x1 6) v = newSquare (tileG x0 x1) v := by
  rw [← stored_grad]
  funext i
  pointwise [k0_pay4, newSquare]

theorem stored_step (x0 : Vec Ideal S1x1x128x256 .bf16) (x1 : Vec Ideal S1x7x128x256 .bf16) (w u v : Vec Ideal S128x256 .f32) :
    k0_pay5 (k0_pay1 x0 (part x1 0) (part x1 1) (part x1 2) (part x1 3) (part x1 4) (part x1 5)) (part x1 6) w u v = step w (tileG x0 x1) u v := by
  rw [← stored_grad]
  funext i
  pointwise [k0_pay5, k0_pay3, k0_pay4, step, newMean, newSquare]

theorem out_5 (c : Dev nD) (i : grid0.Coords) (arg2 : Memref sig .tc .vmem S1x1x128x256 .bf16) (harg2 : arg2.IsWhole) (arg3 : Memref sig .tc .vmem S1x7x128x256 .bf16) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec Ideal S1x1x128x256 .bf16) (x1 : Vec Ideal S1x7x128x256 .bf16) (x2 x3 x4 : Vec Ideal S128x256 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0 = tileG x0 x1 := by
  have hc := cover0_A_5 c i arg2 harg2 arg3 harg3 arg4 harg4 arg5 harg5 arg6 harg6 arg7 harg7 arg8 harg8 arg9 harg9 arg10 harg10 x0 x1 x2 x3 x4 xt0
  unfold out0_A_5
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_grad x0 x1]
  rw [View.ld_unit_zero hz4, ld_part0, ld_part1, ld_part2, ld_part3, ld_part4, ld_part5, ld_part6]

theorem out_6 (c : Dev nD) (i : grid0.Coords) (arg2 : Memref sig .tc .vmem S1x1x128x256 .bf16) (harg2 : arg2.IsWhole) (arg3 : Memref sig .tc .vmem S1x7x128x256 .bf16) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec Ideal S1x1x128x256 .bf16) (x1 : Vec Ideal S1x7x128x256 .bf16) (x2 x3 x4 : Vec Ideal S128x256 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0 = step x2 (tileG x0 x1) x3 x4 := by
  have hc := cover0_A_6 c i arg2 harg2 arg3 harg3 arg4 harg4 arg5 harg5 arg6 harg6 arg7 harg7 arg8 harg8 arg9 harg9 arg10 harg10 x0 x1 x2 x3 x4 xt0
  unfold out0_A_6
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_step x0 x1 x2 x3 x4]
  rw [View.ld_unit_zero hz4, ld_part0, ld_part1, ld_part2, ld_part3, ld_part4, ld_part5, ld_part6]
  rw [View.ld_unit_zero hz2, View.ld_unit_zero hz2, View.ld_unit_zero hz2]

theorem out_7 (c : Dev nD) (i : grid0.Coords) (arg2 : Memref sig .tc .vmem S1x1x128x256 .bf16) (harg2 : arg2.IsWhole) (arg3 : Memref sig .tc .vmem S1x7x128x256 .bf16) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec Ideal S1x1x128x256 .bf16) (x1 : Vec Ideal S1x7x128x256 .bf16) (x2 x3 x4 : Vec Ideal S128x256 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0 = newMean (tileG x0 x1) x3 := by
  have hc := cover0_A_7 c i arg2 harg2 arg3 harg3 arg4 harg4 arg5 harg5 arg6 harg6 arg7 harg7 arg8 harg8 arg9 harg9 arg10 harg10 x0 x1 x2 x3 x4 xt0
  unfold out0_A_7
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_mean x0 x1 x3]
  rw [View.ld_unit_zero hz4, ld_part0, ld_part1, ld_part2, ld_part3, ld_part4, ld_part5, ld_part6]
  rw [View.ld_unit_zero hz2]

theorem out_8 (c : Dev nD) (i : grid0.Coords) (arg2 : Memref sig .tc .vmem S1x1x128x256 .bf16) (harg2 : arg2.IsWhole) (arg3 : Memref sig .tc .vmem S1x7x128x256 .bf16) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec Ideal S1x1x128x256 .bf16) (x1 : Vec Ideal S1x7x128x256 .bf16) (x2 x3 x4 : Vec Ideal S128x256 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0 = newSquare (tileG x0 x1) x4 := by
  have hc := cover0_A_8 c i arg2 harg2 arg3 harg3 arg4 harg4 arg5 harg5 arg6 harg6 arg7 harg7 arg8 harg8 arg9 harg9 arg10 harg10 x0 x1 x2 x3 x4 xt0
  unfold out0_A_8
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_square x0 x1 x4]
  rw [View.ld_unit_zero hz4, ld_part0, ld_part1, ld_part2, ld_part3, ld_part4, ld_part5, ld_part6]
  rw [View.ld_unit_zero hz2]

/-! ## The arrays -/

/-- The gradient of the weight: the device’s own part plus the seven parts received. -/
def grad (me : IVec S1 32) (own : Vec Ideal S1x8x128x1024 .bf16) (recv : Vec Ideal S1x7x128x1024 .bf16) : Vec Ideal S128x1024 .f32 :=
  fun i => own (ix4 0 (Fin.ofNat 8 (BitVec.toNat (me at0))) (i 0) (i 1)) + ∑ k : Fin 7, recv (ix4 0 k (i 0) (i 1))

abbrev rGrad (c : Dev nD) : Buf (Elt Ideal) ((c : Thread nD τ).loc main_v0_0) :=
  grad (m ((c : Thread nD τ).loc main_arg0)) (m ((c : Thread nD τ).loc main_arg1)) (m ((c : Thread nD τ).loc main_arg2))
abbrev rStep (c : Dev nD) : Buf (Elt Ideal) ((c : Thread nD τ).loc main_v0_1) :=
  step (m ((c : Thread nD τ).loc main_arg3)) (rGrad m c) (m ((c : Thread nD τ).loc main_arg4)) (m ((c : Thread nD τ).loc main_arg5))
abbrev rMean (c : Dev nD) : Buf (Elt Ideal) ((c : Thread nD τ).loc main_v0_2) :=
  newMean (rGrad m c) (m ((c : Thread nD τ).loc main_arg4))
abbrev rSquare (c : Dev nD) : Buf (Elt Ideal) ((c : Thread nD τ).loc main_v0_3) :=
  newSquare (rGrad m c) (m ((c : Thread nD τ).loc main_arg5))

theorem point (t : Fin grid0.N) : (grid0.coords t 0).val = t.val := by
  revert t; decide +kernel

theorem idx_1 : ∀ t : Fin grid0.N, cc0_transform_1 (grid0.coords t) 0 = 0 ∧ cc0_transform_1 (grid0.coords t) 1 = 0
    ∧ cc0_transform_1 (grid0.coords t) 2 = 0 ∧ cc0_transform_1 (grid0.coords t) 3 = t.val := by
  decide +kernel

theorem idx_2 : ∀ t : Fin grid0.N, cc0_transform_2 (grid0.coords t) 0 = 0 ∧ cc0_transform_2 (grid0.coords t) 1 = t.val := by
  decide +kernel

theorem idx_3 : ∀ t : Fin grid0.N, cc0_transform_3 (grid0.coords t) 0 = 0 ∧ cc0_transform_3 (grid0.coords t) 1 = t.val := by
  decide +kernel

theorem idx_4 : ∀ t : Fin grid0.N, cc0_transform_4 (grid0.coords t) 0 = 0 ∧ cc0_transform_4 (grid0.coords t) 1 = t.val := by
  decide +kernel

theorem idx_5 : ∀ t : Fin grid0.N, cc0_transform_5 (grid0.coords t) 0 = 0 ∧ cc0_transform_5 (grid0.coords t) 1 = t.val := by
  decide +kernel

theorem idx_6 : ∀ t : Fin grid0.N, cc0_transform_6 (grid0.coords t) 0 = 0 ∧ cc0_transform_6 (grid0.coords t) 1 = t.val := by
  decide +kernel

theorem idx_7 : ∀ t : Fin grid0.N, cc0_transform_7 (grid0.coords t) 0 = 0 ∧ cc0_transform_7 (grid0.coords t) 1 = t.val := by
  decide +kernel

theorem idx_8 : ∀ t : Fin grid0.N, cc0_transform_8 (grid0.coords t) 0 = 0 ∧ cc0_transform_8 (grid0.coords t) 1 = t.val := by
  decide +kernel

/-- The own block at point `t` is the array at the device’s number and the block’s place. -/
theorem own_apply (hO : Ok m) (c : Dev nD) (hd : BitVec.toNat (m ((c : Thread nD τ).loc main_arg0) at0) < 8)
    (t : Fin (cfgM m hO).N) (j : S1x1x128x256.Idx) (i : S1x8x128x1024.Idx)
    (h0 : (i 0).val = 0) (h1 : (i 1).val = BitVec.toNat (m ((c : Thread nD τ).loc main_arg0) at0))
    (h2 : (i 2).val = (j 2).val) (h3 : (i 3).val = t.val * 256 + (j 3).val) :
    (iblk m hO c 0 t : Vec Ideal S1x1x128x256 .bf16) j = m ((c : Thread nD τ).loc main_arg1) i := by
  obtain rfl : c = 0 := Subsingleton.elim _ _
  unfold iblk
  refine (View.read_apply _ _).trans ?_
  show m (((0 : Dev nD) : Thread nD τ).loc main_arg1) _ = m (((0 : Dev nD) : Thread nD τ).loc main_arg1) i
  refine congrArg (m _) (funext fun a => Fin.ext ?_)
  have e := own_index (tbl m) (grid0.coords t)
  have l0 : (j 0).val < 1 := (j 0).isLt
  have l1 : (j 1).val < 1 := (j 1).isLt
  have ep : (grid0.coords t 0).val = t.val := point t
  match a with
  | ⟨0, _⟩ =>
    show cc0_transform_0 inb_S1_S1_0 numel1_S1 (tbl m) (grid0.coords t) 0 * 1 + 1 * (j 0).val = (i 0).val
    have e0 : cc0_transform_0 inb_S1_S1_0 numel1_S1 (tbl m) (grid0.coords t) 0 = 0 := congrFun e 0
    rw [e0, h0]; omega
  | ⟨1, _⟩ =>
    show cc0_transform_0 inb_S1_S1_0 numel1_S1 (tbl m) (grid0.coords t) 1 * 1 + 1 * (j 1).val = (i 1).val
    have e1 : cc0_transform_0 inb_S1_S1_0 numel1_S1 (tbl m) (grid0.coords t) 1 = BitVec.toNat (m (((0 : Dev nD) : Thread nD τ).loc main_arg0) at0) := congrFun e 1
    rw [e1, h1]; omega
  | ⟨2, _⟩ =>
    show cc0_transform_0 inb_S1_S1_0 numel1_S1 (tbl m) (grid0.coords t) 2 * 128 + 1 * (j 2).val = (i 2).val
    have e2 : cc0_transform_0 inb_S1_S1_0 numel1_S1 (tbl m) (grid0.coords t) 2 = 0 := congrFun e 2
    rw [e2, h2]; omega
  | ⟨3, _⟩ =>
    show cc0_transform_0 inb_S1_S1_0 numel1_S1 (tbl m) (grid0.coords t) 3 * 256 + 1 * (j 3).val = (i 3).val
    have e3 : cc0_transform_0 inb_S1_S1_0 numel1_S1 (tbl m) (grid0.coords t) 3 = t.val := (congrFun e 3).trans ep
    rw [e3, h3]; omega

/-- The received block at point `t` is the array at the block’s place. -/
theorem recv_apply (hO : Ok m) (c : Dev nD) (t : Fin (cfgM m hO).N) (j : S1x7x128x256.Idx) (i : S1x7x128x1024.Idx)
    (h0 : (i 0).val = 0) (h1 : (i 1).val = (j 1).val) (h2 : (i 2).val = (j 2).val) (h3 : (i 3).val = t.val * 256 + (j 3).val) :
    (iblk m hO c 1 t : Vec Ideal S1x7x128x256 .bf16) j = m ((c : Thread nD τ).loc main_arg2) i := by
  unfold iblk
  refine (View.read_apply _ _).trans ?_
  show m ((c : Thread nD τ).loc main_arg2) _ = m ((c : Thread nD τ).loc main_arg2) i
  refine congrArg (m _) (funext fun a => Fin.ext ?_)
  obtain ⟨e0, e1, e2, e3⟩ := idx_1 t
  have l0 : (j 0).val < 1 := (j 0).isLt
  match a with
  | ⟨0, _⟩ => show cc0_transform_1 (grid0.coords t) 0 * 1 + 1 * (j 0).val = (i 0).val; rw [e0, h0]; omega
  | ⟨1, _⟩ => show cc0_transform_1 (grid0.coords t) 1 * 7 + 1 * (j 1).val = (i 1).val; rw [e1, h1]; omega
  | ⟨2, _⟩ => show cc0_transform_1 (grid0.coords t) 2 * 128 + 1 * (j 2).val = (i 2).val; rw [e2, h2]; omega
  | ⟨3, _⟩ => show cc0_transform_1 (grid0.coords t) 3 * 256 + 1 * (j 3).val = (i 3).val; rw [e3, h3]; omega

theorem weight_apply (hO : Ok m) (c : Dev nD) (t : Fin (cfgM m hO).N) (j : S128x256.Idx) (i : S128x1024.Idx)
    (h0 : (i 0).val = 0 * 128 + (j 0).val) (h1 : (i 1).val = t.val * 256 + (j 1).val) :
    (iblk m hO c 2 t : Vec Ideal S128x256 .f32) j = m ((c : Thread nD τ).loc main_arg3) i := by
  unfold iblk
  refine (View.read_apply _ _).trans ?_
  show m ((c : Thread nD τ).loc main_arg3) _ = m ((c : Thread nD τ).loc main_arg3) i
  refine congrArg (m _) (funext fun a => Fin.ext ?_)
  obtain ⟨e0, e1⟩ := idx_2 t
  match a with
  | ⟨0, _⟩ => show cc0_transform_2 (grid0.coords t) 0 * 128 + 1 * (j 0).val = (i 0).val; rw [e0, h0]; omega
  | ⟨1, _⟩ => show cc0_transform_2 (grid0.coords t) 1 * 256 + 1 * (j 1).val = (i 1).val; rw [e1, h1]; omega

theorem mean_apply (hO : Ok m) (c : Dev nD) (t : Fin (cfgM m hO).N) (j : S128x256.Idx) (i : S128x1024.Idx)
    (h0 : (i 0).val = 0 * 128 + (j 0).val) (h1 : (i 1).val = t.val * 256 + (j 1).val) :
    (iblk m hO c 3 t : Vec Ideal S128x256 .f32) j = m ((c : Thread nD τ).loc main_arg4) i := by
  unfold iblk
  refine (View.read_apply _ _).trans ?_
  show m ((c : Thread nD τ).loc main_arg4) _ = m ((c : Thread nD τ).loc main_arg4) i
  refine congrArg (m _) (funext fun a => Fin.ext ?_)
  obtain ⟨e0, e1⟩ := idx_3 t
  match a with
  | ⟨0, _⟩ => show cc0_transform_3 (grid0.coords t) 0 * 128 + 1 * (j 0).val = (i 0).val; rw [e0, h0]; omega
  | ⟨1, _⟩ => show cc0_transform_3 (grid0.coords t) 1 * 256 + 1 * (j 1).val = (i 1).val; rw [e1, h1]; omega

theorem square_apply (hO : Ok m) (c : Dev nD) (t : Fin (cfgM m hO).N) (j : S128x256.Idx) (i : S128x1024.Idx)
    (h0 : (i 0).val = 0 * 128 + (j 0).val) (h1 : (i 1).val = t.val * 256 + (j 1).val) :
    (iblk m hO c 4 t : Vec Ideal S128x256 .f32) j = m ((c : Thread nD τ).loc main_arg5) i := by
  unfold iblk
  refine (View.read_apply _ _).trans ?_
  show m ((c : Thread nD τ).loc main_arg5) _ = m ((c : Thread nD τ).loc main_arg5) i
  refine congrArg (m _) (funext fun a => Fin.ext ?_)
  obtain ⟨e0, e1⟩ := idx_4 t
  match a with
  | ⟨0, _⟩ => show cc0_transform_4 (grid0.coords t) 0 * 128 + 1 * (j 0).val = (i 0).val; rw [e0, h0]; omega
  | ⟨1, _⟩ => show cc0_transform_4 (grid0.coords t) 1 * 256 + 1 * (j 1).val = (i 1).val; rw [e1, h1]; omega

/-- A tile’s gradient is the array’s gradient at the tile’s place. -/
theorem grad_apply (hO : Ok m) (c : Dev nD) (hd : BitVec.toNat (m ((c : Thread nD τ).loc main_arg0) at0) < 8)
    (t : Fin (cfgM m hO).N) (j : S128x256.Idx) (i : S128x1024.Idx)
    (h0 : (i 0).val = 0 * 128 + (j 0).val) (h1 : (i 1).val = t.val * 256 + (j 1).val) :
    tileG (iblk m hO c 0 t) (iblk m hO c 1 t) j = rGrad m c i := by
  have hr : (i 0).val = (j 0).val := by omega
  have hc : (i 1).val = t.val * 256 + (j 1).val := by omega
  have h8 : (Fin.ofNat 8 (BitVec.toNat (m ((c : Thread nD τ).loc main_arg0) at0))).val = BitVec.toNat (m ((c : Thread nD τ).loc main_arg0) at0) :=
    Nat.mod_eq_of_lt hd
  exact congrArg₂ (fun a b : EReal => a + b)
    (own_apply m hO c hd t (ix4 0 0 (j 0) (j 1)) (ix4 0 (Fin.ofNat 8 (BitVec.toNat (m ((c : Thread nD τ).loc main_arg0) at0))) (i 0) (i 1))
      rfl h8 hr hc)
    (Finset.sum_congr rfl fun k _ => recv_apply m hO c t (ix4 0 k (j 0) (j 1)) (ix4 0 k (i 0) (i 1)) rfl rfl hr hc)

theorem tile_5 (hO : Ok m) (c : Dev nD) (t : Fin (cfgM m hO).N) (x0 : Vec Ideal S1x1x128x256 .bf16) (x1 : Vec Ideal S1x7x128x256 .bf16) (x2 x3 x4 : Vec Ideal S128x256 .f32) :
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = tileG x0 x1 :=
  out_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_5 (hO : Ok m) (c : Dev nD) (t : Fin (cfgM m hO).N) (x0 : Vec Ideal S1x1x128x256 .bf16) (x1 : Vec Ideal S1x7x128x256 .bf16) (x2 x3 x4 : Vec Ideal S128x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).1 = tileG x0 x1 := by
  rw [← tile_5 m hO c t x0 x1 x2 x3 x4, h0, h1, h2, h3, h4]
  rfl

theorem outs_5 (hO : Ok m) (c : Dev nD) (t : Fin (cfgM m hO).N) :
    (outsAt0 m hO c t).1 = tileG (iblk m hO c 0 t) (iblk m hO c 1 t) :=
  outs_of_5 m hO c t _ _ _ _ _ rfl rfl rfl rfl rfl

/-- What point `t` writes back is its block of the result. -/
theorem flushed_5 (hO : Ok m) (c : Dev nD) (hd : BitVec.toNat (m ((c : Thread nD τ).loc main_arg0) at0) < 8) (t : Fin (cfgM m hO).N) :
    (dats m hO 0 c).flushed 5 t = (((cfgM m hO).win 5).blk t).view.read (Elt Ideal) (rGrad m c) := by
  show ((cfgM m hO).win 5).cut (grid0.coords t) ((dats m hO 0 c).after 5 t) = _
  rw [after0_5, outs_5]
  obtain ⟨e0, e1⟩ := idx_5 t
  have key : ∀ (j : S128x256.Idx) (i : S128x1024.Idx), (i 0).val = cc0_transform_5 (grid0.coords t) 0 * 128 + 1 * (j 0).val →
      (i 1).val = cc0_transform_5 (grid0.coords t) 1 * 256 + 1 * (j 1).val →
      (tileG (iblk m hO c 0 t) (iblk m hO c 1 t)) j = rGrad m c i := by
    intro j i h0 h1
    rw [e0, Nat.one_mul] at h0
    rw [e1, Nat.one_mul] at h1
    exact grad_apply m hO c hd t j _ h0 h1
  exact funext fun j => key j ((((cfgM m hO).win 5).blk t).view.emb j) rfl rfl

theorem mem_blk_5 (hO : Ok m) (t : Fin (cfgM m hO).N) (i : S128x1024.Idx) (ht : (i 1).val / 256 = t.val) :
    i ∈ (((cfgM m hO).win 5).blk t).view.set := by
  have hw : ∀ r : Rect S128x1024, i ∈ r.set → i ∈ ((View.whole main_v0_0).slice r).set := by
    intro r h
    rw [View.set_slice_whole]
    exact h
  refine hw (((cfgM m hO).win 5).rect t) (Rect.mem_set_unit.mpr ?_)
  obtain ⟨e0, e1⟩ := idx_5 t
  have l0 : (i 0).val < 128 := (i 0).isLt
  have l1 : (i 1).val < 1024 := (i 1).isLt
  intro a
  match a with
  | ⟨0, _⟩ =>
    show cc0_transform_5 (grid0.coords t) 0 * 128 ≤ (i 0 : Nat) ∧ (i 0 : Nat) < cc0_transform_5 (grid0.coords t) 0 * 128 + 128
    rw [e0]; omega
  | ⟨1, _⟩ =>
    show cc0_transform_5 (grid0.coords t) 1 * 256 ≤ (i 1 : Nat) ∧ (i 1 : Nat) < cc0_transform_5 (grid0.coords t) 1 * 256 + 256
    rw [e1]; omega

/-- The blocks written back cover the array. -/
theorem cover_5 (hO : Ok m) (i : S128x1024.Idx) :
    ∃ t : Fin (cfgM m hO).N, ((cfgM m hO).win 5).flush t = true ∧ i ∈ (((cfgM m hO).win 5).blk t).view.set := by
  have l : (i 1).val < 1024 := (i 1).isLt
  have hN : (cfgM m hO).N = 4 := N_0
  exact ⟨⟨(i 1).val / 256, by omega⟩, flush0_5 (adm m hO) _, mem_blk_5 m hO _ _ rfl⟩

theorem final_5 (hO : Ok m) (c : Dev nD) (hd : BitVec.toNat (m ((c : Thread nD τ).loc main_arg0) at0) < 8) :
    (dats m hO 0 c).arrAt 5 (cfgM m hO).N = rGrad m c :=
  (dats m hO 0 c).arrAt_eq_of_cover 5 (rGrad m c) (fun t _ => flushed_5 m hO c hd t) (cover_5 m hO)

theorem tile_6 (hO : Ok m) (c : Dev nD) (t : Fin (cfgM m hO).N) (x0 : Vec Ideal S1x1x128x256 .bf16) (x1 : Vec Ideal S1x7x128x256 .bf16) (x2 x3 x4 : Vec Ideal S128x256 .f32) :
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = step x2 (tileG x0 x1) x3 x4 :=
  out_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_6 (hO : Ok m) (c : Dev nD) (t : Fin (cfgM m hO).N) (x0 : Vec Ideal S1x1x128x256 .bf16) (x1 : Vec Ideal S1x7x128x256 .bf16) (x2 x3 x4 : Vec Ideal S128x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.1 = step x2 (tileG x0 x1) x3 x4 := by
  rw [← tile_6 m hO c t x0 x1 x2 x3 x4, h0, h1, h2, h3, h4]
  rfl

theorem outs_6 (hO : Ok m) (c : Dev nD) (t : Fin (cfgM m hO).N) :
    (outsAt0 m hO c t).2.1 = step (iblk m hO c 2 t) (tileG (iblk m hO c 0 t) (iblk m hO c 1 t)) (iblk m hO c 3 t) (iblk m hO c 4 t) :=
  outs_of_6 m hO c t _ _ _ _ _ rfl rfl rfl rfl rfl

/-- What point `t` writes back is its block of the result. -/
theorem flushed_6 (hO : Ok m) (c : Dev nD) (hd : BitVec.toNat (m ((c : Thread nD τ).loc main_arg0) at0) < 8) (t : Fin (cfgM m hO).N) :
    (dats m hO 0 c).flushed 6 t = (((cfgM m hO).win 6).blk t).view.read (Elt Ideal) (rStep m c) := by
  show ((cfgM m hO).win 6).cut (grid0.coords t) ((dats m hO 0 c).after 6 t) = _
  rw [after0_6, outs_6]
  obtain ⟨e0, e1⟩ := idx_6 t
  have key : ∀ (j : S128x256.Idx) (i : S128x1024.Idx), (i 0).val = cc0_transform_6 (grid0.coords t) 0 * 128 + 1 * (j 0).val →
      (i 1).val = cc0_transform_6 (grid0.coords t) 1 * 256 + 1 * (j 1).val →
      (step (iblk m hO c 2 t) (tileG (iblk m hO c 0 t) (iblk m hO c 1 t)) (iblk m hO c 3 t) (iblk m hO c 4 t)) j = rStep m c i := by
    intro j i h0 h1
    rw [e0, Nat.one_mul] at h0
    rw [e1, Nat.one_mul] at h1
    exact step_congr (weight_apply m hO c t j _ h0 h1) (grad_apply m hO c hd t j _ h0 h1) (mean_apply m hO c t j _ h0 h1) (square_apply m hO c t j _ h0 h1)
  exact funext fun j => key j ((((cfgM m hO).win 6).blk t).view.emb j) rfl rfl

theorem mem_blk_6 (hO : Ok m) (t : Fin (cfgM m hO).N) (i : S128x1024.Idx) (ht : (i 1).val / 256 = t.val) :
    i ∈ (((cfgM m hO).win 6).blk t).view.set := by
  have hw : ∀ r : Rect S128x1024, i ∈ r.set → i ∈ ((View.whole main_v0_1).slice r).set := by
    intro r h
    rw [View.set_slice_whole]
    exact h
  refine hw (((cfgM m hO).win 6).rect t) (Rect.mem_set_unit.mpr ?_)
  obtain ⟨e0, e1⟩ := idx_6 t
  have l0 : (i 0).val < 128 := (i 0).isLt
  have l1 : (i 1).val < 1024 := (i 1).isLt
  intro a
  match a with
  | ⟨0, _⟩ =>
    show cc0_transform_6 (grid0.coords t) 0 * 128 ≤ (i 0 : Nat) ∧ (i 0 : Nat) < cc0_transform_6 (grid0.coords t) 0 * 128 + 128
    rw [e0]; omega
  | ⟨1, _⟩ =>
    show cc0_transform_6 (grid0.coords t) 1 * 256 ≤ (i 1 : Nat) ∧ (i 1 : Nat) < cc0_transform_6 (grid0.coords t) 1 * 256 + 256
    rw [e1]; omega

/-- The blocks written back cover the array. -/
theorem cover_6 (hO : Ok m) (i : S128x1024.Idx) :
    ∃ t : Fin (cfgM m hO).N, ((cfgM m hO).win 6).flush t = true ∧ i ∈ (((cfgM m hO).win 6).blk t).view.set := by
  have l : (i 1).val < 1024 := (i 1).isLt
  have hN : (cfgM m hO).N = 4 := N_0
  exact ⟨⟨(i 1).val / 256, by omega⟩, flush0_6 (adm m hO) _, mem_blk_6 m hO _ _ rfl⟩

theorem final_6 (hO : Ok m) (c : Dev nD) (hd : BitVec.toNat (m ((c : Thread nD τ).loc main_arg0) at0) < 8) :
    (dats m hO 0 c).arrAt 6 (cfgM m hO).N = rStep m c :=
  (dats m hO 0 c).arrAt_eq_of_cover 6 (rStep m c) (fun t _ => flushed_6 m hO c hd t) (cover_6 m hO)

theorem tile_7 (hO : Ok m) (c : Dev nD) (t : Fin (cfgM m hO).N) (x0 : Vec Ideal S1x1x128x256 .bf16) (x1 : Vec Ideal S1x7x128x256 .bf16) (x2 x3 x4 : Vec Ideal S128x256 .f32) :
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newMean (tileG x0 x1) x3 :=
  out_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_7 (hO : Ok m) (c : Dev nD) (t : Fin (cfgM m hO).N) (x0 : Vec Ideal S1x1x128x256 .bf16) (x1 : Vec Ideal S1x7x128x256 .bf16) (x2 x3 x4 : Vec Ideal S128x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.1 = newMean (tileG x0 x1) x3 := by
  rw [← tile_7 m hO c t x0 x1 x2 x3 x4, h0, h1, h2, h3, h4]
  rfl

theorem outs_7 (hO : Ok m) (c : Dev nD) (t : Fin (cfgM m hO).N) :
    (outsAt0 m hO c t).2.2.1 = newMean (tileG (iblk m hO c 0 t) (iblk m hO c 1 t)) (iblk m hO c 3 t) :=
  outs_of_7 m hO c t _ _ _ _ _ rfl rfl rfl rfl rfl

/-- What point `t` writes back is its block of the result. -/
theorem flushed_7 (hO : Ok m) (c : Dev nD) (hd : BitVec.toNat (m ((c : Thread nD τ).loc main_arg0) at0) < 8) (t : Fin (cfgM m hO).N) :
    (dats m hO 0 c).flushed 7 t = (((cfgM m hO).win 7).blk t).view.read (Elt Ideal) (rMean m c) := by
  show ((cfgM m hO).win 7).cut (grid0.coords t) ((dats m hO 0 c).after 7 t) = _
  rw [after0_7, outs_7]
  obtain ⟨e0, e1⟩ := idx_7 t
  have key : ∀ (j : S128x256.Idx) (i : S128x1024.Idx), (i 0).val = cc0_transform_7 (grid0.coords t) 0 * 128 + 1 * (j 0).val →
      (i 1).val = cc0_transform_7 (grid0.coords t) 1 * 256 + 1 * (j 1).val →
      (newMean (tileG (iblk m hO c 0 t) (iblk m hO c 1 t)) (iblk m hO c 3 t)) j = rMean m c i := by
    intro j i h0 h1
    rw [e0, Nat.one_mul] at h0
    rw [e1, Nat.one_mul] at h1
    exact newMean_congr (grad_apply m hO c hd t j _ h0 h1) (mean_apply m hO c t j _ h0 h1)
  exact funext fun j => key j ((((cfgM m hO).win 7).blk t).view.emb j) rfl rfl

theorem mem_blk_7 (hO : Ok m) (t : Fin (cfgM m hO).N) (i : S128x1024.Idx) (ht : (i 1).val / 256 = t.val) :
    i ∈ (((cfgM m hO).win 7).blk t).view.set := by
  have hw : ∀ r : Rect S128x1024, i ∈ r.set → i ∈ ((View.whole main_v0_2).slice r).set := by
    intro r h
    rw [View.set_slice_whole]
    exact h
  refine hw (((cfgM m hO).win 7).rect t) (Rect.mem_set_unit.mpr ?_)
  obtain ⟨e0, e1⟩ := idx_7 t
  have l0 : (i 0).val < 128 := (i 0).isLt
  have l1 : (i 1).val < 1024 := (i 1).isLt
  intro a
  match a with
  | ⟨0, _⟩ =>
    show cc0_transform_7 (grid0.coords t) 0 * 128 ≤ (i 0 : Nat) ∧ (i 0 : Nat) < cc0_transform_7 (grid0.coords t) 0 * 128 + 128
    rw [e0]; omega
  | ⟨1, _⟩ =>
    show cc0_transform_7 (grid0.coords t) 1 * 256 ≤ (i 1 : Nat) ∧ (i 1 : Nat) < cc0_transform_7 (grid0.coords t) 1 * 256 + 256
    rw [e1]; omega

/-- The blocks written back cover the array. -/
theorem cover_7 (hO : Ok m) (i : S128x1024.Idx) :
    ∃ t : Fin (cfgM m hO).N, ((cfgM m hO).win 7).flush t = true ∧ i ∈ (((cfgM m hO).win 7).blk t).view.set := by
  have l : (i 1).val < 1024 := (i 1).isLt
  have hN : (cfgM m hO).N = 4 := N_0
  exact ⟨⟨(i 1).val / 256, by omega⟩, flush0_7 (adm m hO) _, mem_blk_7 m hO _ _ rfl⟩

theorem final_7 (hO : Ok m) (c : Dev nD) (hd : BitVec.toNat (m ((c : Thread nD τ).loc main_arg0) at0) < 8) :
    (dats m hO 0 c).arrAt 7 (cfgM m hO).N = rMean m c :=
  (dats m hO 0 c).arrAt_eq_of_cover 7 (rMean m c) (fun t _ => flushed_7 m hO c hd t) (cover_7 m hO)

theorem tile_8 (hO : Ok m) (c : Dev nD) (t : Fin (cfgM m hO).N) (x0 : Vec Ideal S1x1x128x256 .bf16) (x1 : Vec Ideal S1x7x128x256 .bf16) (x2 x3 x4 : Vec Ideal S128x256 .f32) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newSquare (tileG x0 x1) x4 :=
  out_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_8 (hO : Ok m) (c : Dev nD) (t : Fin (cfgM m hO).N) (x0 : Vec Ideal S1x1x128x256 .bf16) (x1 : Vec Ideal S1x7x128x256 .bf16) (x2 x3 x4 : Vec Ideal S128x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.2 = newSquare (tileG x0 x1) x4 := by
  rw [← tile_8 m hO c t x0 x1 x2 x3 x4, h0, h1, h2, h3, h4]
  rfl

theorem outs_8 (hO : Ok m) (c : Dev nD) (t : Fin (cfgM m hO).N) :
    (outsAt0 m hO c t).2.2.2 = newSquare (tileG (iblk m hO c 0 t) (iblk m hO c 1 t)) (iblk m hO c 4 t) :=
  outs_of_8 m hO c t _ _ _ _ _ rfl rfl rfl rfl rfl

/-- What point `t` writes back is its block of the result. -/
theorem flushed_8 (hO : Ok m) (c : Dev nD) (hd : BitVec.toNat (m ((c : Thread nD τ).loc main_arg0) at0) < 8) (t : Fin (cfgM m hO).N) :
    (dats m hO 0 c).flushed 8 t = (((cfgM m hO).win 8).blk t).view.read (Elt Ideal) (rSquare m c) := by
  show ((cfgM m hO).win 8).cut (grid0.coords t) ((dats m hO 0 c).after 8 t) = _
  rw [after0_8, outs_8]
  obtain ⟨e0, e1⟩ := idx_8 t
  have key : ∀ (j : S128x256.Idx) (i : S128x1024.Idx), (i 0).val = cc0_transform_8 (grid0.coords t) 0 * 128 + 1 * (j 0).val →
      (i 1).val = cc0_transform_8 (grid0.coords t) 1 * 256 + 1 * (j 1).val →
      (newSquare (tileG (iblk m hO c 0 t) (iblk m hO c 1 t)) (iblk m hO c 4 t)) j = rSquare m c i := by
    intro j i h0 h1
    rw [e0, Nat.one_mul] at h0
    rw [e1, Nat.one_mul] at h1
    exact newSquare_congr (grad_apply m hO c hd t j _ h0 h1) (square_apply m hO c t j _ h0 h1)
  exact funext fun j => key j ((((cfgM m hO).win 8).blk t).view.emb j) rfl rfl

theorem mem_blk_8 (hO : Ok m) (t : Fin (cfgM m hO).N) (i : S128x1024.Idx) (ht : (i 1).val / 256 = t.val) :
    i ∈ (((cfgM m hO).win 8).blk t).view.set := by
  have hw : ∀ r : Rect S128x1024, i ∈ r.set → i ∈ ((View.whole main_v0_3).slice r).set := by
    intro r h
    rw [View.set_slice_whole]
    exact h
  refine hw (((cfgM m hO).win 8).rect t) (Rect.mem_set_unit.mpr ?_)
  obtain ⟨e0, e1⟩ := idx_8 t
  have l0 : (i 0).val < 128 := (i 0).isLt
  have l1 : (i 1).val < 1024 := (i 1).isLt
  intro a
  match a with
  | ⟨0, _⟩ =>
    show cc0_transform_8 (grid0.coords t) 0 * 128 ≤ (i 0 : Nat) ∧ (i 0 : Nat) < cc0_transform_8 (grid0.coords t) 0 * 128 + 128
    rw [e0]; omega
  | ⟨1, _⟩ =>
    show cc0_transform_8 (grid0.coords t) 1 * 256 ≤ (i 1 : Nat) ∧ (i 1 : Nat) < cc0_transform_8 (grid0.coords t) 1 * 256 + 256
    rw [e1]; omega

/-- The blocks written back cover the array. -/
theorem cover_8 (hO : Ok m) (i : S128x1024.Idx) :
    ∃ t : Fin (cfgM m hO).N, ((cfgM m hO).win 8).flush t = true ∧ i ∈ (((cfgM m hO).win 8).blk t).view.set := by
  have l : (i 1).val < 1024 := (i 1).isLt
  have hN : (cfgM m hO).N = 4 := N_0
  exact ⟨⟨(i 1).val / 256, by omega⟩, flush0_8 (adm m hO) _, mem_blk_8 m hO _ _ rfl⟩

theorem final_8 (hO : Ok m) (c : Dev nD) (hd : BitVec.toNat (m ((c : Thread nD τ).loc main_arg0) at0) < 8) :
    (dats m hO 0 c).arrAt 8 (cfgM m hO).N = rSquare m c :=
  (dats m hO 0 c).arrAt_eq_of_cover 8 (rSquare m c) (fun t _ => flushed_8 m hO c hd t) (cover_8 m hO)

/-- The run: the four results, and the arguments unchanged. -/
theorem run (hm : ∀ c : Dev nD, BitVec.toNat (m ((c : Thread nD τ).loc main_arg0) at0) < 8) :
    θ_run defs (onTc (τ := τ) (main (F := Ideal))) ⟨m, fun _ => 0, ρ⟩ fun r => ∀ c : Dev nD,
      r.2.mem ((c : Thread nD τ).loc main_v0_0) = rGrad m c
      ∧ r.2.mem ((c : Thread nD τ).loc main_v0_1) = rStep m c
      ∧ r.2.mem ((c : Thread nD τ).loc main_v0_2) = rMean m c
      ∧ r.2.mem ((c : Thread nD τ).loc main_v0_3) = rSquare m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  let hO := ok_of m (hm 0)
  (θ_run defs _ _).mono (fun _ h c => ⟨((h c).1 5).trans (final_5 m hO c (hm c)), ((h c).1 6).trans (final_6 m hO c (hm c)),
      ((h c).1 7).trans (final_7 m hO c (hm c)), ((h c).1 8).trans (final_8 m hO c (hm c)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

/-! ## The reference -/

theorem zero_word : FloatOps.ofBits (F := Ideal) .f32 0x00000000#32 = (0 : EReal) := by
  pointwise []

/-- Two numbers below eight as words are the same word exactly when they are the same number. -/
theorem eq_word (k : Fin 8) (w : BitVec 32) (hw : w.toNat < 8) :
    IntOp.cmpi .eq (BitVec.ofNat 32 k.val) w = if k = Fin.ofNat 8 w.toNat then 1#1 else 0#1 := by
  have e : (BitVec.ofNat 32 k.val = w) ↔ k = Fin.ofNat 8 w.toNat := by
    constructor
    · intro h
      apply Fin.ext
      rw [← h]
      show k.val = (BitVec.ofNat 32 k.val).toNat % 8
      rw [BitVec.toNat_ofNat]
      omega
    · intro h
      apply BitVec.eq_of_toNat_eq
      rw [h]
      show (BitVec.ofNat 32 (w.toNat % 8)).toNat = _
      rw [BitVec.toNat_ofNat]
      omega
  unfold IntOp.cmpi
  by_cases h : k = Fin.ofNat 8 w.toNat
  · rw [if_pos h]; simp [e.mpr h]
  · rw [if_neg h]
    show BitVec.ofBool (BitVec.ofNat 32 k.val == w) = 0#1
    rw [beq_eq_false_iff_ne.mpr (fun g => h (e.mp g))]
    rfl

theorem number (me : IVec S1 32) (j) : Cert.Reference12Ideal.Read.val_main_v2 (F := Ideal) me j = me at0 := congrArg me (idx_one _)

/-- The reference’s selected part: the device’s own part at its number, zero elsewhere. -/
theorem picked (me : IVec S1 32) (hme : BitVec.toNat (me at0) < 8) (own : Vec Ideal S1x8x128x1024 .bf16) (k : Fin 8) (r : Fin 128) (s : Fin 1024) :
    Cert.Reference12Ideal.Read.val_main_v7 (F := Ideal) me own (ix3 k r s) = if k = (Fin.ofNat 8 (BitVec.toNat (me at0))) then own (ix4 0 k r s) else 0 := by
  have e : Cert.Reference12Ideal.Read.val_main_v7 (F := Ideal) me own (ix3 k r s)
      = Scalar.select (IntOp.cmpi .eq (BitVec.ofNat 32 k.val) (me at0)) (own (ix4 0 k r s)) (FloatOps.ofBits (F := Ideal) .f32 0x00000000#32) := by
    have hn := number me
    pointwise [Cert.Reference12Ideal.Read.val_main_v7, Cert.Reference12Ideal.Read.val_main_call0_v0, Cert.Reference12Ideal.Read.val_main_call0_v1, Cert.Reference12Ideal.Read.val_main_call0_v2, Cert.Reference12Ideal.Read.val_main_cst, Cert.Reference12Ideal.Read.val_main_v0, Cert.Reference12Ideal.Read.val_main_v1, Cert.Reference12Ideal.Read.val_main_v3, Cert.Reference12Ideal.Read.val_main_v4, Cert.Reference12Ideal.Read.val_main_v5, Cert.Reference12Ideal.Read.val_main_v6, hn]
    exact congrArg (Scalar.select _ _) zero_word
  rw [e, eq_word k _ hme, zero_word]
  by_cases h : k = (Fin.ofNat 8 (BitVec.toNat (me at0)))
  · rw [if_pos h, if_pos h]; exact if_pos rfl
  · rw [if_neg h, if_neg h]; exact if_neg (by decide)

theorem ref_sum (me : IVec S1 32) (hme : BitVec.toNat (me at0) < 8) (own : Vec Ideal S1x8x128x1024 .bf16) (recv : Vec Ideal S1x7x128x1024 .bf16)
    (r : Fin 128) (s : Fin 1024) :
    Cert.Reference12Ideal.Read.val_main_v12 (F := Ideal) me own recv (ix2 r s) = own (ix4 0 (Fin.ofNat 8 (BitVec.toNat (me at0))) r s) + ∑ k : Fin 7, recv (ix4 0 k r s) := by
  rw [Cert.Reference12Ideal.Read.val_main_v12_apply]
  refine congrArg₂ (fun a b : EReal => a + b) ?_ ?_
  · rw [Cert.Reference12Ideal.Read.val_main_v8_apply]
    refine (congrArg₂ (fun a b : EReal => a + b) zero_word rfl).trans ((zero_add _).trans ?_)
    refine (Finset.sum_congr rfl fun k _ => (congrArg (Cert.Reference12Ideal.Read.val_main_v7 (F := Ideal) me own) (funext fun a => match a with | ⟨0, _⟩ => rfl | ⟨1, _⟩ => rfl | ⟨2, _⟩ => rfl)).trans (picked me hme own k r s)).trans ?_
    rw [Finset.sum_ite_eq' Finset.univ (Fin.ofNat 8 (BitVec.toNat (me at0))), if_pos (Finset.mem_univ _)]
  · rw [Cert.Reference12Ideal.Read.val_main_v11_apply]
    refine (congrArg₂ (fun a b : EReal => a + b) zero_word rfl).trans ((zero_add _).trans ?_)
    refine Finset.sum_congr rfl fun k _ => ?_
    have e : Cert.Reference12Ideal.Read.val_main_v10 (F := Ideal) recv (ix3 k r s) = recv (ix4 0 k r s) := by
      pointwise [Cert.Reference12Ideal.Read.val_main_v9, Cert.Reference12Ideal.Read.val_main_v10]
    exact (congrArg (Cert.Reference12Ideal.Read.val_main_v10 (F := Ideal) recv) (funext fun a => match a with | ⟨0, _⟩ => rfl | ⟨1, _⟩ => rfl | ⟨2, _⟩ => rfl)).trans e

theorem ref_grad (me : IVec S1 32) (hme : BitVec.toNat (me at0) < 8) (own : Vec Ideal S1x8x128x1024 .bf16) (recv : Vec Ideal S1x7x128x1024 .bf16) :
    Cert.Reference12Ideal.Read.val_main_v12 (F := Ideal) me own recv = grad me own recv := by
  funext i
  have e : i = ix2 (i 0) (i 1) := funext fun a => match a with | ⟨0, _⟩ => rfl | ⟨1, _⟩ => rfl
  exact (congrArg (Cert.Reference12Ideal.Read.val_main_v12 (F := Ideal) me own recv) e).trans (ref_sum me hme own recv (i 0) (i 1))

theorem ref_mean (me : IVec S1 32) (hme : BitVec.toNat (me at0) < 8) (own : Vec Ideal S1x8x128x1024 .bf16) (recv : Vec Ideal S1x7x128x1024 .bf16) (u : Vec Ideal S128x1024 .f32) :
    Cert.Reference12Ideal.Read.val_main_v17 (F := Ideal) me own recv u = newMean (grad me own recv) u := by
  rw [← ref_grad me hme]
  funext i
  pointwise [Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_v13, Cert.Reference12Ideal.Read.val_main_v14, Cert.Reference12Ideal.Read.val_main_v15, Cert.Reference12Ideal.Read.val_main_v16, Cert.Reference12Ideal.Read.val_main_v17, newMean]

theorem ref_square (me : IVec S1 32) (hme : BitVec.toNat (me at0) < 8) (own : Vec Ideal S1x8x128x1024 .bf16) (recv : Vec Ideal S1x7x128x1024 .bf16) (q : Vec Ideal S128x1024 .f32) :
    Cert.Reference12Ideal.Read.val_main_v23 (F := Ideal) me own recv q = newSquare (grad me own recv) q := by
  rw [← ref_grad me hme]
  funext i
  pointwise [Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, newSquare]

theorem ref_step (me : IVec S1 32) (hme : BitVec.toNat (me at0) < 8) (own : Vec Ideal S1x8x128x1024 .bf16) (recv : Vec Ideal S1x7x128x1024 .bf16) (w u q : Vec Ideal S128x1024 .f32) :
    Cert.Reference12Ideal.Read.val_main_v36 (F := Ideal) me own recv w u q = step w (grad me own recv) u q := by
  have e1 := ref_mean me hme own recv u
  have e2 := ref_square me hme own recv q
  rw [← ref_grad me hme] at e1 e2 ⊢
  funext i
  pointwise [Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8, Cert.Reference12Ideal.Read.val_main_cst_9, Cert.Reference12Ideal.Read.val_main_cst_10, Cert.Reference12Ideal.Read.val_main_v24, Cert.Reference12Ideal.Read.val_main_v25, Cert.Reference12Ideal.Read.val_main_v26, Cert.Reference12Ideal.Read.val_main_v27, Cert.Reference12Ideal.Read.val_main_v28, Cert.Reference12Ideal.Read.val_main_v29, Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, step, e1, e2]

end Cert.Kernel12Ideal.StepOut

/-! ## The same side condition for the program in floating point -/

namespace Cert.Kernel12.StepOut

open Cert.Kernel12 Cert.Kernel12.Gen Idealize.ShloMosaic Idealize.ShloMosaic.TcCoe Idealize.ShloMosaic.Tactic
open Cert.Kernel12Ideal.StepOut (at0 idx_one)

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x128x256.size a ≤ S1x8x128x1024.size a := by
    intro a
    rw [own_index (tbl m) i]
    match a with
    | ⟨0, _⟩ => show (0 + 1) * 1 ≤ 1; omega
    | ⟨1, _⟩ =>
      show (BitVec.toNat (m (((0 : Dev nD) : Thread nD τ).loc main_arg0) at0) + 1) * 1 ≤ 8
      omega
    | ⟨2, _⟩ => show (0 + 1) * 128 ≤ 128; omega
    | ⟨3, _⟩ => show ((i 0).val + 1) * 256 ≤ 1024; omega
  exact ⟨hb, .inr (Affine.block_words_dvd (of_decide_eq_true rfl) (by decide))⟩

end Cert.Kernel12.StepOut

end
-- ==== Proof.StepGate.lean ====
/- The gradient of the gate projection’s weight, turned, summed over the devices, and its optimiser step: the device’s own part,
   found by the device’s number, plus the seven parts received, then one AdamW step. -/
module

public import proofs.«01_k».proof.Proof.Gen.Kernel14Ideal.Frame
public import proofs.«01_k».proof.Proof.Gen.Kernel14.Frame
public import proofs.«01_k».proof.Proof.Gen.Reference14Ideal.Run
public import proofs.«01_k».proof.Proof.Gen.Reference14Ideal.Read
public import proofs.«01_k».proof.Proof.Gen.Pre_device14
public import proofs.«01_k».proof.Proof.AdamW
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Kernel14Ideal.StepGate

open Cert.AdamW Cert.Kernel14Ideal Cert.Kernel14Ideal.Gen Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The device’s number -/

/-- The one index of the device’s number. -/
abbrev at0 : S1.Idx := ix1 (0 : Fin 1)

theorem idx_one (x : S1.Idx) : x = at0 :=
  funext fun a => by
    obtain rfl : a = 0 := Subsingleton.elim _ _
    exact Fin.ext (by have := (x 0).isLt; show (x 0).val = 0; change (x 0).val < 1 at this; omega)

/-- A word between 0 and 7 as a signed number is one of the first eight words. -/
theorem small_word (v : BitVec 32) (h1 : IntOp.cmpi .sge v 0#32 = 1#1) (h2 : IntOp.cmpi .slt v 8#32 = 1#1) : v.toNat < 8 := by
  have ofBool_one (p : Bool) : (BitVec.ofBool p = 1#1) ↔ p = true := by cases p <;> decide
  simp only [IntOp.cmpi, ofBool_one, BitVec.sle, BitVec.slt, decide_eq_true_eq, BitVec.toInt] at h1 h2
  simp at h1 h2
  have := v.isLt
  split at h1 <;> split at h2 <;> omega

/-- The precondition’s reading: the device’s number is one of the eight. -/
theorem me_lt {F : FTy → Type} [FloatOps F] (x : IVec Cert.Pre_device14.S1 32) (a b d e f)
    (h : Cert.Pre_device14.fn (F := F) x a b d e f = fun _ => 1#1) (w : Cert.Pre_device14.S1.Idx) : (x w).toNat < 8 := by
  have andi_one (a b : BitVec 1) : IntOp.andi a b = 1#1 ↔ a = 1#1 ∧ b = 1#1 := by revert a b; decide
  have pre := congrFun h w
  simp only [Cert.Pre_device14.fn, constantI, broadcastInDim, cmpi, andi, andi_one] at pre
  exact small_word _ pre.1 pre.2

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x352x256.size a ≤ S2x8x352x1024.size a := by
    intro a
    rw [own_index (tbl m) i]
    match a with
    | ⟨0, _⟩ => show (0 + 1) * 1 ≤ 2; omega
    | ⟨1, _⟩ =>
      show (BitVec.toNat (m (((0 : Dev nD) : Thread nD τ).loc main_arg0) at0) + 1) * 1 ≤ 8
      omega
    | ⟨2, _⟩ => show (0 + 1) * 352 ≤ 352; omega
    | ⟨3, _⟩ => show ((i 0).val + 1) * 256 ≤ 1024; omega
  exact ⟨hb, .inr (Affine.block_words_dvd (of_decide_eq_true rfl) (by decide))⟩

/-! ## One tile -/

/-- The gradient of a tile: the own part plus the seven parts received. -/
def tileG (x0 : Vec Ideal S1x1x352x256 .bf16) (x1 : Vec Ideal S1x7x352x256 .bf16) : Vec Ideal S352x256 .f32 :=
  fun i => x0 (ix4 0 0 (i 0) (i 1)) + ∑ k : Fin 7, x1 (ix4 0 k (i 0) (i 1))

/-- A received part of the block. -/
def part (x1 : Vec Ideal S1x7x352x256 .bf16) (k : Fin 7) : Vec Ideal S1x1x352x256 .bf16 := fun i => x1 (ix4 0 k (i 2) (i 3))

theorem ld_part (x1 : Vec Ideal S1x7x352x256 .bf16) (k : Fin 7)
    (h : ∀ a, (![0, k.val, 0, 0] : Fin 4 → Nat) a + S1x1x352x256.size a ≤ S1x7x352x256.size a) :
    View.ld x1 (Rect.unit ![0, k.val, 0, 0] S1x1x352x256.size h) = part x1 k := by
  funext j
  have l0 : (j 0).val < 1 := (j 0).isLt
  have l1 : (j 1).val < 1 := (j 1).isLt
  exact View.ld_unit_apply_of x1 _ _ _ _ _ fun a => match a with
    | ⟨0, _⟩ => by show 0 = 0 + (j 0).val; omega
    | ⟨1, _⟩ => by show k.val = k.val + (j 1).val; omega
    | ⟨2, _⟩ => (Nat.zero_add _).symm
    | ⟨3, _⟩ => (Nat.zero_add _).symm

theorem ld_part0 (x1 : Vec Ideal S1x7x352x256 .bf16) :
    View.ld x1 (Rect.unit ![0, 0, 0, 0] ![1, 1, 352, 256] inb_S1x7x352x256_S1x1x352x256_0_0_0_0) = part x1 0 :=
  ld_part x1 0 inb_S1x7x352x256_S1x1x352x256_0_0_0_0

theorem ld_part1 (x1 : Vec Ideal S1x7x352x256 .bf16) :
    View.ld x1 (Rect.unit ![0, 1, 0, 0] ![1, 1, 352, 256] inb_S1x7x352x256_S1x1x352x256_0_1_0_0) = part x1 1 :=
  ld_part x1 1 inb_S1x7x352x256_S1x1x352x256_0_1_0_0

theorem ld_part2 (x1 : Vec Ideal S1x7x352x256 .bf16) :
    View.ld x1 (Rect.unit ![0, 2, 0, 0] ![1, 1, 352, 256] inb_S1x7x352x256_S1x1x352x256_0_2_0_0) = part x1 2 :=
  ld_part x1 2 inb_S1x7x352x256_S1x1x352x256_0_2_0_0

theorem ld_part3 (x1 : Vec Ideal S1x7x352x256 .bf16) :
    View.ld x1 (Rect.unit ![0, 3, 0, 0] ![1, 1, 352, 256] inb_S1x7x352x256_S1x1x352x256_0_3_0_0) = part x1 3 :=
  ld_part x1 3 inb_S1x7x352x256_S1x1x352x256_0_3_0_0

theorem ld_part4 (x1 : Vec Ideal S1x7x352x256 .bf16) :
    View.ld x1 (Rect.unit ![0, 4, 0, 0] ![1, 1, 352, 256] inb_S1x7x352x256_S1x1x352x256_0_4_0_0) = part x1 4 :=
  ld_part x1 4 inb_S1x7x352x256_S1x1x352x256_0_4_0_0

theorem ld_part5 (x1 : Vec Ideal S1x7x352x256 .bf16) :
    View.ld x1 (Rect.unit ![0, 5, 0, 0] ![1, 1, 352, 256] inb_S1x7x352x256_S1x1x352x256_0_5_0_0) = part x1 5 :=
  ld_part x1 5 inb_S1x7x352x256_S1x1x352x256_0_5_0_0

theorem ld_part6 (x1 : Vec Ideal S1x7x352x256 .bf16) :
    View.ld x1 (Rect.unit ![0, 6, 0, 0] ![1, 1, 352, 256] inb_S1x7x352x256_S1x1x352x256_0_6_0_0) = part x1 6 :=
  ld_part x1 6 inb_S1x7x352x256_S1x1x352x256_0_6_0_0

theorem stored_grad (x0 : Vec Ideal S1x1x352x256 .bf16) (x1 : Vec Ideal S1x7x352x256 .bf16) :
    k0_pay2 (k0_pay1 x0 (part x1 0) (part x1 1) (part x1 2) (part x1 3) (part x1 4) (part x1 5)) (part x1 6) = tileG x0 x1 := by
  funext i
  have e : tileG x0 x1 i = x0 (ix4 0 0 (i 0) (i 1)) + x1 (ix4 0 0 (i 0) (i 1)) + x1 (ix4 0 1 (i 0) (i 1))
      + x1 (ix4 0 2 (i 0) (i 1)) + x1 (ix4 0 3 (i 0) (i 1)) + x1 (ix4 0 4 (i 0) (i 1)) + x1 (ix4 0 5 (i 0) (i 1))
      + x1 (ix4 0 6 (i 0) (i 1)) := by
    unfold tileG
    rw [Fin.sum_univ_seven]
    simp only [add_assoc]
  rw [e]
  pointwise [k0_pay1, k0_pay2, part]

theorem stored_mean (x0 : Vec Ideal S1x1x352x256 .bf16) (x1 : Vec Ideal S1x7x352x256 .bf16) (v : Vec Ideal S352x256 .f32) :
    k0_pay3 (k0_pay1 x0 (part x1 0) (part x1 1) (part x1 2) (part x1 3) (part x1 4) (part x1 5)) (part x1 6) v = newMean (tileG x0 x1) v := by
  rw [← stored_grad]
  funext i
  pointwise [k0_pay3, newMean]

theorem stored_square (x0 : Vec Ideal S1x1x352x256 .bf16) (x1 : Vec Ideal S1x7x352x256 .bf16) (v : Vec Ideal S352x256 .f32) :
    k0_pay4 (k0_pay1 x0 (part x1 0) (part x1 1) (part x1 2) (part x1 3) (part x1 4) (part x1 5)) (part x1 6) v = newSquare (tileG x0 x1) v := by
  rw [← stored_grad]
  funext i
  pointwise [k0_pay4, newSquare]

theorem stored_step (x0 : Vec Ideal S1x1x352x256 .bf16) (x1 : Vec Ideal S1x7x352x256 .bf16) (w u v : Vec Ideal S352x256 .f32) :
    k0_pay5 (k0_pay1 x0 (part x1 0) (part x1 1) (part x1 2) (part x1 3) (part x1 4) (part x1 5)) (part x1 6) w u v = step w (tileG x0 x1) u v := by
  rw [← stored_grad]
  funext i
  pointwise [k0_pay5, k0_pay3, k0_pay4, step, newMean, newSquare]

theorem out_5 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0 = tileG x0 x1 := by
  have hc := cover0_A_5 c i arg2 harg2 arg3 harg3 arg4 harg4 arg5 harg5 arg6 harg6 arg7 harg7 arg8 harg8 arg9 harg9 arg10 harg10 x0 x1 x2 x3 x4 xt0
  unfold out0_A_5
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_grad x0 x1]
  rw [View.ld_unit_zero hz4, ld_part0, ld_part1, ld_part2, ld_part3, ld_part4, ld_part5, ld_part6]

theorem out_6 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0 = step x2 (tileG x0 x1) x3 x4 := by
  have hc := cover0_A_6 c i arg2 harg2 arg3 harg3 arg4 harg4 arg5 harg5 arg6 harg6 arg7 harg7 arg8 harg8 arg9 harg9 arg10 harg10 x0 x1 x2 x3 x4 xt0
  unfold out0_A_6
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_step x0 x1 x2 x3 x4]
  rw [View.ld_unit_zero hz4, ld_part0, ld_part1, ld_part2, ld_part3, ld_part4, ld_part5, ld_part6]
  rw [View.ld_unit_zero hz2, View.ld_unit_zero hz2, View.ld_unit_zero hz2]

theorem out_7 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0 = newMean (tileG x0 x1) x3 := by
  have hc := cover0_A_7 c i arg2 harg2 arg3 harg3 arg4 harg4 arg5 harg5 arg6 harg6 arg7 harg7 arg8 harg8 arg9 harg9 arg10 harg10 x0 x1 x2 x3 x4 xt0
  unfold out0_A_7
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_mean x0 x1 x3]
  rw [View.ld_unit_zero hz4, ld_part0, ld_part1, ld_part2, ld_part3, ld_part4, ld_part5, ld_part6]
  rw [View.ld_unit_zero hz2]

theorem out_8 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0 = newSquare (tileG x0 x1) x4 := by
  have hc := cover0_A_8 c i arg2 harg2 arg3 harg3 arg4 harg4 arg5 harg5 arg6 harg6 arg7 harg7 arg8 harg8 arg9 harg9 arg10 harg10 x0 x1 x2 x3 x4 xt0
  unfold out0_A_8
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_square x0 x1 x4]
  rw [View.ld_unit_zero hz4, ld_part0, ld_part1, ld_part2, ld_part3, ld_part4, ld_part5, ld_part6]
  rw [View.ld_unit_zero hz2]

/-! ## The arrays -/

/-- The gradient of the weight: the device’s own part plus the seven parts received. -/
def grad (me : IVec S1 32) (own : Vec Ideal S2x8x352x1024 .bf16) (recv : Vec Ideal S2x7x352x1024 .bf16) : Vec Ideal S352x1024 .f32 :=
  fun i => own (ix4 0 (Fin.ofNat 8 (BitVec.toNat (me at0))) (i 0) (i 1)) + ∑ k : Fin 7, recv (ix4 0 k (i 0) (i 1))

abbrev rGrad (c : Dev nD) : Buf (Elt Ideal) ((c : Thread nD τ).loc main_v0_0) :=
  grad (m ((c : Thread nD τ).loc main_arg0)) (m ((c : Thread nD τ).loc main_arg1)) (m ((c : Thread nD τ).loc main_arg2))
abbrev rStep (c : Dev nD) : Buf (Elt Ideal) ((c : Thread nD τ).loc main_v0_1) :=
  step (m ((c : Thread nD τ).loc main_arg3)) (rGrad m c) (m ((c : Thread nD τ).loc main_arg4)) (m ((c : Thread nD τ).loc main_arg5))
abbrev rMean (c : Dev nD) : Buf (Elt Ideal) ((c : Thread nD τ).loc main_v0_2) :=
  newMean (rGrad m c) (m ((c : Thread nD τ).loc main_arg4))
abbrev rSquare (c : Dev nD) : Buf (Elt Ideal) ((c : Thread nD τ).loc main_v0_3) :=
  newSquare (rGrad m c) (m ((c : Thread nD τ).loc main_arg5))

theorem point (t : Fin grid0.N) : (grid0.coords t 0).val = t.val := by
  revert t; decide +kernel

theorem idx_1 : ∀ t : Fin grid0.N, cc0_transform_1 (grid0.coords t) 0 = 0 ∧ cc0_transform_1 (grid0.coords t) 1 = 0
    ∧ cc0_transform_1 (grid0.coords t) 2 = 0 ∧ cc0_transform_1 (grid0.coords t) 3 = t.val := by
  decide +kernel

theorem idx_2 : ∀ t : Fin grid0.N, cc0_transform_2 (grid0.coords t) 0 = 0 ∧ cc0_transform_2 (grid0.coords t) 1 = t.val := by
  decide +kernel

theorem idx_3 : ∀ t : Fin grid0.N, cc0_transform_3 (grid0.coords t) 0 = 0 ∧ cc0_transform_3 (grid0.coords t) 1 = t.val := by
  decide +kernel

theorem idx_4 : ∀ t : Fin grid0.N, cc0_transform_4 (grid0.coords t) 0 = 0 ∧ cc0_transform_4 (grid0.coords t) 1 = t.val := by
  decide +kernel

theorem idx_5 : ∀ t : Fin grid0.N, cc0_transform_5 (grid0.coords t) 0 = 0 ∧ cc0_transform_5 (grid0.coords t) 1 = t.val := by
  decide +kernel

theorem idx_6 : ∀ t : Fin grid0.N, cc0_transform_6 (grid0.coords t) 0 = 0 ∧ cc0_transform_6 (grid0.coords t) 1 = t.val := by
  decide +kernel

theorem idx_7 : ∀ t : Fin grid0.N, cc0_transform_7 (grid0.coords t) 0 = 0 ∧ cc0_transform_7 (grid0.coords t) 1 = t.val := by
  decide +kernel

theorem idx_8 : ∀ t : Fin grid0.N, cc0_transform_8 (grid0.coords t) 0 = 0 ∧ cc0_transform_8 (grid0.coords t) 1 = t.val := by
  decide +kernel

/-- The own block at point `t` is the array at the device’s number and the block’s place. -/
theorem own_apply (hO : Ok m) (c : Dev nD) (hd : BitVec.toNat (m ((c : Thread nD τ).loc main_arg0) at0) < 8)
    (t : Fin (cfgM m hO).N) (j : S1x1x352x256.Idx) (i : S2x8x352x1024.Idx)
    (h0 : (i 0).val = 0) (h1 : (i 1).val = BitVec.toNat (m ((c : Thread nD τ).loc main_arg0) at0))
    (h2 : (i 2).val = (j 2).val) (h3 : (i 3).val = t.val * 256 + (j 3).val) :
    (iblk m hO c 0 t : Vec Ideal S1x1x352x256 .bf16) j = m ((c : Thread nD τ).loc main_arg1) i := by
  obtain rfl : c = 0 := Subsingleton.elim _ _
  unfold iblk
  refine (View.read_apply _ _).trans ?_
  show m (((0 : Dev nD) : Thread nD τ).loc main_arg1) _ = m (((0 : Dev nD) : Thread nD τ).loc main_arg1) i
  refine congrArg (m _) (funext fun a => Fin.ext ?_)
  have e := own_index (tbl m) (grid0.coords t)
  have l0 : (j 0).val < 1 := (j 0).isLt
  have l1 : (j 1).val < 1 := (j 1).isLt
  have ep : (grid0.coords t 0).val = t.val := point t
  match a with
  | ⟨0, _⟩ =>
    show cc0_transform_0 inb_S1_S1_0 numel1_S1 (tbl m) (grid0.coords t) 0 * 1 + 1 * (j 0).val = (i 0).val
    have e0 : cc0_transform_0 inb_S1_S1_0 numel1_S1 (tbl m) (grid0.coords t) 0 = 0 := congrFun e 0
    rw [e0, h0]; omega
  | ⟨1, _⟩ =>
    show cc0_transform_0 inb_S1_S1_0 numel1_S1 (tbl m) (grid0.coords t) 1 * 1 + 1 * (j 1).val = (i 1).val
    have e1 : cc0_transform_0 inb_S1_S1_0 numel1_S1 (tbl m) (grid0.coords t) 1 = BitVec.toNat (m (((0 : Dev nD) : Thread nD τ).loc main_arg0) at0) := congrFun e 1
    rw [e1, h1]; omega
  | ⟨2, _⟩ =>
    show cc0_transform_0 inb_S1_S1_0 numel1_S1 (tbl m) (grid0.coords t) 2 * 352 + 1 * (j 2).val = (i 2).val
    have e2 : cc0_transform_0 inb_S1_S1_0 numel1_S1 (tbl m) (grid0.coords t) 2 = 0 := congrFun e 2
    rw [e2, h2]; omega
  | ⟨3, _⟩ =>
    show cc0_transform_0 inb_S1_S1_0 numel1_S1 (tbl m) (grid0.coords t) 3 * 256 + 1 * (j 3).val = (i 3).val
    have e3 : cc0_transform_0 inb_S1_S1_0 numel1_S1 (tbl m) (grid0.coords t) 3 = t.val := (congrFun e 3).trans ep
    rw [e3, h3]; omega

/-- The received block at point `t` is the array at the block’s place. -/
theorem recv_apply (hO : Ok m) (c : Dev nD) (t : Fin (cfgM m hO).N) (j : S1x7x352x256.Idx) (i : S2x7x352x1024.Idx)
    (h0 : (i 0).val = 0) (h1 : (i 1).val = (j 1).val) (h2 : (i 2).val = (j 2).val) (h3 : (i 3).val = t.val * 256 + (j 3).val) :
    (iblk m hO c 1 t : Vec Ideal S1x7x352x256 .bf16) j = m ((c : Thread nD τ).loc main_arg2) i := by
  unfold iblk
  refine (View.read_apply _ _).trans ?_
  show m ((c : Thread nD τ).loc main_arg2) _ = m ((c : Thread nD τ).loc main_arg2) i
  refine congrArg (m _) (funext fun a => Fin.ext ?_)
  obtain ⟨e0, e1, e2, e3⟩ := idx_1 t
  have l0 : (j 0).val < 1 := (j 0).isLt
  match a with
  | ⟨0, _⟩ => show cc0_transform_1 (grid0.coords t) 0 * 1 + 1 * (j 0).val = (i 0).val; rw [e0, h0]; omega
  | ⟨1, _⟩ => show cc0_transform_1 (grid0.coords t) 1 * 7 + 1 * (j 1).val = (i 1).val; rw [e1, h1]; omega
  | ⟨2, _⟩ => show cc0_transform_1 (grid0.coords t) 2 * 352 + 1 * (j 2).val = (i 2).val; rw [e2, h2]; omega
  | ⟨3, _⟩ => show cc0_transform_1 (grid0.coords t) 3 * 256 + 1 * (j 3).val = (i 3).val; rw [e3, h3]; omega

theorem weight_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 2 t : Vec Ideal S352x256 .f32) j = m ((c : Thread nD τ).loc main_arg3) i := by
  unfold iblk
  refine (View.read_apply _ _).trans ?_
  show m ((c : Thread nD τ).loc main_arg3) _ = m ((c : Thread nD τ).loc main_arg3) i
  refine congrArg (m _) (funext fun a => Fin.ext ?_)
  obtain ⟨e0, e1⟩ := idx_2 t
  match a with
  | ⟨0, _⟩ => show cc0_transform_2 (grid0.coords t) 0 * 352 + 1 * (j 0).val = (i 0).val; rw [e0, h0]; omega
  | ⟨1, _⟩ => show cc0_transform_2 (grid0.coords t) 1 * 256 + 1 * (j 1).val = (i 1).val; rw [e1, h1]; omega

theorem mean_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 3 t : Vec Ideal S352x256 .f32) j = m ((c : Thread nD τ).loc main_arg4) i := by
  unfold iblk
  refine (View.read_apply _ _).trans ?_
  show m ((c : Thread nD τ).loc main_arg4) _ = m ((c : Thread nD τ).loc main_arg4) i
  refine congrArg (m _) (funext fun a => Fin.ext ?_)
  obtain ⟨e0, e1⟩ := idx_3 t
  match a with
  | ⟨0, _⟩ => show cc0_transform_3 (grid0.coords t) 0 * 352 + 1 * (j 0).val = (i 0).val; rw [e0, h0]; omega
  | ⟨1, _⟩ => show cc0_transform_3 (grid0.coords t) 1 * 256 + 1 * (j 1).val = (i 1).val; rw [e1, h1]; omega

theorem square_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 4 t : Vec Ideal S352x256 .f32) j = m ((c : Thread nD τ).loc main_arg5) i := by
  unfold iblk
  refine (View.read_apply _ _).trans ?_
  show m ((c : Thread nD τ).loc main_arg5) _ = m ((c : Thread nD τ).loc main_arg5) i
  refine congrArg (m _) (funext fun a => Fin.ext ?_)
  obtain ⟨e0, e1⟩ := idx_4 t
  match a with
  | ⟨0, _⟩ => show cc0_transform_4 (grid0.coords t) 0 * 352 + 1 * (j 0).val = (i 0).val; rw [e0, h0]; omega
  | ⟨1, _⟩ => show cc0_transform_4 (grid0.coords t) 1 * 256 + 1 * (j 1).val = (i 1).val; rw [e1, h1]; omega

/-- A tile’s gradient is the array’s gradient at the tile’s place. -/
theorem grad_apply (hO : Ok m) (c : Dev nD) (hd : BitVec.toNat (m ((c : Thread nD τ).loc main_arg0) at0) < 8)
    (t : Fin (cfgM m hO).N) (j : S352x256.Idx) (i : S352x1024.Idx)
    (h0 : (i 0).val = 0 * 352 + (j 0).val) (h1 : (i 1).val = t.val * 256 + (j 1).val) :
    tileG (iblk m hO c 0 t) (iblk m hO c 1 t) j = rGrad m c i := by
  have hr : (i 0).val = (j 0).val := by omega
  have hc : (i 1).val = t.val * 256 + (j 1).val := by omega
  have h8 : (Fin.ofNat 8 (BitVec.toNat (m ((c : Thread nD τ).loc main_arg0) at0))).val = BitVec.toNat (m ((c : Thread nD τ).loc main_arg0) at0) :=
    Nat.mod_eq_of_lt hd
  exact congrArg₂ (fun a b : EReal => a + b)
    (own_apply m hO c hd t (ix4 0 0 (j 0) (j 1)) (ix4 0 (Fin.ofNat 8 (BitVec.toNat (m ((c : Thread nD τ).loc main_arg0) at0))) (i 0) (i 1))
      rfl h8 hr hc)
    (Finset.sum_congr rfl fun k _ => recv_apply m hO c t (ix4 0 k (j 0) (j 1)) (ix4 0 k (i 0) (i 1)) rfl rfl hr hc)

theorem tile_5 (hO : Ok m) (c : Dev nD) (t : Fin (cfgM m hO).N) (x0 : Vec Ideal S1x1x352x256 .bf16) (x1 : Vec Ideal S1x7x352x256 .bf16) (x2 x3 x4 : Vec Ideal S352x256 .f32) :
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = tileG x0 x1 :=
  out_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_5 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).1 = tileG x0 x1 := by
  rw [← tile_5 m hO c t x0 x1 x2 x3 x4, h0, h1, h2, h3, h4]
  rfl

theorem outs_5 (hO : Ok m) (c : Dev nD) (t : Fin (cfgM m hO).N) :
    (outsAt0 m hO c t).1 = tileG (iblk m hO c 0 t) (iblk m hO c 1 t) :=
  outs_of_5 m hO c t _ _ _ _ _ rfl rfl rfl rfl rfl

/-- What point `t` writes back is its block of the result. -/
theorem flushed_5 (hO : Ok m) (c : Dev nD) (hd : BitVec.toNat (m ((c : Thread nD τ).loc main_arg0) at0) < 8) (t : Fin (cfgM m hO).N) :
    (dats m hO 0 c).flushed 5 t = (((cfgM m hO).win 5).blk t).view.read (Elt Ideal) (rGrad m c) := by
  show ((cfgM m hO).win 5).cut (grid0.coords t) ((dats m hO 0 c).after 5 t) = _
  rw [after0_5, outs_5]
  obtain ⟨e0, e1⟩ := idx_5 t
  have key : ∀ (j : S352x256.Idx) (i : S352x1024.Idx), (i 0).val = cc0_transform_5 (grid0.coords t) 0 * 352 + 1 * (j 0).val →
      (i 1).val = cc0_transform_5 (grid0.coords t) 1 * 256 + 1 * (j 1).val →
      (tileG (iblk m hO c 0 t) (iblk m hO c 1 t)) j = rGrad m c i := by
    intro j i h0 h1
    rw [e0, Nat.one_mul] at h0
    rw [e1, Nat.one_mul] at h1
    exact grad_apply m hO c hd t j _ h0 h1
  exact funext fun j => key j ((((cfgM m hO).win 5).blk t).view.emb j) rfl rfl

theorem mem_blk_5 (hO : Ok m) (t : Fin (cfgM m hO).N) (i : S352x1024.Idx) (ht : (i 1).val / 256 = t.val) :
    i ∈ (((cfgM m hO).win 5).blk t).view.set := by
  have hw : ∀ r : Rect S352x1024, i ∈ r.set → i ∈ ((View.whole main_v0_0).slice r).set := by
    intro r h
    rw [View.set_slice_whole]
    exact h
  refine hw (((cfgM m hO).win 5).rect t) (Rect.mem_set_unit.mpr ?_)
  obtain ⟨e0, e1⟩ := idx_5 t
  have l0 : (i 0).val < 352 := (i 0).isLt
  have l1 : (i 1).val < 1024 := (i 1).isLt
  intro a
  match a with
  | ⟨0, _⟩ =>
    show cc0_transform_5 (grid0.coords t) 0 * 352 ≤ (i 0 : Nat) ∧ (i 0 : Nat) < cc0_transform_5 (grid0.coords t) 0 * 352 + 352
    rw [e0]; omega
  | ⟨1, _⟩ =>
    show cc0_transform_5 (grid0.coords t) 1 * 256 ≤ (i 1 : Nat) ∧ (i 1 : Nat) < cc0_transform_5 (grid0.coords t) 1 * 256 + 256
    rw [e1]; omega

/-- The blocks written back cover the array. -/
theorem cover_5 (hO : Ok m) (i : S352x1024.Idx) :
    ∃ t : Fin (cfgM m hO).N, ((cfgM m hO).win 5).flush t = true ∧ i ∈ (((cfgM m hO).win 5).blk t).view.set := by
  have l : (i 1).val < 1024 := (i 1).isLt
  have hN : (cfgM m hO).N = 4 := N_0
  exact ⟨⟨(i 1).val / 256, by omega⟩, flush0_5 (adm m hO) _, mem_blk_5 m hO _ _ rfl⟩

theorem final_5 (hO : Ok m) (c : Dev nD) (hd : BitVec.toNat (m ((c : Thread nD τ).loc main_arg0) at0) < 8) :
    (dats m hO 0 c).arrAt 5 (cfgM m hO).N = rGrad m c :=
  (dats m hO 0 c).arrAt_eq_of_cover 5 (rGrad m c) (fun t _ => flushed_5 m hO c hd t) (cover_5 m hO)

theorem tile_6 (hO : Ok m) (c : Dev nD) (t : Fin (cfgM m hO).N) (x0 : Vec Ideal S1x1x352x256 .bf16) (x1 : Vec Ideal S1x7x352x256 .bf16) (x2 x3 x4 : Vec Ideal S352x256 .f32) :
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = step x2 (tileG x0 x1) x3 x4 :=
  out_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_6 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.1 = step x2 (tileG x0 x1) x3 x4 := by
  rw [← tile_6 m hO c t x0 x1 x2 x3 x4, h0, h1, h2, h3, h4]
  rfl

theorem outs_6 (hO : Ok m) (c : Dev nD) (t : Fin (cfgM m hO).N) :
    (outsAt0 m hO c t).2.1 = step (iblk m hO c 2 t) (tileG (iblk m hO c 0 t) (iblk m hO c 1 t)) (iblk m hO c 3 t) (iblk m hO c 4 t) :=
  outs_of_6 m hO c t _ _ _ _ _ rfl rfl rfl rfl rfl

/-- What point `t` writes back is its block of the result. -/
theorem flushed_6 (hO : Ok m) (c : Dev nD) (hd : BitVec.toNat (m ((c : Thread nD τ).loc main_arg0) at0) < 8) (t : Fin (cfgM m hO).N) :
    (dats m hO 0 c).flushed 6 t = (((cfgM m hO).win 6).blk t).view.read (Elt Ideal) (rStep m c) := by
  show ((cfgM m hO).win 6).cut (grid0.coords t) ((dats m hO 0 c).after 6 t) = _
  rw [after0_6, outs_6]
  obtain ⟨e0, e1⟩ := idx_6 t
  have key : ∀ (j : S352x256.Idx) (i : S352x1024.Idx), (i 0).val = cc0_transform_6 (grid0.coords t) 0 * 352 + 1 * (j 0).val →
      (i 1).val = cc0_transform_6 (grid0.coords t) 1 * 256 + 1 * (j 1).val →
      (step (iblk m hO c 2 t) (tileG (iblk m hO c 0 t) (iblk m hO c 1 t)) (iblk m hO c 3 t) (iblk m hO c 4 t)) j = rStep m c i := by
    intro j i h0 h1
    rw [e0, Nat.one_mul] at h0
    rw [e1, Nat.one_mul] at h1
    exact step_congr (weight_apply m hO c t j _ h0 h1) (grad_apply m hO c hd t j _ h0 h1) (mean_apply m hO c t j _ h0 h1) (square_apply m hO c t j _ h0 h1)
  exact funext fun j => key j ((((cfgM m hO).win 6).blk t).view.emb j) rfl rfl

theorem mem_blk_6 (hO : Ok m) (t : Fin (cfgM m hO).N) (i : S352x1024.Idx) (ht : (i 1).val / 256 = t.val) :
    i ∈ (((cfgM m hO).win 6).blk t).view.set := by
  have hw : ∀ r : Rect S352x1024, i ∈ r.set → i ∈ ((View.whole main_v0_1).slice r).set := by
    intro r h
    rw [View.set_slice_whole]
    exact h
  refine hw (((cfgM m hO).win 6).rect t) (Rect.mem_set_unit.mpr ?_)
  obtain ⟨e0, e1⟩ := idx_6 t
  have l0 : (i 0).val < 352 := (i 0).isLt
  have l1 : (i 1).val < 1024 := (i 1).isLt
  intro a
  match a with
  | ⟨0, _⟩ =>
    show cc0_transform_6 (grid0.coords t) 0 * 352 ≤ (i 0 : Nat) ∧ (i 0 : Nat) < cc0_transform_6 (grid0.coords t) 0 * 352 + 352
    rw [e0]; omega
  | ⟨1, _⟩ =>
    show cc0_transform_6 (grid0.coords t) 1 * 256 ≤ (i 1 : Nat) ∧ (i 1 : Nat) < cc0_transform_6 (grid0.coords t) 1 * 256 + 256
    rw [e1]; omega

/-- The blocks written back cover the array. -/
theorem cover_6 (hO : Ok m) (i : S352x1024.Idx) :
    ∃ t : Fin (cfgM m hO).N, ((cfgM m hO).win 6).flush t = true ∧ i ∈ (((cfgM m hO).win 6).blk t).view.set := by
  have l : (i 1).val < 1024 := (i 1).isLt
  have hN : (cfgM m hO).N = 4 := N_0
  exact ⟨⟨(i 1).val / 256, by omega⟩, flush0_6 (adm m hO) _, mem_blk_6 m hO _ _ rfl⟩

theorem final_6 (hO : Ok m) (c : Dev nD) (hd : BitVec.toNat (m ((c : Thread nD τ).loc main_arg0) at0) < 8) :
    (dats m hO 0 c).arrAt 6 (cfgM m hO).N = rStep m c :=
  (dats m hO 0 c).arrAt_eq_of_cover 6 (rStep m c) (fun t _ => flushed_6 m hO c hd t) (cover_6 m hO)

theorem tile_7 (hO : Ok m) (c : Dev nD) (t : Fin (cfgM m hO).N) (x0 : Vec Ideal S1x1x352x256 .bf16) (x1 : Vec Ideal S1x7x352x256 .bf16) (x2 x3 x4 : Vec Ideal S352x256 .f32) :
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newMean (tileG x0 x1) x3 :=
  out_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_7 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.1 = newMean (tileG x0 x1) x3 := by
  rw [← tile_7 m hO c t x0 x1 x2 x3 x4, h0, h1, h2, h3, h4]
  rfl

theorem outs_7 (hO : Ok m) (c : Dev nD) (t : Fin (cfgM m hO).N) :
    (outsAt0 m hO c t).2.2.1 = newMean (tileG (iblk m hO c 0 t) (iblk m hO c 1 t)) (iblk m hO c 3 t) :=
  outs_of_7 m hO c t _ _ _ _ _ rfl rfl rfl rfl rfl

/-- What point `t` writes back is its block of the result. -/
theorem flushed_7 (hO : Ok m) (c : Dev nD) (hd : BitVec.toNat (m ((c : Thread nD τ).loc main_arg0) at0) < 8) (t : Fin (cfgM m hO).N) :
    (dats m hO 0 c).flushed 7 t = (((cfgM m hO).win 7).blk t).view.read (Elt Ideal) (rMean m c) := by
  show ((cfgM m hO).win 7).cut (grid0.coords t) ((dats m hO 0 c).after 7 t) = _
  rw [after0_7, outs_7]
  obtain ⟨e0, e1⟩ := idx_7 t
  have key : ∀ (j : S352x256.Idx) (i : S352x1024.Idx), (i 0).val = cc0_transform_7 (grid0.coords t) 0 * 352 + 1 * (j 0).val →
      (i 1).val = cc0_transform_7 (grid0.coords t) 1 * 256 + 1 * (j 1).val →
      (newMean (tileG (iblk m hO c 0 t) (iblk m hO c 1 t)) (iblk m hO c 3 t)) j = rMean m c i := by
    intro j i h0 h1
    rw [e0, Nat.one_mul] at h0
    rw [e1, Nat.one_mul] at h1
    exact newMean_congr (grad_apply m hO c hd t j _ h0 h1) (mean_apply m hO c t j _ h0 h1)
  exact funext fun j => key j ((((cfgM m hO).win 7).blk t).view.emb j) rfl rfl

theorem mem_blk_7 (hO : Ok m) (t : Fin (cfgM m hO).N) (i : S352x1024.Idx) (ht : (i 1).val / 256 = t.val) :
    i ∈ (((cfgM m hO).win 7).blk t).view.set := by
  have hw : ∀ r : Rect S352x1024, i ∈ r.set → i ∈ ((View.whole main_v0_2).slice r).set := by
    intro r h
    rw [View.set_slice_whole]
    exact h
  refine hw (((cfgM m hO).win 7).rect t) (Rect.mem_set_unit.mpr ?_)
  obtain ⟨e0, e1⟩ := idx_7 t
  have l0 : (i 0).val < 352 := (i 0).isLt
  have l1 : (i 1).val < 1024 := (i 1).isLt
  intro a
  match a with
  | ⟨0, _⟩ =>
    show cc0_transform_7 (grid0.coords t) 0 * 352 ≤ (i 0 : Nat) ∧ (i 0 : Nat) < cc0_transform_7 (grid0.coords t) 0 * 352 + 352
    rw [e0]; omega
  | ⟨1, _⟩ =>
    show cc0_transform_7 (grid0.coords t) 1 * 256 ≤ (i 1 : Nat) ∧ (i 1 : Nat) < cc0_transform_7 (grid0.coords t) 1 * 256 + 256
    rw [e1]; omega

/-- The blocks written back cover the array. -/
theorem cover_7 (hO : Ok m) (i : S352x1024.Idx) :
    ∃ t : Fin (cfgM m hO).N, ((cfgM m hO).win 7).flush t = true ∧ i ∈ (((cfgM m hO).win 7).blk t).view.set := by
  have l : (i 1).val < 1024 := (i 1).isLt
  have hN : (cfgM m hO).N = 4 := N_0
  exact ⟨⟨(i 1).val / 256, by omega⟩, flush0_7 (adm m hO) _, mem_blk_7 m hO _ _ rfl⟩

theorem final_7 (hO : Ok m) (c : Dev nD) (hd : BitVec.toNat (m ((c : Thread nD τ).loc main_arg0) at0) < 8) :
    (dats m hO 0 c).arrAt 7 (cfgM m hO).N = rMean m c :=
  (dats m hO 0 c).arrAt_eq_of_cover 7 (rMean m c) (fun t _ => flushed_7 m hO c hd t) (cover_7 m hO)

theorem tile_8 (hO : Ok m) (c : Dev nD) (t : Fin (cfgM m hO).N) (x0 : Vec Ideal S1x1x352x256 .bf16) (x1 : Vec Ideal S1x7x352x256 .bf16) (x2 x3 x4 : Vec Ideal S352x256 .f32) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newSquare (tileG x0 x1) x4 :=
  out_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_8 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.2 = newSquare (tileG x0 x1) x4 := by
  rw [← tile_8 m hO c t x0 x1 x2 x3 x4, h0, h1, h2, h3, h4]
  rfl

theorem outs_8 (hO : Ok m) (c : Dev nD) (t : Fin (cfgM m hO).N) :
    (outsAt0 m hO c t).2.2.2 = newSquare (tileG (iblk m hO c 0 t) (iblk m hO c 1 t)) (iblk m hO c 4 t) :=
  outs_of_8 m hO c t _ _ _ _ _ rfl rfl rfl rfl rfl

/-- What point `t` writes back is its block of the result. -/
theorem flushed_8 (hO : Ok m) (c : Dev nD) (hd : BitVec.toNat (m ((c : Thread nD τ).loc main_arg0) at0) < 8) (t : Fin (cfgM m hO).N) :
    (dats m hO 0 c).flushed 8 t = (((cfgM m hO).win 8).blk t).view.read (Elt Ideal) (rSquare m c) := by
  show ((cfgM m hO).win 8).cut (grid0.coords t) ((dats m hO 0 c).after 8 t) = _
  rw [after0_8, outs_8]
  obtain ⟨e0, e1⟩ := idx_8 t
  have key : ∀ (j : S352x256.Idx) (i : S352x1024.Idx), (i 0).val = cc0_transform_8 (grid0.coords t) 0 * 352 + 1 * (j 0).val →
      (i 1).val = cc0_transform_8 (grid0.coords t) 1 * 256 + 1 * (j 1).val →
      (newSquare (tileG (iblk m hO c 0 t) (iblk m hO c 1 t)) (iblk m hO c 4 t)) j = rSquare m c i := by
    intro j i h0 h1
    rw [e0, Nat.one_mul] at h0
    rw [e1, Nat.one_mul] at h1
    exact newSquare_congr (grad_apply m hO c hd t j _ h0 h1) (square_apply m hO c t j _ h0 h1)
  exact funext fun j => key j ((((cfgM m hO).win 8).blk t).view.emb j) rfl rfl

theorem mem_blk_8 (hO : Ok m) (t : Fin (cfgM m hO).N) (i : S352x1024.Idx) (ht : (i 1).val / 256 = t.val) :
    i ∈ (((cfgM m hO).win 8).blk t).view.set := by
  have hw : ∀ r : Rect S352x1024, i ∈ r.set → i ∈ ((View.whole main_v0_3).slice r).set := by
    intro r h
    rw [View.set_slice_whole]
    exact h
  refine hw (((cfgM m hO).win 8).rect t) (Rect.mem_set_unit.mpr ?_)
  obtain ⟨e0, e1⟩ := idx_8 t
  have l0 : (i 0).val < 352 := (i 0).isLt
  have l1 : (i 1).val < 1024 := (i 1).isLt
  intro a
  match a with
  | ⟨0, _⟩ =>
    show cc0_transform_8 (grid0.coords t) 0 * 352 ≤ (i 0 : Nat) ∧ (i 0 : Nat) < cc0_transform_8 (grid0.coords t) 0 * 352 + 352
    rw [e0]; omega
  | ⟨1, _⟩ =>
    show cc0_transform_8 (grid0.coords t) 1 * 256 ≤ (i 1 : Nat) ∧ (i 1 : Nat) < cc0_transform_8 (grid0.coords t) 1 * 256 + 256
    rw [e1]; omega

/-- The blocks written back cover the array. -/
theorem cover_8 (hO : Ok m) (i : S352x1024.Idx) :
    ∃ t : Fin (cfgM m hO).N, ((cfgM m hO).win 8).flush t = true ∧ i ∈ (((cfgM m hO).win 8).blk t).view.set := by
  have l : (i 1).val < 1024 := (i 1).isLt
  have hN : (cfgM m hO).N = 4 := N_0
  exact ⟨⟨(i 1).val / 256, by omega⟩, flush0_8 (adm m hO) _, mem_blk_8 m hO _ _ rfl⟩

theorem final_8 (hO : Ok m) (c : Dev nD) (hd : BitVec.toNat (m ((c : Thread nD τ).loc main_arg0) at0) < 8) :
    (dats m hO 0 c).arrAt 8 (cfgM m hO).N = rSquare m c :=
  (dats m hO 0 c).arrAt_eq_of_cover 8 (rSquare m c) (fun t _ => flushed_8 m hO c hd t) (cover_8 m hO)

/-- The run: the four results, and the arguments unchanged. -/
theorem run (hm : ∀ c : Dev nD, BitVec.toNat (m ((c : Thread nD τ).loc main_arg0) at0) < 8) :
    θ_run defs (onTc (τ := τ) (main (F := Ideal))) ⟨m, fun _ => 0, ρ⟩ fun r => ∀ c : Dev nD,
      r.2.mem ((c : Thread nD τ).loc main_v0_0) = rGrad m c
      ∧ r.2.mem ((c : Thread nD τ).loc main_v0_1) = rStep m c
      ∧ r.2.mem ((c : Thread nD τ).loc main_v0_2) = rMean m c
      ∧ r.2.mem ((c : Thread nD τ).loc main_v0_3) = rSquare m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  let hO := ok_of m (hm 0)
  (θ_run defs _ _).mono (fun _ h c => ⟨((h c).1 5).trans (final_5 m hO c (hm c)), ((h c).1 6).trans (final_6 m hO c (hm c)),
      ((h c).1 7).trans (final_7 m hO c (hm c)), ((h c).1 8).trans (final_8 m hO c (hm c)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

/-! ## The reference -/

theorem zero_word : FloatOps.ofBits (F := Ideal) .f32 0x00000000#32 = (0 : EReal) := by
  pointwise []

/-- Two numbers below eight as words are the same word exactly when they are the same number. -/
theorem eq_word (k : Fin 8) (w : BitVec 32) (hw : w.toNat < 8) :
    IntOp.cmpi .eq (BitVec.ofNat 32 k.val) w = if k = Fin.ofNat 8 w.toNat then 1#1 else 0#1 := by
  have e : (BitVec.ofNat 32 k.val = w) ↔ k = Fin.ofNat 8 w.toNat := by
    constructor
    · intro h
      apply Fin.ext
      rw [← h]
      show k.val = (BitVec.ofNat 32 k.val).toNat % 8
      rw [BitVec.toNat_ofNat]
      omega
    · intro h
      apply BitVec.eq_of_toNat_eq
      rw [h]
      show (BitVec.ofNat 32 (w.toNat % 8)).toNat = _
      rw [BitVec.toNat_ofNat]
      omega
  unfold IntOp.cmpi
  by_cases h : k = Fin.ofNat 8 w.toNat
  · rw [if_pos h]; simp [e.mpr h]
  · rw [if_neg h]
    show BitVec.ofBool (BitVec.ofNat 32 k.val == w) = 0#1
    rw [beq_eq_false_iff_ne.mpr (fun g => h (e.mp g))]
    rfl

theorem number (me : IVec S1 32) (j) : Cert.Reference14Ideal.Read.val_main_v2 (F := Ideal) me j = me at0 := congrArg me (idx_one _)

/-- The reference’s selected part: the device’s own part at its number, zero elsewhere. -/
theorem picked (me : IVec S1 32) (hme : BitVec.toNat (me at0) < 8) (own : Vec Ideal S2x8x352x1024 .bf16) (k : Fin 8) (r : Fin 352) (s : Fin 1024) :
    Cert.Reference14Ideal.Read.val_main_v8 (F := Ideal) me own (ix3 k r s) = if k = (Fin.ofNat 8 (BitVec.toNat (me at0))) then own (ix4 0 k r s) else 0 := by
  have e : Cert.Reference14Ideal.Read.val_main_v8 (F := Ideal) me own (ix3 k r s)
      = Scalar.select (IntOp.cmpi .eq (BitVec.ofNat 32 k.val) (me at0)) (own (ix4 0 k r s)) (FloatOps.ofBits (F := Ideal) .f32 0x00000000#32) := by
    have hn := number me
    pointwise [Cert.Reference14Ideal.Read.val_main_v8, Cert.Reference14Ideal.Read.val_main_call0_v0, Cert.Reference14Ideal.Read.val_main_call0_v1, Cert.Reference14Ideal.Read.val_main_call0_v2, Cert.Reference14Ideal.Read.val_main_cst, Cert.Reference14Ideal.Read.val_main_v0, Cert.Reference14Ideal.Read.val_main_v1, Cert.Reference14Ideal.Read.val_main_v3, Cert.Reference14Ideal.Read.val_main_v4, Cert.Reference14Ideal.Read.val_main_v5, Cert.Reference14Ideal.Read.val_main_v6, Cert.Reference14Ideal.Read.val_main_v7, hn]
    exact congrArg (Scalar.select _ _) zero_word
  rw [e, eq_word k _ hme, zero_word]
  by_cases h : k = (Fin.ofNat 8 (BitVec.toNat (me at0)))
  · rw [if_pos h, if_pos h]; exact if_pos rfl
  · rw [if_neg h, if_neg h]; exact if_neg (by decide)

theorem ref_sum (me : IVec S1 32) (hme : BitVec.toNat (me at0) < 8) (own : Vec Ideal S2x8x352x1024 .bf16) (recv : Vec Ideal S2x7x352x1024 .bf16)
    (r : Fin 352) (s : Fin 1024) :
    Cert.Reference14Ideal.Read.val_main_v14 (F := Ideal) me own recv (ix2 r s) = own (ix4 0 (Fin.ofNat 8 (BitVec.toNat (me at0))) r s) + ∑ k : Fin 7, recv (ix4 0 k r s) := by
  rw [Cert.Reference14Ideal.Read.val_main_v14_apply]
  refine congrArg₂ (fun a b : EReal => a + b) ?_ ?_
  · rw [Cert.Reference14Ideal.Read.val_main_v9_apply]
    refine (congrArg₂ (fun a b : EReal => a + b) zero_word rfl).trans ((zero_add _).trans ?_)
    refine (Finset.sum_congr rfl fun k _ => (congrArg (Cert.Reference14Ideal.Read.val_main_v8 (F := Ideal) me own) (funext fun a => match a with | ⟨0, _⟩ => rfl | ⟨1, _⟩ => rfl | ⟨2, _⟩ => rfl)).trans (picked me hme own k r s)).trans ?_
    rw [Finset.sum_ite_eq' Finset.univ (Fin.ofNat 8 (BitVec.toNat (me at0))), if_pos (Finset.mem_univ _)]
  · rw [Cert.Reference14Ideal.Read.val_main_v13_apply]
    refine (congrArg₂ (fun a b : EReal => a + b) zero_word rfl).trans ((zero_add _).trans ?_)
    refine Finset.sum_congr rfl fun k _ => ?_
    have e : Cert.Reference14Ideal.Read.val_main_v12 (F := Ideal) recv (ix3 k r s) = recv (ix4 0 k r s) := by
      pointwise [Cert.Reference14Ideal.Read.val_main_v10, Cert.Reference14Ideal.Read.val_main_v11, Cert.Reference14Ideal.Read.val_main_v12]
    exact (congrArg (Cert.Reference14Ideal.Read.val_main_v12 (F := Ideal) recv) (funext fun a => match a with | ⟨0, _⟩ => rfl | ⟨1, _⟩ => rfl | ⟨2, _⟩ => rfl)).trans e

theorem ref_grad (me : IVec S1 32) (hme : BitVec.toNat (me at0) < 8) (own : Vec Ideal S2x8x352x1024 .bf16) (recv : Vec Ideal S2x7x352x1024 .bf16) :
    Cert.Reference14Ideal.Read.val_main_v14 (F := Ideal) me own recv = grad me own recv := by
  funext i
  have e : i = ix2 (i 0) (i 1) := funext fun a => match a with | ⟨0, _⟩ => rfl | ⟨1, _⟩ => rfl
  exact (congrArg (Cert.Reference14Ideal.Read.val_main_v14 (F := Ideal) me own recv) e).trans (ref_sum me hme own recv (i 0) (i 1))

theorem ref_mean (me : IVec S1 32) (hme : BitVec.toNat (me at0) < 8) (own : Vec Ideal S2x8x352x1024 .bf16) (recv : Vec Ideal S2x7x352x1024 .bf16) (u : Vec Ideal S352x1024 .f32) :
    Cert.Reference14Ideal.Read.val_main_v19 (F := Ideal) me own recv u = newMean (grad me own recv) u := by
  rw [← ref_grad me hme]
  funext i
  pointwise [Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8, Cert.Reference14Ideal.Read.val_main_cst_9, Cert.Reference14Ideal.Read.val_main_cst_10, Cert.Reference14Ideal.Read.val_main_v15, Cert.Reference14Ideal.Read.val_main_v16, Cert.Reference14Ideal.Read.val_main_v17, Cert.Reference14Ideal.Read.val_main_v18, Cert.Reference14Ideal.Read.val_main_v19, newMean]

theorem ref_square (me : IVec S1 32) (hme : BitVec.toNat (me at0) < 8) (own : Vec Ideal S2x8x352x1024 .bf16) (recv : Vec Ideal S2x7x352x1024 .bf16) (q : Vec Ideal S352x1024 .f32) :
    Cert.Reference14Ideal.Read.val_main_v25 (F := Ideal) me own recv q = newSquare (grad me own recv) q := by
  rw [← ref_grad me hme]
  funext i
  pointwise [Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8, Cert.Reference14Ideal.Read.val_main_cst_9, Cert.Reference14Ideal.Read.val_main_cst_10, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, newSquare]

theorem ref_step (me : IVec S1 32) (hme : BitVec.toNat (me at0) < 8) (own : Vec Ideal S2x8x352x1024 .bf16) (recv : Vec Ideal S2x7x352x1024 .bf16) (w u q : Vec Ideal S352x1024 .f32) :
    Cert.Reference14Ideal.Read.val_main_v38 (F := Ideal) me own recv w u q = step w (grad me own recv) u q := by
  have e1 := ref_mean me hme own recv u
  have e2 := ref_square me hme own recv q
  rw [← ref_grad me hme] at e1 e2 ⊢
  funext i
  pointwise [Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8, Cert.Reference14Ideal.Read.val_main_cst_9, Cert.Reference14Ideal.Read.val_main_cst_10, Cert.Reference14Ideal.Read.val_main_v26, Cert.Reference14Ideal.Read.val_main_v27, Cert.Reference14Ideal.Read.val_main_v28, Cert.Reference14Ideal.Read.val_main_v29, Cert.Reference14Ideal.Read.val_main_v30, Cert.Reference14Ideal.Read.val_main_v31, Cert.Reference14Ideal.Read.val_main_v32, Cert.Reference14Ideal.Read.val_main_v33, Cert.Reference14Ideal.Read.val_main_v34, Cert.Reference14Ideal.Read.val_main_v35, Cert.Reference14Ideal.Read.val_main_v36, Cert.Reference14Ideal.Read.val_main_v37, Cert.Reference14Ideal.Read.val_main_v38, step, e1, e2]

end Cert.Kernel14Ideal.StepGate

/-! ## The same side condition for the program in floating point -/

namespace Cert.Kernel14.StepGate

open Cert.Kernel14 Cert.Kernel14.Gen Idealize.ShloMosaic Idealize.ShloMosaic.TcCoe Idealize.ShloMosaic.Tactic
open Cert.Kernel14Ideal.StepGate (at0 idx_one)

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x352x256.size a ≤ S2x8x352x1024.size a := by
    intro a
    rw [own_index (tbl m) i]
    match a with
    | ⟨0, _⟩ => show (0 + 1) * 1 ≤ 2; omega
    | ⟨1, _⟩ =>
      show (BitVec.toNat (m (((0 : Dev nD) : Thread nD τ).loc main_arg0) at0) + 1) * 1 ≤ 8
      omega
    | ⟨2, _⟩ => show (0 + 1) * 352 ≤ 352; omega
    | ⟨3, _⟩ => show ((i 0).val + 1) * 256 ≤ 1024; omega
  exact ⟨hb, .inr (Affine.block_words_dvd (of_decide_eq_true rfl) (by decide))⟩

end Cert.Kernel14.StepGate

end
-- ==== Proof.StepUp.lean ====
/- The gradient of the up projection’s weight, turned, summed over the devices, and its optimiser step: the device’s own part,
   found by the device’s number, plus the seven parts received, then one AdamW step. -/
module

public import proofs.«01_k».proof.Proof.Gen.Kernel15Ideal.Frame
public import proofs.«01_k».proof.Proof.Gen.Kernel15.Frame
public import proofs.«01_k».proof.Proof.Gen.Reference15Ideal.Run
public import proofs.«01_k».proof.Proof.Gen.Reference15Ideal.Read
public import proofs.«01_k».proof.Proof.Gen.Pre_device15
public import proofs.«01_k».proof.Proof.AdamW
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Kernel15Ideal.StepUp

open Cert.AdamW Cert.Kernel15Ideal Cert.Kernel15Ideal.Gen Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The device’s number -/

/-- The one index of the device’s number. -/
abbrev at0 : S1.Idx := ix1 (0 : Fin 1)

theorem idx_one (x : S1.Idx) : x = at0 :=
  funext fun a => by
    obtain rfl : a = 0 := Subsingleton.elim _ _
    exact Fin.ext (by have := (x 0).isLt; show (x 0).val = 0; change (x 0).val < 1 at this; omega)

/-- A word between 0 and 7 as a signed number is one of the first eight words. -/
theorem small_word (v : BitVec 32) (h1 : IntOp.cmpi .sge v 0#32 = 1#1) (h2 : IntOp.cmpi .slt v 8#32 = 1#1) : v.toNat < 8 := by
  have ofBool_one (p : Bool) : (BitVec.ofBool p = 1#1) ↔ p = true := by cases p <;> decide
  simp only [IntOp.cmpi, ofBool_one, BitVec.sle, BitVec.slt, decide_eq_true_eq, BitVec.toInt] at h1 h2
  simp at h1 h2
  have := v.isLt
  split at h1 <;> split at h2 <;> omega

/-- The precondition’s reading: the device’s number is one of the eight. -/
theorem me_lt {F : FTy → Type} [FloatOps F] (x : IVec Cert.Pre_device15.S1 32) (a b d e f)
    (h : Cert.Pre_device15.fn (F := F) x a b d e f = fun _ => 1#1) (w : Cert.Pre_device15.S1.Idx) : (x w).toNat < 8 := by
  have andi_one (a b : BitVec 1) : IntOp.andi a b = 1#1 ↔ a = 1#1 ∧ b = 1#1 := by revert a b; decide
  have pre := congrFun h w
  simp only [Cert.Pre_device15.fn, constantI, broadcastInDim, cmpi, andi, andi_one] at pre
  exact small_word _ pre.1 pre.2

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![1, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x352x256.size a ≤ S2x8x352x1024.size a := by
    intro a
    rw [own_index (tbl m) i]
    match a with
    | ⟨0, _⟩ => show (1 + 1) * 1 ≤ 2; omega
    | ⟨1, _⟩ =>
      show (BitVec.toNat (m (((0 : Dev nD) : Thread nD τ).loc main_arg0) at0) + 1) * 1 ≤ 8
      omega
    | ⟨2, _⟩ => show (0 + 1) * 352 ≤ 352; omega
    | ⟨3, _⟩ => show ((i 0).val + 1) * 256 ≤ 1024; omega
  exact ⟨hb, .inr (Affine.block_words_dvd (of_decide_eq_true rfl) (by decide))⟩

/-! ## One tile -/

/-- The gradient of a tile: the own part plus the seven parts received. -/
def tileG (x0 : Vec Ideal S1x1x352x256 .bf16) (x1 : Vec Ideal S1x7x352x256 .bf16) : Vec Ideal S352x256 .f32 :=
  fun i => x0 (ix4 0 0 (i 0) (i 1)) + ∑ k : Fin 7, x1 (ix4 0 k (i 0) (i 1))

/-- A received part of the block. -/
def part (x1 : Vec Ideal S1x7x352x256 .bf16) (k : Fin 7) : Vec Ideal S1x1x352x256 .bf16 := fun i => x1 (ix4 0 k (i 2) (i 3))

theorem ld_part (x1 : Vec Ideal S1x7x352x256 .bf16) (k : Fin 7)
    (h : ∀ a, (![0, k.val, 0, 0] : Fin 4 → Nat) a + S1x1x352x256.size a ≤ S1x7x352x256.size a) :
    View.ld x1 (Rect.unit ![0, k.val, 0, 0] S1x1x352x256.size h) = part x1 k := by
  funext j
  have l0 : (j 0).val < 1 := (j 0).isLt
  have l1 : (j 1).val < 1 := (j 1).isLt
  exact View.ld_unit_apply_of x1 _ _ _ _ _ fun a => match a with
    | ⟨0, _⟩ => by show 0 = 0 + (j 0).val; omega
    | ⟨1, _⟩ => by show k.val = k.val + (j 1).val; omega
    | ⟨2, _⟩ => (Nat.zero_add _).symm
    | ⟨3, _⟩ => (Nat.zero_add _).symm

theorem ld_part0 (x1 : Vec Ideal S1x7x352x256 .bf16) :
    View.ld x1 (Rect.unit ![0, 0, 0, 0] ![1, 1, 352, 256] inb_S1x7x352x256_S1x1x352x256_0_0_0_0) = part x1 0 :=
  ld_part x1 0 inb_S1x7x352x256_S1x1x352x256_0_0_0_0

theorem ld_part1 (x1 : Vec Ideal S1x7x352x256 .bf16) :
    View.ld x1 (Rect.unit ![0, 1, 0, 0] ![1, 1, 352, 256] inb_S1x7x352x256_S1x1x352x256_0_1_0_0) = part x1 1 :=
  ld_part x1 1 inb_S1x7x352x256_S1x1x352x256_0_1_0_0

theorem ld_part2 (x1 : Vec Ideal S1x7x352x256 .bf16) :
    View.ld x1 (Rect.unit ![0, 2, 0, 0] ![1, 1, 352, 256] inb_S1x7x352x256_S1x1x352x256_0_2_0_0) = part x1 2 :=
  ld_part x1 2 inb_S1x7x352x256_S1x1x352x256_0_2_0_0

theorem ld_part3 (x1 : Vec Ideal S1x7x352x256 .bf16) :
    View.ld x1 (Rect.unit ![0, 3, 0, 0] ![1, 1, 352, 256] inb_S1x7x352x256_S1x1x352x256_0_3_0_0) = part x1 3 :=
  ld_part x1 3 inb_S1x7x352x256_S1x1x352x256_0_3_0_0

theorem ld_part4 (x1 : Vec Ideal S1x7x352x256 .bf16) :
    View.ld x1 (Rect.unit ![0, 4, 0, 0] ![1, 1, 352, 256] inb_S1x7x352x256_S1x1x352x256_0_4_0_0) = part x1 4 :=
  ld_part x1 4 inb_S1x7x352x256_S1x1x352x256_0_4_0_0

theorem ld_part5 (x1 : Vec Ideal S1x7x352x256 .bf16) :
    View.ld x1 (Rect.unit ![0, 5, 0, 0] ![1, 1, 352, 256] inb_S1x7x352x256_S1x1x352x256_0_5_0_0) = part x1 5 :=
  ld_part x1 5 inb_S1x7x352x256_S1x1x352x256_0_5_0_0

theorem ld_part6 (x1 : Vec Ideal S1x7x352x256 .bf16) :
    View.ld x1 (Rect.unit ![0, 6, 0, 0] ![1, 1, 352, 256] inb_S1x7x352x256_S1x1x352x256_0_6_0_0) = part x1 6 :=
  ld_part x1 6 inb_S1x7x352x256_S1x1x352x256_0_6_0_0

theorem stored_grad (x0 : Vec Ideal S1x1x352x256 .bf16) (x1 : Vec Ideal S1x7x352x256 .bf16) :
    k0_pay2 (k0_pay1 x0 (part x1 0) (part x1 1) (part x1 2) (part x1 3) (part x1 4) (part x1 5)) (part x1 6) = tileG x0 x1 := by
  funext i
  have e : tileG x0 x1 i = x0 (ix4 0 0 (i 0) (i 1)) + x1 (ix4 0 0 (i 0) (i 1)) + x1 (ix4 0 1 (i 0) (i 1))
      + x1 (ix4 0 2 (i 0) (i 1)) + x1 (ix4 0 3 (i 0) (i 1)) + x1 (ix4 0 4 (i 0) (i 1)) + x1 (ix4 0 5 (i 0) (i 1))
      + x1 (ix4 0 6 (i 0) (i 1)) := by
    unfold tileG
    rw [Fin.sum_univ_seven]
    simp only [add_assoc]
  rw [e]
  pointwise [k0_pay1, k0_pay2, part]

theorem stored_mean (x0 : Vec Ideal S1x1x352x256 .bf16) (x1 : Vec Ideal S1x7x352x256 .bf16) (v : Vec Ideal S352x256 .f32) :
    k0_pay3 (k0_pay1 x0 (part x1 0) (part x1 1) (part x1 2) (part x1 3) (part x1 4) (part x1 5)) (part x1 6) v = newMean (tileG x0 x1) v := by
  rw [← stored_grad]
  funext i
  pointwise [k0_pay3, newMean]

theorem stored_square (x0 : Vec Ideal S1x1x352x256 .bf16) (x1 : Vec Ideal S1x7x352x256 .bf16) (v : Vec Ideal S352x256 .f32) :
    k0_pay4 (k0_pay1 x0 (part x1 0) (part x1 1) (part x1 2) (part x1 3) (part x1 4) (part x1 5)) (part x1 6) v = newSquare (tileG x0 x1) v := by
  rw [← stored_grad]
  funext i
  pointwise [k0_pay4, newSquare]

theorem stored_step (x0 : Vec Ideal S1x1x352x256 .bf16) (x1 : Vec Ideal S1x7x352x256 .bf16) (w u v : Vec Ideal S352x256 .f32) :
    k0_pay5 (k0_pay1 x0 (part x1 0) (part x1 1) (part x1 2) (part x1 3) (part x1 4) (part x1 5)) (part x1 6) w u v = step w (tileG x0 x1) u v := by
  rw [← stored_grad]
  funext i
  pointwise [k0_pay5, k0_pay3, k0_pay4, step, newMean, newSquare]

theorem out_5 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0 = tileG x0 x1 := by
  have hc := cover0_A_5 c i arg2 harg2 arg3 harg3 arg4 harg4 arg5 harg5 arg6 harg6 arg7 harg7 arg8 harg8 arg9 harg9 arg10 harg10 x0 x1 x2 x3 x4 xt0
  unfold out0_A_5
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_grad x0 x1]
  rw [View.ld_unit_zero hz4, ld_part0, ld_part1, ld_part2, ld_part3, ld_part4, ld_part5, ld_part6]

theorem out_6 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0 = step x2 (tileG x0 x1) x3 x4 := by
  have hc := cover0_A_6 c i arg2 harg2 arg3 harg3 arg4 harg4 arg5 harg5 arg6 harg6 arg7 harg7 arg8 harg8 arg9 harg9 arg10 harg10 x0 x1 x2 x3 x4 xt0
  unfold out0_A_6
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_step x0 x1 x2 x3 x4]
  rw [View.ld_unit_zero hz4, ld_part0, ld_part1, ld_part2, ld_part3, ld_part4, ld_part5, ld_part6]
  rw [View.ld_unit_zero hz2, View.ld_unit_zero hz2, View.ld_unit_zero hz2]

theorem out_7 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0 = newMean (tileG x0 x1) x3 := by
  have hc := cover0_A_7 c i arg2 harg2 arg3 harg3 arg4 harg4 arg5 harg5 arg6 harg6 arg7 harg7 arg8 harg8 arg9 harg9 arg10 harg10 x0 x1 x2 x3 x4 xt0
  unfold out0_A_7
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_mean x0 x1 x3]
  rw [View.ld_unit_zero hz4, ld_part0, ld_part1, ld_part2, ld_part3, ld_part4, ld_part5, ld_part6]
  rw [View.ld_unit_zero hz2]

theorem out_8 (c : Dev nD) (i : grid0.Coords) (arg2 : Memref sig .tc .vmem S1x1x352x256 .bf16) (harg2 : arg2.IsWhole) (arg3 : Memref sig .tc .vmem S1x7x352x256 .bf16) (harg3 : arg3.IsWhole) (arg4 : Memref sig .tc .vmem S352x256 .f32) (harg4 : arg4.IsWhole) (arg5 : Memref sig .tc .vmem S352x256 .f32) (harg5 : arg5.IsWhole) (arg6 : Memref sig .tc .vmem S352x256 .f32) (harg6 : arg6.IsWhole) (arg7 : Memref sig .tc .vmem S352x256 .f32) (harg7 : arg7.IsWhole) (arg8 : Memref sig .tc .vmem S352x256 .f32) (harg8 : arg8.IsWhole) (arg9 : Memref sig .tc .vmem S352x256 .f32) (harg9 : arg9.IsWhole) (arg10 : Memref sig .tc .vmem S352x256 .f32) (harg10 : arg10.IsWhole)
    (x0 : Vec Ideal S1x1x352x256 .bf16) (x1 : Vec Ideal S1x7x352x256 .bf16) (x2 x3 x4 : Vec Ideal S352x256 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0 = newSquare (tileG x0 x1) x4 := by
  have hc := cover0_A_8 c i arg2 harg2 arg3 harg3 arg4 harg4 arg5 harg5 arg6 harg6 arg7 harg7 arg8 harg8 arg9 harg9 arg10 harg10 x0 x1 x2 x3 x4 xt0
  unfold out0_A_8
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_square x0 x1 x4]
  rw [View.ld_unit_zero hz4, ld_part0, ld_part1, ld_part2, ld_part3, ld_part4, ld_part5, ld_part6]
  rw [View.ld_unit_zero hz2]

/-! ## The arrays -/

/-- The gradient of the weight: the device’s own part plus the seven parts received. -/
def grad (me : IVec S1 32) (own : Vec Ideal S2x8x352x1024 .bf16) (recv : Vec Ideal S2x7x352x1024 .bf16) : Vec Ideal S352x1024 .f32 :=
  fun i => own (ix4 1 (Fin.ofNat 8 (BitVec.toNat (me at0))) (i 0) (i 1)) + ∑ k : Fin 7, recv (ix4 1 k (i 0) (i 1))

abbrev rGrad (c : Dev nD) : Buf (Elt Ideal) ((c : Thread nD τ).loc main_v0_0) :=
  grad (m ((c : Thread nD τ).loc main_arg0)) (m ((c : Thread nD τ).loc main_arg1)) (m ((c : Thread nD τ).loc main_arg2))
abbrev rStep (c : Dev nD) : Buf (Elt Ideal) ((c : Thread nD τ).loc main_v0_1) :=
  step (m ((c : Thread nD τ).loc main_arg3)) (rGrad m c) (m ((c : Thread nD τ).loc main_arg4)) (m ((c : Thread nD τ).loc main_arg5))
abbrev rMean (c : Dev nD) : Buf (Elt Ideal) ((c : Thread nD τ).loc main_v0_2) :=
  newMean (rGrad m c) (m ((c : Thread nD τ).loc main_arg4))
abbrev rSquare (c : Dev nD) : Buf (Elt Ideal) ((c : Thread nD τ).loc main_v0_3) :=
  newSquare (rGrad m c) (m ((c : Thread nD τ).loc main_arg5))

theorem point (t : Fin grid0.N) : (grid0.coords t 0).val = t.val := by
  revert t; decide +kernel

theorem idx_1 : ∀ t : Fin grid0.N, cc0_transform_1 (grid0.coords t) 0 = 1 ∧ cc0_transform_1 (grid0.coords t) 1 = 0
    ∧ cc0_transform_1 (grid0.coords t) 2 = 0 ∧ cc0_transform_1 (grid0.coords t) 3 = t.val := by
  decide +kernel

theorem idx_2 : ∀ t : Fin grid0.N, cc0_transform_2 (grid0.coords t) 0 = 0 ∧ cc0_transform_2 (grid0.coords t) 1 = t.val := by
  decide +kernel

theorem idx_3 : ∀ t : Fin grid0.N, cc0_transform_3 (grid0.coords t) 0 = 0 ∧ cc0_transform_3 (grid0.coords t) 1 = t.val := by
  decide +kernel

theorem idx_4 : ∀ t : Fin grid0.N, cc0_transform_4 (grid0.coords t) 0 = 0 ∧ cc0_transform_4 (grid0.coords t) 1 = t.val := by
  decide +kernel

theorem idx_5 : ∀ t : Fin grid0.N, cc0_transform_5 (grid0.coords t) 0 = 0 ∧ cc0_transform_5 (grid0.coords t) 1 = t.val := by
  decide +kernel

theorem idx_6 : ∀ t : Fin grid0.N, cc0_transform_6 (grid0.coords t) 0 = 0 ∧ cc0_transform_6 (grid0.coords t) 1 = t.val := by
  decide +kernel

theorem idx_7 : ∀ t : Fin grid0.N, cc0_transform_7 (grid0.coords t) 0 = 0 ∧ cc0_transform_7 (grid0.coords t) 1 = t.val := by
  decide +kernel

theorem idx_8 : ∀ t : Fin grid0.N, cc0_transform_8 (grid0.coords t) 0 = 0 ∧ cc0_transform_8 (grid0.coords t) 1 = t.val := by
  decide +kernel

/-- The own block at point `t` is the array at the device’s number and the block’s place. -/
theorem own_apply (hO : Ok m) (c : Dev nD) (hd : BitVec.toNat (m ((c : Thread nD τ).loc main_arg0) at0) < 8)
    (t : Fin (cfgM m hO).N) (j : S1x1x352x256.Idx) (i : S2x8x352x1024.Idx)
    (h0 : (i 0).val = 1) (h1 : (i 1).val = BitVec.toNat (m ((c : Thread nD τ).loc main_arg0) at0))
    (h2 : (i 2).val = (j 2).val) (h3 : (i 3).val = t.val * 256 + (j 3).val) :
    (iblk m hO c 0 t : Vec Ideal S1x1x352x256 .bf16) j = m ((c : Thread nD τ).loc main_arg1) i := by
  obtain rfl : c = 0 := Subsingleton.elim _ _
  unfold iblk
  refine (View.read_apply _ _).trans ?_
  show m (((0 : Dev nD) : Thread nD τ).loc main_arg1) _ = m (((0 : Dev nD) : Thread nD τ).loc main_arg1) i
  refine congrArg (m _) (funext fun a => Fin.ext ?_)
  have e := own_index (tbl m) (grid0.coords t)
  have l0 : (j 0).val < 1 := (j 0).isLt
  have l1 : (j 1).val < 1 := (j 1).isLt
  have ep : (grid0.coords t 0).val = t.val := point t
  match a with
  | ⟨0, _⟩ =>
    show cc0_transform_0 inb_S1_S1_0 numel1_S1 (tbl m) (grid0.coords t) 0 * 1 + 1 * (j 0).val = (i 0).val
    have e0 : cc0_transform_0 inb_S1_S1_0 numel1_S1 (tbl m) (grid0.coords t) 0 = 1 := congrFun e 0
    rw [e0, h0]; omega
  | ⟨1, _⟩ =>
    show cc0_transform_0 inb_S1_S1_0 numel1_S1 (tbl m) (grid0.coords t) 1 * 1 + 1 * (j 1).val = (i 1).val
    have e1 : cc0_transform_0 inb_S1_S1_0 numel1_S1 (tbl m) (grid0.coords t) 1 = BitVec.toNat (m (((0 : Dev nD) : Thread nD τ).loc main_arg0) at0) := congrFun e 1
    rw [e1, h1]; omega
  | ⟨2, _⟩ =>
    show cc0_transform_0 inb_S1_S1_0 numel1_S1 (tbl m) (grid0.coords t) 2 * 352 + 1 * (j 2).val = (i 2).val
    have e2 : cc0_transform_0 inb_S1_S1_0 numel1_S1 (tbl m) (grid0.coords t) 2 = 0 := congrFun e 2
    rw [e2, h2]; omega
  | ⟨3, _⟩ =>
    show cc0_transform_0 inb_S1_S1_0 numel1_S1 (tbl m) (grid0.coords t) 3 * 256 + 1 * (j 3).val = (i 3).val
    have e3 : cc0_transform_0 inb_S1_S1_0 numel1_S1 (tbl m) (grid0.coords t) 3 = t.val := (congrFun e 3).trans ep
    rw [e3, h3]; omega

/-- The received block at point `t` is the array at the block’s place. -/
theorem recv_apply (hO : Ok m) (c : Dev nD) (t : Fin (cfgM m hO).N) (j : S1x7x352x256.Idx) (i : S2x7x352x1024.Idx)
    (h0 : (i 0).val = 1) (h1 : (i 1).val = (j 1).val) (h2 : (i 2).val = (j 2).val) (h3 : (i 3).val = t.val * 256 + (j 3).val) :
    (iblk m hO c 1 t : Vec Ideal S1x7x352x256 .bf16) j = m ((c : Thread nD τ).loc main_arg2) i := by
  unfold iblk
  refine (View.read_apply _ _).trans ?_
  show m ((c : Thread nD τ).loc main_arg2) _ = m ((c : Thread nD τ).loc main_arg2) i
  refine congrArg (m _) (funext fun a => Fin.ext ?_)
  obtain ⟨e0, e1, e2, e3⟩ := idx_1 t
  have l0 : (j 0).val < 1 := (j 0).isLt
  match a with
  | ⟨0, _⟩ => show cc0_transform_1 (grid0.coords t) 0 * 1 + 1 * (j 0).val = (i 0).val; rw [e0, h0]; omega
  | ⟨1, _⟩ => show cc0_transform_1 (grid0.coords t) 1 * 7 + 1 * (j 1).val = (i 1).val; rw [e1, h1]; omega
  | ⟨2, _⟩ => show cc0_transform_1 (grid0.coords t) 2 * 352 + 1 * (j 2).val = (i 2).val; rw [e2, h2]; omega
  | ⟨3, _⟩ => show cc0_transform_1 (grid0.coords t) 3 * 256 + 1 * (j 3).val = (i 3).val; rw [e3, h3]; omega

theorem weight_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 2 t : Vec Ideal S352x256 .f32) j = m ((c : Thread nD τ).loc main_arg3) i := by
  unfold iblk
  refine (View.read_apply _ _).trans ?_
  show m ((c : Thread nD τ).loc main_arg3) _ = m ((c : Thread nD τ).loc main_arg3) i
  refine congrArg (m _) (funext fun a => Fin.ext ?_)
  obtain ⟨e0, e1⟩ := idx_2 t
  match a with
  | ⟨0, _⟩ => show cc0_transform_2 (grid0.coords t) 0 * 352 + 1 * (j 0).val = (i 0).val; rw [e0, h0]; omega
  | ⟨1, _⟩ => show cc0_transform_2 (grid0.coords t) 1 * 256 + 1 * (j 1).val = (i 1).val; rw [e1, h1]; omega

theorem mean_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 3 t : Vec Ideal S352x256 .f32) j = m ((c : Thread nD τ).loc main_arg4) i := by
  unfold iblk
  refine (View.read_apply _ _).trans ?_
  show m ((c : Thread nD τ).loc main_arg4) _ = m ((c : Thread nD τ).loc main_arg4) i
  refine congrArg (m _) (funext fun a => Fin.ext ?_)
  obtain ⟨e0, e1⟩ := idx_3 t
  match a with
  | ⟨0, _⟩ => show cc0_transform_3 (grid0.coords t) 0 * 352 + 1 * (j 0).val = (i 0).val; rw [e0, h0]; omega
  | ⟨1, _⟩ => show cc0_transform_3 (grid0.coords t) 1 * 256 + 1 * (j 1).val = (i 1).val; rw [e1, h1]; omega

theorem square_apply (hO : Ok m) (c : Dev nD) (t : Fin (cfgM m hO).N) (j : S352x256.Idx) (i : S352x1024.Idx)
    (h0 : (i 0).val = 0 * 352 + (j 0).val) (h1 : (i 1).val = t.val * 256 + (j 1).val) :
    (iblk m hO c 4 t : Vec Ideal S352x256 .f32) j = m ((c : Thread nD τ).loc main_arg5) i := by
  unfold iblk
  refine (View.read_apply _ _).trans ?_
  show m ((c : Thread nD τ).loc main_arg5) _ = m ((c : Thread nD τ).loc main_arg5) i
  refine congrArg (m _) (funext fun a => Fin.ext ?_)
  obtain ⟨e0, e1⟩ := idx_4 t
  match a with
  | ⟨0, _⟩ => show cc0_transform_4 (grid0.coords t) 0 * 352 + 1 * (j 0).val = (i 0).val; rw [e0, h0]; omega
  | ⟨1, _⟩ => show cc0_transform_4 (grid0.coords t) 1 * 256 + 1 * (j 1).val = (i 1).val; rw [e1, h1]; omega

/-- A tile’s gradient is the array’s gradient at the tile’s place. -/
theorem grad_apply (hO : Ok m) (c : Dev nD) (hd : BitVec.toNat (m ((c : Thread nD τ).loc main_arg0) at0) < 8)
    (t : Fin (cfgM m hO).N) (j : S352x256.Idx) (i : S352x1024.Idx)
    (h0 : (i 0).val = 0 * 352 + (j 0).val) (h1 : (i 1).val = t.val * 256 + (j 1).val) :
    tileG (iblk m hO c 0 t) (iblk m hO c 1 t) j = rGrad m c i := by
  have hr : (i 0).val = (j 0).val := by omega
  have hc : (i 1).val = t.val * 256 + (j 1).val := by omega
  have h8 : (Fin.ofNat 8 (BitVec.toNat (m ((c : Thread nD τ).loc main_arg0) at0))).val = BitVec.toNat (m ((c : Thread nD τ).loc main_arg0) at0) :=
    Nat.mod_eq_of_lt hd
  exact congrArg₂ (fun a b : EReal => a + b)
    (own_apply m hO c hd t (ix4 0 0 (j 0) (j 1)) (ix4 1 (Fin.ofNat 8 (BitVec.toNat (m ((c : Thread nD τ).loc main_arg0) at0))) (i 0) (i 1))
      rfl h8 hr hc)
    (Finset.sum_congr rfl fun k _ => recv_apply m hO c t (ix4 0 k (j 0) (j 1)) (ix4 1 k (i 0) (i 1)) rfl rfl hr hc)

theorem tile_5 (hO : Ok m) (c : Dev nD) (t : Fin (cfgM m hO).N) (x0 : Vec Ideal S1x1x352x256 .bf16) (x1 : Vec Ideal S1x7x352x256 .bf16) (x2 x3 x4 : Vec Ideal S352x256 .f32) :
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = tileG x0 x1 :=
  out_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_5 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).1 = tileG x0 x1 := by
  rw [← tile_5 m hO c t x0 x1 x2 x3 x4, h0, h1, h2, h3, h4]
  rfl

theorem outs_5 (hO : Ok m) (c : Dev nD) (t : Fin (cfgM m hO).N) :
    (outsAt0 m hO c t).1 = tileG (iblk m hO c 0 t) (iblk m hO c 1 t) :=
  outs_of_5 m hO c t _ _ _ _ _ rfl rfl rfl rfl rfl

/-- What point `t` writes back is its block of the result. -/
theorem flushed_5 (hO : Ok m) (c : Dev nD) (hd : BitVec.toNat (m ((c : Thread nD τ).loc main_arg0) at0) < 8) (t : Fin (cfgM m hO).N) :
    (dats m hO 0 c).flushed 5 t = (((cfgM m hO).win 5).blk t).view.read (Elt Ideal) (rGrad m c) := by
  show ((cfgM m hO).win 5).cut (grid0.coords t) ((dats m hO 0 c).after 5 t) = _
  rw [after0_5, outs_5]
  obtain ⟨e0, e1⟩ := idx_5 t
  have key : ∀ (j : S352x256.Idx) (i : S352x1024.Idx), (i 0).val = cc0_transform_5 (grid0.coords t) 0 * 352 + 1 * (j 0).val →
      (i 1).val = cc0_transform_5 (grid0.coords t) 1 * 256 + 1 * (j 1).val →
      (tileG (iblk m hO c 0 t) (iblk m hO c 1 t)) j = rGrad m c i := by
    intro j i h0 h1
    rw [e0, Nat.one_mul] at h0
    rw [e1, Nat.one_mul] at h1
    exact grad_apply m hO c hd t j _ h0 h1
  exact funext fun j => key j ((((cfgM m hO).win 5).blk t).view.emb j) rfl rfl

theorem mem_blk_5 (hO : Ok m) (t : Fin (cfgM m hO).N) (i : S352x1024.Idx) (ht : (i 1).val / 256 = t.val) :
    i ∈ (((cfgM m hO).win 5).blk t).view.set := by
  have hw : ∀ r : Rect S352x1024, i ∈ r.set → i ∈ ((View.whole main_v0_0).slice r).set := by
    intro r h
    rw [View.set_slice_whole]
    exact h
  refine hw (((cfgM m hO).win 5).rect t) (Rect.mem_set_unit.mpr ?_)
  obtain ⟨e0, e1⟩ := idx_5 t
  have l0 : (i 0).val < 352 := (i 0).isLt
  have l1 : (i 1).val < 1024 := (i 1).isLt
  intro a
  match a with
  | ⟨0, _⟩ =>
    show cc0_transform_5 (grid0.coords t) 0 * 352 ≤ (i 0 : Nat) ∧ (i 0 : Nat) < cc0_transform_5 (grid0.coords t) 0 * 352 + 352
    rw [e0]; omega
  | ⟨1, _⟩ =>
    show cc0_transform_5 (grid0.coords t) 1 * 256 ≤ (i 1 : Nat) ∧ (i 1 : Nat) < cc0_transform_5 (grid0.coords t) 1 * 256 + 256
    rw [e1]; omega

/-- The blocks written back cover the array. -/
theorem cover_5 (hO : Ok m) (i : S352x1024.Idx) :
    ∃ t : Fin (cfgM m hO).N, ((cfgM m hO).win 5).flush t = true ∧ i ∈ (((cfgM m hO).win 5).blk t).view.set := by
  have l : (i 1).val < 1024 := (i 1).isLt
  have hN : (cfgM m hO).N = 4 := N_0
  exact ⟨⟨(i 1).val / 256, by omega⟩, flush0_5 (adm m hO) _, mem_blk_5 m hO _ _ rfl⟩

theorem final_5 (hO : Ok m) (c : Dev nD) (hd : BitVec.toNat (m ((c : Thread nD τ).loc main_arg0) at0) < 8) :
    (dats m hO 0 c).arrAt 5 (cfgM m hO).N = rGrad m c :=
  (dats m hO 0 c).arrAt_eq_of_cover 5 (rGrad m c) (fun t _ => flushed_5 m hO c hd t) (cover_5 m hO)

theorem tile_6 (hO : Ok m) (c : Dev nD) (t : Fin (cfgM m hO).N) (x0 : Vec Ideal S1x1x352x256 .bf16) (x1 : Vec Ideal S1x7x352x256 .bf16) (x2 x3 x4 : Vec Ideal S352x256 .f32) :
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = step x2 (tileG x0 x1) x3 x4 :=
  out_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_6 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.1 = step x2 (tileG x0 x1) x3 x4 := by
  rw [← tile_6 m hO c t x0 x1 x2 x3 x4, h0, h1, h2, h3, h4]
  rfl

theorem outs_6 (hO : Ok m) (c : Dev nD) (t : Fin (cfgM m hO).N) :
    (outsAt0 m hO c t).2.1 = step (iblk m hO c 2 t) (tileG (iblk m hO c 0 t) (iblk m hO c 1 t)) (iblk m hO c 3 t) (iblk m hO c 4 t) :=
  outs_of_6 m hO c t _ _ _ _ _ rfl rfl rfl rfl rfl

/-- What point `t` writes back is its block of the result. -/
theorem flushed_6 (hO : Ok m) (c : Dev nD) (hd : BitVec.toNat (m ((c : Thread nD τ).loc main_arg0) at0) < 8) (t : Fin (cfgM m hO).N) :
    (dats m hO 0 c).flushed 6 t = (((cfgM m hO).win 6).blk t).view.read (Elt Ideal) (rStep m c) := by
  show ((cfgM m hO).win 6).cut (grid0.coords t) ((dats m hO 0 c).after 6 t) = _
  rw [after0_6, outs_6]
  obtain ⟨e0, e1⟩ := idx_6 t
  have key : ∀ (j : S352x256.Idx) (i : S352x1024.Idx), (i 0).val = cc0_transform_6 (grid0.coords t) 0 * 352 + 1 * (j 0).val →
      (i 1).val = cc0_transform_6 (grid0.coords t) 1 * 256 + 1 * (j 1).val →
      (step (iblk m hO c 2 t) (tileG (iblk m hO c 0 t) (iblk m hO c 1 t)) (iblk m hO c 3 t) (iblk m hO c 4 t)) j = rStep m c i := by
    intro j i h0 h1
    rw [e0, Nat.one_mul] at h0
    rw [e1, Nat.one_mul] at h1
    exact step_congr (weight_apply m hO c t j _ h0 h1) (grad_apply m hO c hd t j _ h0 h1) (mean_apply m hO c t j _ h0 h1) (square_apply m hO c t j _ h0 h1)
  exact funext fun j => key j ((((cfgM m hO).win 6).blk t).view.emb j) rfl rfl

theorem mem_blk_6 (hO : Ok m) (t : Fin (cfgM m hO).N) (i : S352x1024.Idx) (ht : (i 1).val / 256 = t.val) :
    i ∈ (((cfgM m hO).win 6).blk t).view.set := by
  have hw : ∀ r : Rect S352x1024, i ∈ r.set → i ∈ ((View.whole main_v0_1).slice r).set := by
    intro r h
    rw [View.set_slice_whole]
    exact h
  refine hw (((cfgM m hO).win 6).rect t) (Rect.mem_set_unit.mpr ?_)
  obtain ⟨e0, e1⟩ := idx_6 t
  have l0 : (i 0).val < 352 := (i 0).isLt
  have l1 : (i 1).val < 1024 := (i 1).isLt
  intro a
  match a with
  | ⟨0, _⟩ =>
    show cc0_transform_6 (grid0.coords t) 0 * 352 ≤ (i 0 : Nat) ∧ (i 0 : Nat) < cc0_transform_6 (grid0.coords t) 0 * 352 + 352
    rw [e0]; omega
  | ⟨1, _⟩ =>
    show cc0_transform_6 (grid0.coords t) 1 * 256 ≤ (i 1 : Nat) ∧ (i 1 : Nat) < cc0_transform_6 (grid0.coords t) 1 * 256 + 256
    rw [e1]; omega

/-- The blocks written back cover the array. -/
theorem cover_6 (hO : Ok m) (i : S352x1024.Idx) :
    ∃ t : Fin (cfgM m hO).N, ((cfgM m hO).win 6).flush t = true ∧ i ∈ (((cfgM m hO).win 6).blk t).view.set := by
  have l : (i 1).val < 1024 := (i 1).isLt
  have hN : (cfgM m hO).N = 4 := N_0
  exact ⟨⟨(i 1).val / 256, by omega⟩, flush0_6 (adm m hO) _, mem_blk_6 m hO _ _ rfl⟩

theorem final_6 (hO : Ok m) (c : Dev nD) (hd : BitVec.toNat (m ((c : Thread nD τ).loc main_arg0) at0) < 8) :
    (dats m hO 0 c).arrAt 6 (cfgM m hO).N = rStep m c :=
  (dats m hO 0 c).arrAt_eq_of_cover 6 (rStep m c) (fun t _ => flushed_6 m hO c hd t) (cover_6 m hO)

theorem tile_7 (hO : Ok m) (c : Dev nD) (t : Fin (cfgM m hO).N) (x0 : Vec Ideal S1x1x352x256 .bf16) (x1 : Vec Ideal S1x7x352x256 .bf16) (x2 x3 x4 : Vec Ideal S352x256 .f32) :
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newMean (tileG x0 x1) x3 :=
  out_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_7 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.1 = newMean (tileG x0 x1) x3 := by
  rw [← tile_7 m hO c t x0 x1 x2 x3 x4, h0, h1, h2, h3, h4]
  rfl

theorem outs_7 (hO : Ok m) (c : Dev nD) (t : Fin (cfgM m hO).N) :
    (outsAt0 m hO c t).2.2.1 = newMean (tileG (iblk m hO c 0 t) (iblk m hO c 1 t)) (iblk m hO c 3 t) :=
  outs_of_7 m hO c t _ _ _ _ _ rfl rfl rfl rfl rfl

/-- What point `t` writes back is its block of the result. -/
theorem flushed_7 (hO : Ok m) (c : Dev nD) (hd : BitVec.toNat (m ((c : Thread nD τ).loc main_arg0) at0) < 8) (t : Fin (cfgM m hO).N) :
    (dats m hO 0 c).flushed 7 t = (((cfgM m hO).win 7).blk t).view.read (Elt Ideal) (rMean m c) := by
  show ((cfgM m hO).win 7).cut (grid0.coords t) ((dats m hO 0 c).after 7 t) = _
  rw [after0_7, outs_7]
  obtain ⟨e0, e1⟩ := idx_7 t
  have key : ∀ (j : S352x256.Idx) (i : S352x1024.Idx), (i 0).val = cc0_transform_7 (grid0.coords t) 0 * 352 + 1 * (j 0).val →
      (i 1).val = cc0_transform_7 (grid0.coords t) 1 * 256 + 1 * (j 1).val →
      (newMean (tileG (iblk m hO c 0 t) (iblk m hO c 1 t)) (iblk m hO c 3 t)) j = rMean m c i := by
    intro j i h0 h1
    rw [e0, Nat.one_mul] at h0
    rw [e1, Nat.one_mul] at h1
    exact newMean_congr (grad_apply m hO c hd t j _ h0 h1) (mean_apply m hO c t j _ h0 h1)
  exact funext fun j => key j ((((cfgM m hO).win 7).blk t).view.emb j) rfl rfl

theorem mem_blk_7 (hO : Ok m) (t : Fin (cfgM m hO).N) (i : S352x1024.Idx) (ht : (i 1).val / 256 = t.val) :
    i ∈ (((cfgM m hO).win 7).blk t).view.set := by
  have hw : ∀ r : Rect S352x1024, i ∈ r.set → i ∈ ((View.whole main_v0_2).slice r).set := by
    intro r h
    rw [View.set_slice_whole]
    exact h
  refine hw (((cfgM m hO).win 7).rect t) (Rect.mem_set_unit.mpr ?_)
  obtain ⟨e0, e1⟩ := idx_7 t
  have l0 : (i 0).val < 352 := (i 0).isLt
  have l1 : (i 1).val < 1024 := (i 1).isLt
  intro a
  match a with
  | ⟨0, _⟩ =>
    show cc0_transform_7 (grid0.coords t) 0 * 352 ≤ (i 0 : Nat) ∧ (i 0 : Nat) < cc0_transform_7 (grid0.coords t) 0 * 352 + 352
    rw [e0]; omega
  | ⟨1, _⟩ =>
    show cc0_transform_7 (grid0.coords t) 1 * 256 ≤ (i 1 : Nat) ∧ (i 1 : Nat) < cc0_transform_7 (grid0.coords t) 1 * 256 + 256
    rw [e1]; omega

/-- The blocks written back cover the array. -/
theorem cover_7 (hO : Ok m) (i : S352x1024.Idx) :
    ∃ t : Fin (cfgM m hO).N, ((cfgM m hO).win 7).flush t = true ∧ i ∈ (((cfgM m hO).win 7).blk t).view.set := by
  have l : (i 1).val < 1024 := (i 1).isLt
  have hN : (cfgM m hO).N = 4 := N_0
  exact ⟨⟨(i 1).val / 256, by omega⟩, flush0_7 (adm m hO) _, mem_blk_7 m hO _ _ rfl⟩

theorem final_7 (hO : Ok m) (c : Dev nD) (hd : BitVec.toNat (m ((c : Thread nD τ).loc main_arg0) at0) < 8) :
    (dats m hO 0 c).arrAt 7 (cfgM m hO).N = rMean m c :=
  (dats m hO 0 c).arrAt_eq_of_cover 7 (rMean m c) (fun t _ => flushed_7 m hO c hd t) (cover_7 m hO)

theorem tile_8 (hO : Ok m) (c : Dev nD) (t : Fin (cfgM m hO).N) (x0 : Vec Ideal S1x1x352x256 .bf16) (x1 : Vec Ideal S1x7x352x256 .bf16) (x2 x3 x4 : Vec Ideal S352x256 .f32) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newSquare (tileG x0 x1) x4 :=
  out_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_8 (hO : Ok m) (c : Dev nD) (t : Fin (cfgM m hO).N) (x0 : Vec Ideal S1x1x352x256 .bf16) (x1 : Vec Ideal S1x7x352x256 .bf16) (x2 x3 x4 : Vec Ideal S352x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.2 = newSquare (tileG x0 x1) x4 := by
  rw [← tile_8 m hO c t x0 x1 x2 x3 x4, h0, h1, h2, h3, h4]
  rfl

theorem outs_8 (hO : Ok m) (c : Dev nD) (t : Fin (cfgM m hO).N) :
    (outsAt0 m hO c t).2.2.2 = newSquare (tileG (iblk m hO c 0 t) (iblk m hO c 1 t)) (iblk m hO c 4 t) :=
  outs_of_8 m hO c t _ _ _ _ _ rfl rfl rfl rfl rfl

/-- What point `t` writes back is its block of the result. -/
theorem flushed_8 (hO : Ok m) (c : Dev nD) (hd : BitVec.toNat (m ((c : Thread nD τ).loc main_arg0) at0) < 8) (t : Fin (cfgM m hO).N) :
    (dats m hO 0 c).flushed 8 t = (((cfgM m hO).win 8).blk t).view.read (Elt Ideal) (rSquare m c) := by
  show ((cfgM m hO).win 8).cut (grid0.coords t) ((dats m hO 0 c).after 8 t) = _
  rw [after0_8, outs_8]
  obtain ⟨e0, e1⟩ := idx_8 t
  have key : ∀ (j : S352x256.Idx) (i : S352x1024.Idx), (i 0).val = cc0_transform_8 (grid0.coords t) 0 * 352 + 1 * (j 0).val →
      (i 1).val = cc0_transform_8 (grid0.coords t) 1 * 256 + 1 * (j 1).val →
      (newSquare (tileG (iblk m hO c 0 t) (iblk m hO c 1 t)) (iblk m hO c 4 t)) j = rSquare m c i := by
    intro j i h0 h1
    rw [e0, Nat.one_mul] at h0
    rw [e1, Nat.one_mul] at h1
    exact newSquare_congr (grad_apply m hO c hd t j _ h0 h1) (square_apply m hO c t j _ h0 h1)
  exact funext fun j => key j ((((cfgM m hO).win 8).blk t).view.emb j) rfl rfl

theorem mem_blk_8 (hO : Ok m) (t : Fin (cfgM m hO).N) (i : S352x1024.Idx) (ht : (i 1).val / 256 = t.val) :
    i ∈ (((cfgM m hO).win 8).blk t).view.set := by
  have hw : ∀ r : Rect S352x1024, i ∈ r.set → i ∈ ((View.whole main_v0_3).slice r).set := by
    intro r h
    rw [View.set_slice_whole]
    exact h
  refine hw (((cfgM m hO).win 8).rect t) (Rect.mem_set_unit.mpr ?_)
  obtain ⟨e0, e1⟩ := idx_8 t
  have l0 : (i 0).val < 352 := (i 0).isLt
  have l1 : (i 1).val < 1024 := (i 1).isLt
  intro a
  match a with
  | ⟨0, _⟩ =>
    show cc0_transform_8 (grid0.coords t) 0 * 352 ≤ (i 0 : Nat) ∧ (i 0 : Nat) < cc0_transform_8 (grid0.coords t) 0 * 352 + 352
    rw [e0]; omega
  | ⟨1, _⟩ =>
    show cc0_transform_8 (grid0.coords t) 1 * 256 ≤ (i 1 : Nat) ∧ (i 1 : Nat) < cc0_transform_8 (grid0.coords t) 1 * 256 + 256
    rw [e1]; omega

/-- The blocks written back cover the array. -/
theorem cover_8 (hO : Ok m) (i : S352x1024.Idx) :
    ∃ t : Fin (cfgM m hO).N, ((cfgM m hO).win 8).flush t = true ∧ i ∈ (((cfgM m hO).win 8).blk t).view.set := by
  have l : (i 1).val < 1024 := (i 1).isLt
  have hN : (cfgM m hO).N = 4 := N_0
  exact ⟨⟨(i 1).val / 256, by omega⟩, flush0_8 (adm m hO) _, mem_blk_8 m hO _ _ rfl⟩

theorem final_8 (hO : Ok m) (c : Dev nD) (hd : BitVec.toNat (m ((c : Thread nD τ).loc main_arg0) at0) < 8) :
    (dats m hO 0 c).arrAt 8 (cfgM m hO).N = rSquare m c :=
  (dats m hO 0 c).arrAt_eq_of_cover 8 (rSquare m c) (fun t _ => flushed_8 m hO c hd t) (cover_8 m hO)

/-- The run: the four results, and the arguments unchanged. -/
theorem run (hm : ∀ c : Dev nD, BitVec.toNat (m ((c : Thread nD τ).loc main_arg0) at0) < 8) :
    θ_run defs (onTc (τ := τ) (main (F := Ideal))) ⟨m, fun _ => 0, ρ⟩ fun r => ∀ c : Dev nD,
      r.2.mem ((c : Thread nD τ).loc main_v0_0) = rGrad m c
      ∧ r.2.mem ((c : Thread nD τ).loc main_v0_1) = rStep m c
      ∧ r.2.mem ((c : Thread nD τ).loc main_v0_2) = rMean m c
      ∧ r.2.mem ((c : Thread nD τ).loc main_v0_3) = rSquare m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  let hO := ok_of m (hm 0)
  (θ_run defs _ _).mono (fun _ h c => ⟨((h c).1 5).trans (final_5 m hO c (hm c)), ((h c).1 6).trans (final_6 m hO c (hm c)),
      ((h c).1 7).trans (final_7 m hO c (hm c)), ((h c).1 8).trans (final_8 m hO c (hm c)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

/-! ## The reference -/

theorem zero_word : FloatOps.ofBits (F := Ideal) .f32 0x00000000#32 = (0 : EReal) := by
  pointwise []

/-- Two numbers below eight as words are the same word exactly when they are the same number. -/
theorem eq_word (k : Fin 8) (w : BitVec 32) (hw : w.toNat < 8) :
    IntOp.cmpi .eq (BitVec.ofNat 32 k.val) w = if k = Fin.ofNat 8 w.toNat then 1#1 else 0#1 := by
  have e : (BitVec.ofNat 32 k.val = w) ↔ k = Fin.ofNat 8 w.toNat := by
    constructor
    · intro h
      apply Fin.ext
      rw [← h]
      show k.val = (BitVec.ofNat 32 k.val).toNat % 8
      rw [BitVec.toNat_ofNat]
      omega
    · intro h
      apply BitVec.eq_of_toNat_eq
      rw [h]
      show (BitVec.ofNat 32 (w.toNat % 8)).toNat = _
      rw [BitVec.toNat_ofNat]
      omega
  unfold IntOp.cmpi
  by_cases h : k = Fin.ofNat 8 w.toNat
  · rw [if_pos h]; simp [e.mpr h]
  · rw [if_neg h]
    show BitVec.ofBool (BitVec.ofNat 32 k.val == w) = 0#1
    rw [beq_eq_false_iff_ne.mpr (fun g => h (e.mp g))]
    rfl

theorem number (me : IVec S1 32) (j) : Cert.Reference15Ideal.Read.val_main_v2 (F := Ideal) me j = me at0 := congrArg me (idx_one _)

/-- The reference’s selected part: the device’s own part at its number, zero elsewhere. -/
theorem picked (me : IVec S1 32) (hme : BitVec.toNat (me at0) < 8) (own : Vec Ideal S2x8x352x1024 .bf16) (k : Fin 8) (r : Fin 352) (s : Fin 1024) :
    Cert.Reference15Ideal.Read.val_main_v8 (F := Ideal) me own (ix3 k r s) = if k = (Fin.ofNat 8 (BitVec.toNat (me at0))) then own (ix4 1 k r s) else 0 := by
  have e : Cert.Reference15Ideal.Read.val_main_v8 (F := Ideal) me own (ix3 k r s)
      = Scalar.select (IntOp.cmpi .eq (BitVec.ofNat 32 k.val) (me at0)) (own (ix4 1 k r s)) (FloatOps.ofBits (F := Ideal) .f32 0x00000000#32) := by
    have hn := number me
    pointwise [Cert.Reference15Ideal.Read.val_main_v8, Cert.Reference15Ideal.Read.val_main_call0_v0, Cert.Reference15Ideal.Read.val_main_call0_v1, Cert.Reference15Ideal.Read.val_main_call0_v2, Cert.Reference15Ideal.Read.val_main_cst, Cert.Reference15Ideal.Read.val_main_v0, Cert.Reference15Ideal.Read.val_main_v1, Cert.Reference15Ideal.Read.val_main_v3, Cert.Reference15Ideal.Read.val_main_v4, Cert.Reference15Ideal.Read.val_main_v5, Cert.Reference15Ideal.Read.val_main_v6, Cert.Reference15Ideal.Read.val_main_v7, hn]
    exact congrArg (Scalar.select _ _) zero_word
  rw [e, eq_word k _ hme, zero_word]
  by_cases h : k = (Fin.ofNat 8 (BitVec.toNat (me at0)))
  · rw [if_pos h, if_pos h]; exact if_pos rfl
  · rw [if_neg h, if_neg h]; exact if_neg (by decide)

theorem ref_sum (me : IVec S1 32) (hme : BitVec.toNat (me at0) < 8) (own : Vec Ideal S2x8x352x1024 .bf16) (recv : Vec Ideal S2x7x352x1024 .bf16)
    (r : Fin 352) (s : Fin 1024) :
    Cert.Reference15Ideal.Read.val_main_v14 (F := Ideal) me own recv (ix2 r s) = own (ix4 1 (Fin.ofNat 8 (BitVec.toNat (me at0))) r s) + ∑ k : Fin 7, recv (ix4 1 k r s) := by
  rw [Cert.Reference15Ideal.Read.val_main_v14_apply]
  refine congrArg₂ (fun a b : EReal => a + b) ?_ ?_
  · rw [Cert.Reference15Ideal.Read.val_main_v9_apply]
    refine (congrArg₂ (fun a b : EReal => a + b) zero_word rfl).trans ((zero_add _).trans ?_)
    refine (Finset.sum_congr rfl fun k _ => (congrArg (Cert.Reference15Ideal.Read.val_main_v8 (F := Ideal) me own) (funext fun a => match a with | ⟨0, _⟩ => rfl | ⟨1, _⟩ => rfl | ⟨2, _⟩ => rfl)).trans (picked me hme own k r s)).trans ?_
    rw [Finset.sum_ite_eq' Finset.univ (Fin.ofNat 8 (BitVec.toNat (me at0))), if_pos (Finset.mem_univ _)]
  · rw [Cert.Reference15Ideal.Read.val_main_v13_apply]
    refine (congrArg₂ (fun a b : EReal => a + b) zero_word rfl).trans ((zero_add _).trans ?_)
    refine Finset.sum_congr rfl fun k _ => ?_
    have e : Cert.Reference15Ideal.Read.val_main_v12 (F := Ideal) recv (ix3 k r s) = recv (ix4 1 k r s) := by
      pointwise [Cert.Reference15Ideal.Read.val_main_v10, Cert.Reference15Ideal.Read.val_main_v11, Cert.Reference15Ideal.Read.val_main_v12]
    exact (congrArg (Cert.Reference15Ideal.Read.val_main_v12 (F := Ideal) recv) (funext fun a => match a with | ⟨0, _⟩ => rfl | ⟨1, _⟩ => rfl | ⟨2, _⟩ => rfl)).trans e

theorem ref_grad (me : IVec S1 32) (hme : BitVec.toNat (me at0) < 8) (own : Vec Ideal S2x8x352x1024 .bf16) (recv : Vec Ideal S2x7x352x1024 .bf16) :
    Cert.Reference15Ideal.Read.val_main_v14 (F := Ideal) me own recv = grad me own recv := by
  funext i
  have e : i = ix2 (i 0) (i 1) := funext fun a => match a with | ⟨0, _⟩ => rfl | ⟨1, _⟩ => rfl
  exact (congrArg (Cert.Reference15Ideal.Read.val_main_v14 (F := Ideal) me own recv) e).trans (ref_sum me hme own recv (i 0) (i 1))

theorem ref_mean (me : IVec S1 32) (hme : BitVec.toNat (me at0) < 8) (own : Vec Ideal S2x8x352x1024 .bf16) (recv : Vec Ideal S2x7x352x1024 .bf16) (u : Vec Ideal S352x1024 .f32) :
    Cert.Reference15Ideal.Read.val_main_v19 (F := Ideal) me own recv u = newMean (grad me own recv) u := by
  rw [← ref_grad me hme]
  funext i
  pointwise [Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8, Cert.Reference15Ideal.Read.val_main_cst_9, Cert.Reference15Ideal.Read.val_main_cst_10, Cert.Reference15Ideal.Read.val_main_v15, Cert.Reference15Ideal.Read.val_main_v16, Cert.Reference15Ideal.Read.val_main_v17, Cert.Reference15Ideal.Read.val_main_v18, Cert.Reference15Ideal.Read.val_main_v19, newMean]

theorem ref_square (me : IVec S1 32) (hme : BitVec.toNat (me at0) < 8) (own : Vec Ideal S2x8x352x1024 .bf16) (recv : Vec Ideal S2x7x352x1024 .bf16) (q : Vec Ideal S352x1024 .f32) :
    Cert.Reference15Ideal.Read.val_main_v25 (F := Ideal) me own recv q = newSquare (grad me own recv) q := by
  rw [← ref_grad me hme]
  funext i
  pointwise [Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8, Cert.Reference15Ideal.Read.val_main_cst_9, Cert.Reference15Ideal.Read.val_main_cst_10, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, newSquare]

theorem ref_step (me : IVec S1 32) (hme : BitVec.toNat (me at0) < 8) (own : Vec Ideal S2x8x352x1024 .bf16) (recv : Vec Ideal S2x7x352x1024 .bf16) (w u q : Vec Ideal S352x1024 .f32) :
    Cert.Reference15Ideal.Read.val_main_v38 (F := Ideal) me own recv w u q = step w (grad me own recv) u q := by
  have e1 := ref_mean me hme own recv u
  have e2 := ref_square me hme own recv q
  rw [← ref_grad me hme] at e1 e2 ⊢
  funext i
  pointwise [Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8, Cert.Reference15Ideal.Read.val_main_cst_9, Cert.Reference15Ideal.Read.val_main_cst_10, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_v31, Cert.Reference15Ideal.Read.val_main_v32, Cert.Reference15Ideal.Read.val_main_v33, Cert.Reference15Ideal.Read.val_main_v34, Cert.Reference15Ideal.Read.val_main_v35, Cert.Reference15Ideal.Read.val_main_v36, Cert.Reference15Ideal.Read.val_main_v37, Cert.Reference15Ideal.Read.val_main_v38, step, e1, e2]

end Cert.Kernel15Ideal.StepUp

/-! ## The same side condition for the program in floating point -/

namespace Cert.Kernel15.StepUp

open Cert.Kernel15 Cert.Kernel15.Gen Idealize.ShloMosaic Idealize.ShloMosaic.TcCoe Idealize.ShloMosaic.Tactic
open Cert.Kernel15Ideal.StepUp (at0 idx_one)

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![1, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x352x256.size a ≤ S2x8x352x1024.size a := by
    intro a
    rw [own_index (tbl m) i]
    match a with
    | ⟨0, _⟩ => show (1 + 1) * 1 ≤ 2; omega
    | ⟨1, _⟩ =>
      show (BitVec.toNat (m (((0 : Dev nD) : Thread nD τ).loc main_arg0) at0) + 1) * 1 ≤ 8
      omega
    | ⟨2, _⟩ => show (0 + 1) * 352 ≤ 352; omega
    | ⟨3, _⟩ => show ((i 0).val + 1) * 256 ≤ 1024; omega
  exact ⟨hb, .inr (Affine.block_words_dvd (of_decide_eq_true rfl) (by decide))⟩

end Cert.Kernel15.StepUp

end
-- ==== Proof.StepIn.lean ====
/- The gradient of the input projection’s weight, summed over the devices, and its optimiser step: the device’s own part,
   found by the device’s number, plus the seven parts received, then one AdamW step. -/
module

public import proofs.«01_k».proof.Proof.Gen.Kernel16Ideal.Frame
public import proofs.«01_k».proof.Proof.Gen.Kernel16.Frame
public import proofs.«01_k».proof.Proof.Gen.Reference16Ideal.Run
public import proofs.«01_k».proof.Proof.Gen.Reference16Ideal.Read
public import proofs.«01_k».proof.Proof.Gen.Pre_device16
public import proofs.«01_k».proof.Proof.AdamW
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Kernel16Ideal.StepIn

open Cert.AdamW Cert.Kernel16Ideal Cert.Kernel16Ideal.Gen Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The device’s number -/

/-- The one index of the device’s number. -/
abbrev at0 : S1.Idx := ix1 (0 : Fin 1)

theorem idx_one (x : S1.Idx) : x = at0 :=
  funext fun a => by
    obtain rfl : a = 0 := Subsingleton.elim _ _
    exact Fin.ext (by have := (x 0).isLt; show (x 0).val = 0; change (x 0).val < 1 at this; omega)

/-- A word between 0 and 7 as a signed number is one of the first eight words. -/
theorem small_word (v : BitVec 32) (h1 : IntOp.cmpi .sge v 0#32 = 1#1) (h2 : IntOp.cmpi .slt v 8#32 = 1#1) : v.toNat < 8 := by
  have ofBool_one (p : Bool) : (BitVec.ofBool p = 1#1) ↔ p = true := by cases p <;> decide
  simp only [IntOp.cmpi, ofBool_one, BitVec.sle, BitVec.slt, decide_eq_true_eq, BitVec.toInt] at h1 h2
  simp at h1 h2
  have := v.isLt
  split at h1 <;> split at h2 <;> omega

/-- The precondition’s reading: the device’s number is one of the eight. -/
theorem me_lt {F : FTy → Type} [FloatOps F] (x : IVec Cert.Pre_device16.S1 32) (a b d e f)
    (h : Cert.Pre_device16.fn (F := F) x a b d e f = fun _ => 1#1) (w : Cert.Pre_device16.S1.Idx) : (x w).toNat < 8 := by
  have andi_one (a b : BitVec 1) : IntOp.andi a b = 1#1 ↔ a = 1#1 ∧ b = 1#1 := by revert a b; decide
  have pre := congrFun h w
  simp only [Cert.Pre_device16.fn, constantI, broadcastInDim, cmpi, andi, andi_one] at pre
  exact small_word _ pre.1 pre.2

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x256x256.size a ≤ S1x8x256x1024.size a := by
    intro a
    rw [own_index (tbl m) i]
    match a with
    | ⟨0, _⟩ => show (0 + 1) * 1 ≤ 1; omega
    | ⟨1, _⟩ =>
      show (BitVec.toNat (m (((0 : Dev nD) : Thread nD τ).loc main_arg0) at0) + 1) * 1 ≤ 8
      omega
    | ⟨2, _⟩ => show (0 + 1) * 256 ≤ 256; omega
    | ⟨3, _⟩ => show ((i 0).val + 1) * 256 ≤ 1024; omega
  exact ⟨hb, .inr (Affine.block_words_dvd (of_decide_eq_true rfl) (by decide))⟩

/-! ## One tile -/

/-- The gradient of a tile: the own part plus the seven parts received. -/
def tileG (x0 : Vec Ideal S1x1x256x256 .bf16) (x1 : Vec Ideal S1x7x256x256 .bf16) : Vec Ideal S256x256 .f32 :=
  fun i => x0 (ix4 0 0 (i 1) (i 0)) + ∑ k : Fin 7, x1 (ix4 0 k (i 1) (i 0))

/-- A received part of the block. -/
def part (x1 : Vec Ideal S1x7x256x256 .bf16) (k : Fin 7) : Vec Ideal S1x1x256x256 .bf16 := fun i => x1 (ix4 0 k (i 2) (i 3))

theorem ld_part (x1 : Vec Ideal S1x7x256x256 .bf16) (k : Fin 7)
    (h : ∀ a, (![0, k.val, 0, 0] : Fin 4 → Nat) a + S1x1x256x256.size a ≤ S1x7x256x256.size a) :
    View.ld x1 (Rect.unit ![0, k.val, 0, 0] S1x1x256x256.size h) = part x1 k := by
  funext j
  have l0 : (j 0).val < 1 := (j 0).isLt
  have l1 : (j 1).val < 1 := (j 1).isLt
  exact View.ld_unit_apply_of x1 _ _ _ _ _ fun a => match a with
    | ⟨0, _⟩ => by show 0 = 0 + (j 0).val; omega
    | ⟨1, _⟩ => by show k.val = k.val + (j 1).val; omega
    | ⟨2, _⟩ => (Nat.zero_add _).symm
    | ⟨3, _⟩ => (Nat.zero_add _).symm

theorem ld_part0 (x1 : Vec Ideal S1x7x256x256 .bf16) :
    View.ld x1 (Rect.unit ![0, 0, 0, 0] ![1, 1, 256, 256] inb_S1x7x256x256_S1x1x256x256_0_0_0_0) = part x1 0 :=
  ld_part x1 0 inb_S1x7x256x256_S1x1x256x256_0_0_0_0

theorem ld_part1 (x1 : Vec Ideal S1x7x256x256 .bf16) :
    View.ld x1 (Rect.unit ![0, 1, 0, 0] ![1, 1, 256, 256] inb_S1x7x256x256_S1x1x256x256_0_1_0_0) = part x1 1 :=
  ld_part x1 1 inb_S1x7x256x256_S1x1x256x256_0_1_0_0

theorem ld_part2 (x1 : Vec Ideal S1x7x256x256 .bf16) :
    View.ld x1 (Rect.unit ![0, 2, 0, 0] ![1, 1, 256, 256] inb_S1x7x256x256_S1x1x256x256_0_2_0_0) = part x1 2 :=
  ld_part x1 2 inb_S1x7x256x256_S1x1x256x256_0_2_0_0

theorem ld_part3 (x1 : Vec Ideal S1x7x256x256 .bf16) :
    View.ld x1 (Rect.unit ![0, 3, 0, 0] ![1, 1, 256, 256] inb_S1x7x256x256_S1x1x256x256_0_3_0_0) = part x1 3 :=
  ld_part x1 3 inb_S1x7x256x256_S1x1x256x256_0_3_0_0

theorem ld_part4 (x1 : Vec Ideal S1x7x256x256 .bf16) :
    View.ld x1 (Rect.unit ![0, 4, 0, 0] ![1, 1, 256, 256] inb_S1x7x256x256_S1x1x256x256_0_4_0_0) = part x1 4 :=
  ld_part x1 4 inb_S1x7x256x256_S1x1x256x256_0_4_0_0

theorem ld_part5 (x1 : Vec Ideal S1x7x256x256 .bf16) :
    View.ld x1 (Rect.unit ![0, 5, 0, 0] ![1, 1, 256, 256] inb_S1x7x256x256_S1x1x256x256_0_5_0_0) = part x1 5 :=
  ld_part x1 5 inb_S1x7x256x256_S1x1x256x256_0_5_0_0

theorem ld_part6 (x1 : Vec Ideal S1x7x256x256 .bf16) :
    View.ld x1 (Rect.unit ![0, 6, 0, 0] ![1, 1, 256, 256] inb_S1x7x256x256_S1x1x256x256_0_6_0_0) = part x1 6 :=
  ld_part x1 6 inb_S1x7x256x256_S1x1x256x256_0_6_0_0

theorem stored_grad (x0 : Vec Ideal S1x1x256x256 .bf16) (x1 : Vec Ideal S1x7x256x256 .bf16) :
    k0_pay2 (k0_pay1 x0 (part x1 0) (part x1 1) (part x1 2) (part x1 3) (part x1 4) (part x1 5)) (part x1 6) = tileG x0 x1 := by
  funext i
  have e : tileG x0 x1 i = x0 (ix4 0 0 (i 1) (i 0)) + x1 (ix4 0 0 (i 1) (i 0)) + x1 (ix4 0 1 (i 1) (i 0))
      + x1 (ix4 0 2 (i 1) (i 0)) + x1 (ix4 0 3 (i 1) (i 0)) + x1 (ix4 0 4 (i 1) (i 0)) + x1 (ix4 0 5 (i 1) (i 0))
      + x1 (ix4 0 6 (i 1) (i 0)) := by
    unfold tileG
    rw [Fin.sum_univ_seven]
    simp only [add_assoc]
  rw [e]
  pointwise [k0_pay1, k0_pay2, part]

theorem stored_mean (x0 : Vec Ideal S1x1x256x256 .bf16) (x1 : Vec Ideal S1x7x256x256 .bf16) (v : Vec Ideal S256x256 .f32) :
    k0_pay3 (k0_pay1 x0 (part x1 0) (part x1 1) (part x1 2) (part x1 3) (part x1 4) (part x1 5)) (part x1 6) v = newMean (tileG x0 x1) v := by
  rw [← stored_grad]
  funext i
  pointwise [k0_pay3, newMean]

theorem stored_square (x0 : Vec Ideal S1x1x256x256 .bf16) (x1 : Vec Ideal S1x7x256x256 .bf16) (v : Vec Ideal S256x256 .f32) :
    k0_pay4 (k0_pay1 x0 (part x1 0) (part x1 1) (part x1 2) (part x1 3) (part x1 4) (part x1 5)) (part x1 6) v = newSquare (tileG x0 x1) v := by
  rw [← stored_grad]
  funext i
  pointwise [k0_pay4, newSquare]

theorem stored_step (x0 : Vec Ideal S1x1x256x256 .bf16) (x1 : Vec Ideal S1x7x256x256 .bf16) (w u v : Vec Ideal S256x256 .f32) :
    k0_pay5 (k0_pay1 x0 (part x1 0) (part x1 1) (part x1 2) (part x1 3) (part x1 4) (part x1 5)) (part x1 6) w u v = step w (tileG x0 x1) u v := by
  rw [← stored_grad]
  funext i
  pointwise [k0_pay5, k0_pay3, k0_pay4, step, newMean, newSquare]

theorem out_5 (c : Dev nD) (i : grid0.Coords) (arg2 : Memref sig .tc .vmem S1x1x256x256 .bf16) (harg2 : arg2.IsWhole) (arg3 : Memref sig .tc .vmem S1x7x256x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole)
    (x0 : Vec Ideal S1x1x256x256 .bf16) (x1 : Vec Ideal S1x7x256x256 .bf16) (x2 x3 x4 : Vec Ideal S256x256 .f32) (xt0 : TbBuf0 (F := Ideal) c tbM0_0) :
    out0_A_5 c i arg2 harg2 arg3 harg3 arg4 harg4 arg5 harg5 arg6 harg6 arg7 harg7 arg8 harg8 arg9 harg9 arg10 harg10 x0 x1 x2 x3 x4 xt0 = tileG x0 x1 := by
  have hc := cover0_A_5 c i arg2 harg2 arg3 harg3 arg4 harg4 arg5 harg5 arg6 harg6 arg7 harg7 arg8 harg8 arg9 harg9 arg10 harg10 x0 x1 x2 x3 x4 xt0
  unfold out0_A_5
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_grad x0 x1]
  rw [View.ld_unit_zero hz4, ld_part0, ld_part1, ld_part2, ld_part3, ld_part4, ld_part5, ld_part6]

theorem out_6 (c : Dev nD) (i : grid0.Coords) (arg2 : Memref sig .tc .vmem S1x1x256x256 .bf16) (harg2 : arg2.IsWhole) (arg3 : Memref sig .tc .vmem S1x7x256x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole)
    (x0 : Vec Ideal S1x1x256x256 .bf16) (x1 : Vec Ideal S1x7x256x256 .bf16) (x2 x3 x4 : Vec Ideal S256x256 .f32) (xt0 : TbBuf0 (F := Ideal) c tbM0_0) :
    out0_A_6 c i arg2 harg2 arg3 harg3 arg4 harg4 arg5 harg5 arg6 harg6 arg7 harg7 arg8 harg8 arg9 harg9 arg10 harg10 x0 x1 x2 x3 x4 xt0 = step x2 (tileG x0 x1) x3 x4 := by
  have hc := cover0_A_6 c i arg2 harg2 arg3 harg3 arg4 harg4 arg5 harg5 arg6 harg6 arg7 harg7 arg8 harg8 arg9 harg9 arg10 harg10 x0 x1 x2 x3 x4 xt0
  unfold out0_A_6
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_step x0 x1 x2 x3 x4]
  rw [View.ld_unit_zero hz4, ld_part0, ld_part1, ld_part2, ld_part3, ld_part4, ld_part5, ld_part6]
  rw [View.ld_unit_zero hz2, View.ld_unit_zero hz2, View.ld_unit_zero hz2]

theorem out_7 (c : Dev nD) (i : grid0.Coords) (arg2 : Memref sig .tc .vmem S1x1x256x256 .bf16) (harg2 : arg2.IsWhole) (arg3 : Memref sig .tc .vmem S1x7x256x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole)
    (x0 : Vec Ideal S1x1x256x256 .bf16) (x1 : Vec Ideal S1x7x256x256 .bf16) (x2 x3 x4 : Vec Ideal S256x256 .f32) (xt0 : TbBuf0 (F := Ideal) c tbM0_0) :
    out0_A_7 c i arg2 harg2 arg3 harg3 arg4 harg4 arg5 harg5 arg6 harg6 arg7 harg7 arg8 harg8 arg9 harg9 arg10 harg10 x0 x1 x2 x3 x4 xt0 = newMean (tileG x0 x1) x3 := by
  have hc := cover0_A_7 c i arg2 harg2 arg3 harg3 arg4 harg4 arg5 harg5 arg6 harg6 arg7 harg7 arg8 harg8 arg9 harg9 arg10 harg10 x0 x1 x2 x3 x4 xt0
  unfold out0_A_7
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_mean x0 x1 x3]
  rw [View.ld_unit_zero hz4, ld_part0, ld_part1, ld_part2, ld_part3, ld_part4, ld_part5, ld_part6]
  rw [View.ld_unit_zero hz2]

theorem out_8 (c : Dev nD) (i : grid0.Coords) (arg2 : Memref sig .tc .vmem S1x1x256x256 .bf16) (harg2 : arg2.IsWhole) (arg3 : Memref sig .tc .vmem S1x7x256x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole)
    (x0 : Vec Ideal S1x1x256x256 .bf16) (x1 : Vec Ideal S1x7x256x256 .bf16) (x2 x3 x4 : Vec Ideal S256x256 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 xt0 = newSquare (tileG x0 x1) x4 := by
  have hc := cover0_A_8 c i arg2 harg2 arg3 harg3 arg4 harg4 arg5 harg5 arg6 harg6 arg7 harg7 arg8 harg8 arg9 harg9 arg10 harg10 x0 x1 x2 x3 x4 xt0
  unfold out0_A_8
  rw [View.read_writes_eq_canon _ _ _ hc]
  clear hc
  unfold kernelRun0_A
  dsimp only
  sl_unfold_words
  simp only [View.readAt_eq_ld, harg2.read_unread, harg3.read_unread, harg4.read_unread, harg5.read_unread, harg6.read_unread]
  refine (View.canon_unit_zero hz2 _ _).trans ?_
  rw [← stored_square x0 x1 x4]
  rw [View.ld_unit_zero hz4, ld_part0, ld_part1, ld_part2, ld_part3, ld_part4, ld_part5, ld_part6]
  rw [View.ld_unit_zero hz2]

/-! ## The arrays -/

/-- The gradient of the weight: the device’s own part plus the seven parts received. -/
def grad (me : IVec S1 32) (own : Vec Ideal S1x8x256x1024 .bf16) (recv : Vec Ideal S1x7x256x1024 .bf16) : Vec Ideal S1024x256 .f32 :=
  fun i => own (ix4 0 (Fin.ofNat 8 (BitVec.toNat (me at0))) (i 1) (i 0)) + ∑ k : Fin 7, recv (ix4 0 k (i 1) (i 0))

abbrev rGrad (c : Dev nD) : Buf (Elt Ideal) ((c : Thread nD τ).loc main_v0_0) :=
  grad (m ((c : Thread nD τ).loc main_arg0)) (m ((c : Thread nD τ).loc main_arg1)) (m ((c : Thread nD τ).loc main_arg2))
abbrev rStep (c : Dev nD) : Buf (Elt Ideal) ((c : Thread nD τ).loc main_v0_1) :=
  step (m ((c : Thread nD τ).loc main_arg3)) (rGrad m c) (m ((c : Thread nD τ).loc main_arg4)) (m ((c : Thread nD τ).loc main_arg5))
abbrev rMean (c : Dev nD) : Buf (Elt Ideal) ((c : Thread nD τ).loc main_v0_2) :=
  newMean (rGrad m c) (m ((c : Thread nD τ).loc main_arg4))
abbrev rSquare (c : Dev nD) : Buf (Elt Ideal) ((c : Thread nD τ).loc main_v0_3) :=
  newSquare (rGrad m c) (m ((c : Thread nD τ).loc main_arg5))

theorem point (t : Fin grid0.N) : (grid0.coords t 0).val = t.val := by
  revert t; decide +kernel

theorem idx_1 : ∀ t : Fin grid0.N, cc0_transform_1 (grid0.coords t) 0 = 0 ∧ cc0_transform_1 (grid0.coords t) 1 = 0
    ∧ cc0_transform_1 (grid0.coords t) 2 = 0 ∧ cc0_transform_1 (grid0.coords t) 3 = t.val := by
  decide +kernel

theorem idx_2 : ∀ t : Fin grid0.N, cc0_transform_2 (grid0.coords t) 0 = t.val ∧ cc0_transform_2 (grid0.coords t) 1 = 0 := by
  decide +kernel

theorem idx_3 : ∀ t : Fin grid0.N, cc0_transform_3 (grid0.coords t) 0 = t.val ∧ cc0_transform_3 (grid0.coords t) 1 = 0 := by
  decide +kernel

theorem idx_4 : ∀ t : Fin grid0.N, cc0_transform_4 (grid0.coords t) 0 = t.val ∧ cc0_transform_4 (grid0.coords t) 1 = 0 := by
  decide +kernel

theorem idx_5 : ∀ t : Fin grid0.N, cc0_transform_5 (grid0.coords t) 0 = t.val ∧ cc0_transform_5 (grid0.coords t) 1 = 0 := by
  decide +kernel

theorem idx_6 : ∀ t : Fin grid0.N, cc0_transform_6 (grid0.coords t) 0 = t.val ∧ cc0_transform_6 (grid0.coords t) 1 = 0 := by
  decide +kernel

theorem idx_7 : ∀ t : Fin grid0.N, cc0_transform_7 (grid0.coords t) 0 = t.val ∧ cc0_transform_7 (grid0.coords t) 1 = 0 := by
  decide +kernel

theorem idx_8 : ∀ t : Fin grid0.N, cc0_transform_8 (grid0.coords t) 0 = t.val ∧ cc0_transform_8 (grid0.coords t) 1 = 0 := by
  decide +kernel

/-- The own block at point `t` is the array at the device’s number and the block’s place. -/
theorem own_apply (hO : Ok m) (c : Dev nD) (hd : BitVec.toNat (m ((c : Thread nD τ).loc main_arg0) at0) < 8)
    (t : Fin (cfgM m hO).N) (j : S1x1x256x256.Idx) (i : S1x8x256x1024.Idx)
    (h0 : (i 0).val = 0) (h1 : (i 1).val = BitVec.toNat (m ((c : Thread nD τ).loc main_arg0) at0))
    (h2 : (i 2).val = (j 2).val) (h3 : (i 3).val = t.val * 256 + (j 3).val) :
    (iblk m hO c 0 t : Vec Ideal S1x1x256x256 .bf16) j = m ((c : Thread nD τ).loc main_arg1) i := by
  obtain rfl : c = 0 := Subsingleton.elim _ _
  unfold iblk
  refine (View.read_apply _ _).trans ?_
  show m (((0 : Dev nD) : Thread nD τ).loc main_arg1) _ = m (((0 : Dev nD) : Thread nD τ).loc main_arg1) i
  refine congrArg (m _) (funext fun a => Fin.ext ?_)
  have e := own_index (tbl m) (grid0.coords t)
  have l0 : (j 0).val < 1 := (j 0).isLt
  have l1 : (j 1).val < 1 := (j 1).isLt
  have ep : (grid0.coords t 0).val = t.val := point t
  match a with
  | ⟨0, _⟩ =>
    show cc0_transform_0 inb_S1_S1_0 numel1_S1 (tbl m) (grid0.coords t) 0 * 1 + 1 * (j 0).val = (i 0).val
    have e0 : cc0_transform_0 inb_S1_S1_0 numel1_S1 (tbl m) (grid0.coords t) 0 = 0 := congrFun e 0
    rw [e0, h0]; omega
  | ⟨1, _⟩ =>
    show cc0_transform_0 inb_S1_S1_0 numel1_S1 (tbl m) (grid0.coords t) 1 * 1 + 1 * (j 1).val = (i 1).val
    have e1 : cc0_transform_0 inb_S1_S1_0 numel1_S1 (tbl m) (grid0.coords t) 1 = BitVec.toNat (m (((0 : Dev nD) : Thread nD τ).loc main_arg0) at0) := congrFun e 1
    rw [e1, h1]; omega
  | ⟨2, _⟩ =>
    show cc0_transform_0 inb_S1_S1_0 numel1_S1 (tbl m) (grid0.coords t) 2 * 256 + 1 * (j 2).val = (i 2).val
    have e2 : cc0_transform_0 inb_S1_S1_0 numel1_S1 (tbl m) (grid0.coords t) 2 = 0 := congrFun e 2
    rw [e2, h2]; omega
  | ⟨3, _⟩ =>
    show cc0_transform_0 inb_S1_S1_0 numel1_S1 (tbl m) (grid0.coords t) 3 * 256 + 1 * (j 3).val = (i 3).val
    have e3 : cc0_transform_0 inb_S1_S1_0 numel1_S1 (tbl m) (grid0.coords t) 3 = t.val := (congrFun e 3).trans ep
    rw [e3, h3]; omega

/-- The received block at point `t` is the array at the block’s place. -/
theorem recv_apply (hO : Ok m) (c : Dev nD) (t : Fin (cfgM m hO).N) (j : S1x7x256x256.Idx) (i : S1x7x256x1024.Idx)
    (h0 : (i 0).val = 0) (h1 : (i 1).val = (j 1).val) (h2 : (i 2).val = (j 2).val) (h3 : (i 3).val = t.val * 256 + (j 3).val) :
    (iblk m hO c 1 t : Vec Ideal S1x7x256x256 .bf16) j = m ((c : Thread nD τ).loc main_arg2) i := by
  unfold iblk
  refine (View.read_apply _ _).trans ?_
  show m ((c : Thread nD τ).loc main_arg2) _ = m ((c : Thread nD τ).loc main_arg2) i
  refine congrArg (m _) (funext fun a => Fin.ext ?_)
  obtain ⟨e0, e1, e2, e3⟩ := idx_1 t
  have l0 : (j 0).val < 1 := (j 0).isLt
  match a with
  | ⟨0, _⟩ => show cc0_transform_1 (grid0.coords t) 0 * 1 + 1 * (j 0).val = (i 0).val; rw [e0, h0]; omega
  | ⟨1, _⟩ => show cc0_transform_1 (grid0.coords t) 1 * 7 + 1 * (j 1).val = (i 1).val; rw [e1, h1]; omega
  | ⟨2, _⟩ => show cc0_transform_1 (grid0.coords t) 2 * 256 + 1 * (j 2).val = (i 2).val; rw [e2, h2]; omega
  | ⟨3, _⟩ => show cc0_transform_1 (grid0.coords t) 3 * 256 + 1 * (j 3).val = (i 3).val; rw [e3, h3]; omega

theorem weight_apply (hO : Ok m) (c : Dev nD) (t : Fin (cfgM m hO).N) (j : S256x256.Idx) (i : S1024x256.Idx)
    (h0 : (i 0).val = t.val * 256 + (j 0).val) (h1 : (i 1).val = 0 * 256 + (j 1).val) :
    (iblk m hO c 2 t : Vec Ideal S256x256 .f32) j = m ((c : Thread nD τ).loc main_arg3) i := by
  unfold iblk
  refine (View.read_apply _ _).trans ?_
  show m ((c : Thread nD τ).loc main_arg3) _ = m ((c : Thread nD τ).loc main_arg3) i
  refine congrArg (m _) (funext fun a => Fin.ext ?_)
  obtain ⟨e0, e1⟩ := idx_2 t
  match a with
  | ⟨0, _⟩ => show cc0_transform_2 (grid0.coords t) 0 * 256 + 1 * (j 0).val = (i 0).val; rw [e0, h0]; omega
  | ⟨1, _⟩ => show cc0_transform_2 (grid0.coords t) 1 * 256 + 1 * (j 1).val = (i 1).val; rw [e1, h1]; omega

theorem mean_apply (hO : Ok m) (c : Dev nD) (t : Fin (cfgM m hO).N) (j : S256x256.Idx) (i : S1024x256.Idx)
    (h0 : (i 0).val = t.val * 256 + (j 0).val) (h1 : (i 1).val = 0 * 256 + (j 1).val) :
    (iblk m hO c 3 t : Vec Ideal S256x256 .f32) j = m ((c : Thread nD τ).loc main_arg4) i := by
  unfold iblk
  refine (View.read_apply _ _).trans ?_
  show m ((c : Thread nD τ).loc main_arg4) _ = m ((c : Thread nD τ).loc main_arg4) i
  refine congrArg (m _) (funext fun a => Fin.ext ?_)
  obtain ⟨e0, e1⟩ := idx_3 t
  match a with
  | ⟨0, _⟩ => show cc0_transform_3 (grid0.coords t) 0 * 256 + 1 * (j 0).val = (i 0).val; rw [e0, h0]; omega
  | ⟨1, _⟩ => show cc0_transform_3 (grid0.coords t) 1 * 256 + 1 * (j 1).val = (i 1).val; rw [e1, h1]; omega

theorem square_apply (hO : Ok m) (c : Dev nD) (t : Fin (cfgM m hO).N) (j : S256x256.Idx) (i : S1024x256.Idx)
    (h0 : (i 0).val = t.val * 256 + (j 0).val) (h1 : (i 1).val = 0 * 256 + (j 1).val) :
    (iblk m hO c 4 t : Vec Ideal S256x256 .f32) j = m ((c : Thread nD τ).loc main_arg5) i := by
  unfold iblk
  refine (View.read_apply _ _).trans ?_
  show m ((c : Thread nD τ).loc main_arg5) _ = m ((c : Thread nD τ).loc main_arg5) i
  refine congrArg (m _) (funext fun a => Fin.ext ?_)
  obtain ⟨e0, e1⟩ := idx_4 t
  match a with
  | ⟨0, _⟩ => show cc0_transform_4 (grid0.coords t) 0 * 256 + 1 * (j 0).val = (i 0).val; rw [e0, h0]; omega
  | ⟨1, _⟩ => show cc0_transform_4 (grid0.coords t) 1 * 256 + 1 * (j 1).val = (i 1).val; rw [e1, h1]; omega

/-- A tile’s gradient is the array’s gradient at the tile’s place. -/
theorem grad_apply (hO : Ok m) (c : Dev nD) (hd : BitVec.toNat (m ((c : Thread nD τ).loc main_arg0) at0) < 8)
    (t : Fin (cfgM m hO).N) (j : S256x256.Idx) (i : S1024x256.Idx)
    (h0 : (i 0).val = t.val * 256 + (j 0).val) (h1 : (i 1).val = 0 * 256 + (j 1).val) :
    tileG (iblk m hO c 0 t) (iblk m hO c 1 t) j = rGrad m c i := by
  have hr : (i 1).val = (j 1).val := by omega
  have hc : (i 0).val = t.val * 256 + (j 0).val := by omega
  have h8 : (Fin.ofNat 8 (BitVec.toNat (m ((c : Thread nD τ).loc main_arg0) at0))).val = BitVec.toNat (m ((c : Thread nD τ).loc main_arg0) at0) :=
    Nat.mod_eq_of_lt hd
  exact congrArg₂ (fun a b : EReal => a + b)
    (own_apply m hO c hd t (ix4 0 0 (j 1) (j 0)) (ix4 0 (Fin.ofNat 8 (BitVec.toNat (m ((c : Thread nD τ).loc main_arg0) at0))) (i 1) (i 0))
      rfl h8 hr hc)
    (Finset.sum_congr rfl fun k _ => recv_apply m hO c t (ix4 0 k (j 1) (j 0)) (ix4 0 k (i 1) (i 0)) rfl rfl hr hc)

theorem tile_5 (hO : Ok m) (c : Dev nD) (t : Fin (cfgM m hO).N) (x0 : Vec Ideal S1x1x256x256 .bf16) (x1 : Vec Ideal S1x7x256x256 .bf16) (x2 x3 x4 : Vec Ideal S256x256 .f32) :
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = tileG x0 x1 :=
  out_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_5 (hO : Ok m) (c : Dev nD) (t : Fin (cfgM m hO).N) (x0 : Vec Ideal S1x1x256x256 .bf16) (x1 : Vec Ideal S1x7x256x256 .bf16) (x2 x3 x4 : Vec Ideal S256x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).1 = tileG x0 x1 := by
  rw [← tile_5 m hO c t x0 x1 x2 x3 x4, h0, h1, h2, h3, h4]
  rfl

theorem outs_5 (hO : Ok m) (c : Dev nD) (t : Fin (cfgM m hO).N) :
    (outsAt0 m hO c t).1 = tileG (iblk m hO c 0 t) (iblk m hO c 1 t) :=
  outs_of_5 m hO c t _ _ _ _ _ rfl rfl rfl rfl rfl

/-- What point `t` writes back is its block of the result. -/
theorem flushed_5 (hO : Ok m) (c : Dev nD) (hd : BitVec.toNat (m ((c : Thread nD τ).loc main_arg0) at0) < 8) (t : Fin (cfgM m hO).N) :
    (dats m hO 0 c).flushed 5 t = (((cfgM m hO).win 5).blk t).view.read (Elt Ideal) (rGrad m c) := by
  show ((cfgM m hO).win 5).cut (grid0.coords t) ((dats m hO 0 c).after 5 t) = _
  rw [after0_5, outs_5]
  obtain ⟨e0, e1⟩ := idx_5 t
  have key : ∀ (j : S256x256.Idx) (i : S1024x256.Idx), (i 0).val = cc0_transform_5 (grid0.coords t) 0 * 256 + 1 * (j 0).val →
      (i 1).val = cc0_transform_5 (grid0.coords t) 1 * 256 + 1 * (j 1).val →
      (tileG (iblk m hO c 0 t) (iblk m hO c 1 t)) j = rGrad m c i := by
    intro j i h0 h1
    rw [e0, Nat.one_mul] at h0
    rw [e1, Nat.one_mul] at h1
    exact grad_apply m hO c hd t j _ h0 h1
  exact funext fun j => key j ((((cfgM m hO).win 5).blk t).view.emb j) rfl rfl

theorem mem_blk_5 (hO : Ok m) (t : Fin (cfgM m hO).N) (i : S1024x256.Idx) (ht : (i 0).val / 256 = t.val) :
    i ∈ (((cfgM m hO).win 5).blk t).view.set := by
  have hw : ∀ r : Rect S1024x256, i ∈ r.set → i ∈ ((View.whole main_v0_0).slice r).set := by
    intro r h
    rw [View.set_slice_whole]
    exact h
  refine hw (((cfgM m hO).win 5).rect t) (Rect.mem_set_unit.mpr ?_)
  obtain ⟨e0, e1⟩ := idx_5 t
  have l0 : (i 0).val < 1024 := (i 0).isLt
  have l1 : (i 1).val < 256 := (i 1).isLt
  intro a
  match a with
  | ⟨0, _⟩ =>
    show cc0_transform_5 (grid0.coords t) 0 * 256 ≤ (i 0 : Nat) ∧ (i 0 : Nat) < cc0_transform_5 (grid0.coords t) 0 * 256 + 256
    rw [e0]; omega
  | ⟨1, _⟩ =>
    show cc0_transform_5 (grid0.coords t) 1 * 256 ≤ (i 1 : Nat) ∧ (i 1 : Nat) < cc0_transform_5 (grid0.coords t) 1 * 256 + 256
    rw [e1]; omega

/-- The blocks written back cover the array. -/
theorem cover_5 (hO : Ok m) (i : S1024x256.Idx) :
    ∃ t : Fin (cfgM m hO).N, ((cfgM m hO).win 5).flush t = true ∧ i ∈ (((cfgM m hO).win 5).blk t).view.set := by
  have l : (i 0).val < 1024 := (i 0).isLt
  have hN : (cfgM m hO).N = 4 := N_0
  exact ⟨⟨(i 0).val / 256, by omega⟩, flush0_5 (adm m hO) _, mem_blk_5 m hO _ _ rfl⟩

theorem final_5 (hO : Ok m) (c : Dev nD) (hd : BitVec.toNat (m ((c : Thread nD τ).loc main_arg0) at0) < 8) :
    (dats m hO 0 c).arrAt 5 (cfgM m hO).N = rGrad m c :=
  (dats m hO 0 c).arrAt_eq_of_cover 5 (rGrad m c) (fun t _ => flushed_5 m hO c hd t) (cover_5 m hO)

theorem tile_6 (hO : Ok m) (c : Dev nD) (t : Fin (cfgM m hO).N) (x0 : Vec Ideal S1x1x256x256 .bf16) (x1 : Vec Ideal S1x7x256x256 .bf16) (x2 x3 x4 : Vec Ideal S256x256 .f32) :
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = step x2 (tileG x0 x1) x3 x4 :=
  out_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_6 (hO : Ok m) (c : Dev nD) (t : Fin (cfgM m hO).N) (x0 : Vec Ideal S1x1x256x256 .bf16) (x1 : Vec Ideal S1x7x256x256 .bf16) (x2 x3 x4 : Vec Ideal S256x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.1 = step x2 (tileG x0 x1) x3 x4 := by
  rw [← tile_6 m hO c t x0 x1 x2 x3 x4, h0, h1, h2, h3, h4]
  rfl

theorem outs_6 (hO : Ok m) (c : Dev nD) (t : Fin (cfgM m hO).N) :
    (outsAt0 m hO c t).2.1 = step (iblk m hO c 2 t) (tileG (iblk m hO c 0 t) (iblk m hO c 1 t)) (iblk m hO c 3 t) (iblk m hO c 4 t) :=
  outs_of_6 m hO c t _ _ _ _ _ rfl rfl rfl rfl rfl

/-- What point `t` writes back is its block of the result. -/
theorem flushed_6 (hO : Ok m) (c : Dev nD) (hd : BitVec.toNat (m ((c : Thread nD τ).loc main_arg0) at0) < 8) (t : Fin (cfgM m hO).N) :
    (dats m hO 0 c).flushed 6 t = (((cfgM m hO).win 6).blk t).view.read (Elt Ideal) (rStep m c) := by
  show ((cfgM m hO).win 6).cut (grid0.coords t) ((dats m hO 0 c).after 6 t) = _
  rw [after0_6, outs_6]
  obtain ⟨e0, e1⟩ := idx_6 t
  have key : ∀ (j : S256x256.Idx) (i : S1024x256.Idx), (i 0).val = cc0_transform_6 (grid0.coords t) 0 * 256 + 1 * (j 0).val →
      (i 1).val = cc0_transform_6 (grid0.coords t) 1 * 256 + 1 * (j 1).val →
      (step (iblk m hO c 2 t) (tileG (iblk m hO c 0 t) (iblk m hO c 1 t)) (iblk m hO c 3 t) (iblk m hO c 4 t)) j = rStep m c i := by
    intro j i h0 h1
    rw [e0, Nat.one_mul] at h0
    rw [e1, Nat.one_mul] at h1
    exact step_congr (weight_apply m hO c t j _ h0 h1) (grad_apply m hO c hd t j _ h0 h1) (mean_apply m hO c t j _ h0 h1) (square_apply m hO c t j _ h0 h1)
  exact funext fun j => key j ((((cfgM m hO).win 6).blk t).view.emb j) rfl rfl

theorem mem_blk_6 (hO : Ok m) (t : Fin (cfgM m hO).N) (i : S1024x256.Idx) (ht : (i 0).val / 256 = t.val) :
    i ∈ (((cfgM m hO).win 6).blk t).view.set := by
  have hw : ∀ r : Rect S1024x256, i ∈ r.set → i ∈ ((View.whole main_v0_1).slice r).set := by
    intro r h
    rw [View.set_slice_whole]
    exact h
  refine hw (((cfgM m hO).win 6).rect t) (Rect.mem_set_unit.mpr ?_)
  obtain ⟨e0, e1⟩ := idx_6 t
  have l0 : (i 0).val < 1024 := (i 0).isLt
  have l1 : (i 1).val < 256 := (i 1).isLt
  intro a
  match a with
  | ⟨0, _⟩ =>
    show cc0_transform_6 (grid0.coords t) 0 * 256 ≤ (i 0 : Nat) ∧ (i 0 : Nat) < cc0_transform_6 (grid0.coords t) 0 * 256 + 256
    rw [e0]; omega
  | ⟨1, _⟩ =>
    show cc0_transform_6 (grid0.coords t) 1 * 256 ≤ (i 1 : Nat) ∧ (i 1 : Nat) < cc0_transform_6 (grid0.coords t) 1 * 256 + 256
    rw [e1]; omega

/-- The blocks written back cover the array. -/
theorem cover_6 (hO : Ok m) (i : S1024x256.Idx) :
    ∃ t : Fin (cfgM m hO).N, ((cfgM m hO).win 6).flush t = true ∧ i ∈ (((cfgM m hO).win 6).blk t).view.set := by
  have l : (i 0).val < 1024 := (i 0).isLt
  have hN : (cfgM m hO).N = 4 := N_0
  exact ⟨⟨(i 0).val / 256, by omega⟩, flush0_6 (adm m hO) _, mem_blk_6 m hO _ _ rfl⟩

theorem final_6 (hO : Ok m) (c : Dev nD) (hd : BitVec.toNat (m ((c : Thread nD τ).loc main_arg0) at0) < 8) :
    (dats m hO 0 c).arrAt 6 (cfgM m hO).N = rStep m c :=
  (dats m hO 0 c).arrAt_eq_of_cover 6 (rStep m c) (fun t _ => flushed_6 m hO c hd t) (cover_6 m hO)

theorem tile_7 (hO : Ok m) (c : Dev nD) (t : Fin (cfgM m hO).N) (x0 : Vec Ideal S1x1x256x256 .bf16) (x1 : Vec Ideal S1x7x256x256 .bf16) (x2 x3 x4 : Vec Ideal S256x256 .f32) :
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newMean (tileG x0 x1) x3 :=
  out_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_7 (hO : Ok m) (c : Dev nD) (t : Fin (cfgM m hO).N) (x0 : Vec Ideal S1x1x256x256 .bf16) (x1 : Vec Ideal S1x7x256x256 .bf16) (x2 x3 x4 : Vec Ideal S256x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.1 = newMean (tileG x0 x1) x3 := by
  rw [← tile_7 m hO c t x0 x1 x2 x3 x4, h0, h1, h2, h3, h4]
  rfl

theorem outs_7 (hO : Ok m) (c : Dev nD) (t : Fin (cfgM m hO).N) :
    (outsAt0 m hO c t).2.2.1 = newMean (tileG (iblk m hO c 0 t) (iblk m hO c 1 t)) (iblk m hO c 3 t) :=
  outs_of_7 m hO c t _ _ _ _ _ rfl rfl rfl rfl rfl

/-- What point `t` writes back is its block of the result. -/
theorem flushed_7 (hO : Ok m) (c : Dev nD) (hd : BitVec.toNat (m ((c : Thread nD τ).loc main_arg0) at0) < 8) (t : Fin (cfgM m hO).N) :
    (dats m hO 0 c).flushed 7 t = (((cfgM m hO).win 7).blk t).view.read (Elt Ideal) (rMean m c) := by
  show ((cfgM m hO).win 7).cut (grid0.coords t) ((dats m hO 0 c).after 7 t) = _
  rw [after0_7, outs_7]
  obtain ⟨e0, e1⟩ := idx_7 t
  have key : ∀ (j : S256x256.Idx) (i : S1024x256.Idx), (i 0).val = cc0_transform_7 (grid0.coords t) 0 * 256 + 1 * (j 0).val →
      (i 1).val = cc0_transform_7 (grid0.coords t) 1 * 256 + 1 * (j 1).val →
      (newMean (tileG (iblk m hO c 0 t) (iblk m hO c 1 t)) (iblk m hO c 3 t)) j = rMean m c i := by
    intro j i h0 h1
    rw [e0, Nat.one_mul] at h0
    rw [e1, Nat.one_mul] at h1
    exact newMean_congr (grad_apply m hO c hd t j _ h0 h1) (mean_apply m hO c t j _ h0 h1)
  exact funext fun j => key j ((((cfgM m hO).win 7).blk t).view.emb j) rfl rfl

theorem mem_blk_7 (hO : Ok m) (t : Fin (cfgM m hO).N) (i : S1024x256.Idx) (ht : (i 0).val / 256 = t.val) :
    i ∈ (((cfgM m hO).win 7).blk t).view.set := by
  have hw : ∀ r : Rect S1024x256, i ∈ r.set → i ∈ ((View.whole main_v0_2).slice r).set := by
    intro r h
    rw [View.set_slice_whole]
    exact h
  refine hw (((cfgM m hO).win 7).rect t) (Rect.mem_set_unit.mpr ?_)
  obtain ⟨e0, e1⟩ := idx_7 t
  have l0 : (i 0).val < 1024 := (i 0).isLt
  have l1 : (i 1).val < 256 := (i 1).isLt
  intro a
  match a with
  | ⟨0, _⟩ =>
    show cc0_transform_7 (grid0.coords t) 0 * 256 ≤ (i 0 : Nat) ∧ (i 0 : Nat) < cc0_transform_7 (grid0.coords t) 0 * 256 + 256
    rw [e0]; omega
  | ⟨1, _⟩ =>
    show cc0_transform_7 (grid0.coords t) 1 * 256 ≤ (i 1 : Nat) ∧ (i 1 : Nat) < cc0_transform_7 (grid0.coords t) 1 * 256 + 256
    rw [e1]; omega

/-- The blocks written back cover the array. -/
theorem cover_7 (hO : Ok m) (i : S1024x256.Idx) :
    ∃ t : Fin (cfgM m hO).N, ((cfgM m hO).win 7).flush t = true ∧ i ∈ (((cfgM m hO).win 7).blk t).view.set := by
  have l : (i 0).val < 1024 := (i 0).isLt
  have hN : (cfgM m hO).N = 4 := N_0
  exact ⟨⟨(i 0).val / 256, by omega⟩, flush0_7 (adm m hO) _, mem_blk_7 m hO _ _ rfl⟩

theorem final_7 (hO : Ok m) (c : Dev nD) (hd : BitVec.toNat (m ((c : Thread nD τ).loc main_arg0) at0) < 8) :
    (dats m hO 0 c).arrAt 7 (cfgM m hO).N = rMean m c :=
  (dats m hO 0 c).arrAt_eq_of_cover 7 (rMean m c) (fun t _ => flushed_7 m hO c hd t) (cover_7 m hO)

theorem tile_8 (hO : Ok m) (c : Dev nD) (t : Fin (cfgM m hO).N) (x0 : Vec Ideal S1x1x256x256 .bf16) (x1 : Vec Ideal S1x7x256x256 .bf16) (x2 x3 x4 : Vec Ideal S256x256 .f32) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0) = newSquare (tileG x0 x1) x4 :=
  out_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 (tbl m 0)

theorem outs_of_8 (hO : Ok m) (c : Dev nD) (t : Fin (cfgM m hO).N) (x0 : Vec Ideal S1x1x256x256 .bf16) (x1 : Vec Ideal S1x7x256x256 .bf16) (x2 x3 x4 : Vec Ideal S256x256 .f32)
    (h0 : x0 = iblk m hO c 0 t) (h1 : x1 = iblk m hO c 1 t) (h2 : x2 = iblk m hO c 2 t) (h3 : x3 = iblk m hO c 3 t) (h4 : x4 = iblk m hO c 4 t) :
    (outsAt0 m hO c t).2.2.2 = newSquare (tileG x0 x1) x4 := by
  rw [← tile_8 m hO c t x0 x1 x2 x3 x4, h0, h1, h2, h3, h4]
  rfl

theorem outs_8 (hO : Ok m) (c : Dev nD) (t : Fin (cfgM m hO).N) :
    (outsAt0 m hO c t).2.2.2 = newSquare (tileG (iblk m hO c 0 t) (iblk m hO c 1 t)) (iblk m hO c 4 t) :=
  outs_of_8 m hO c t _ _ _ _ _ rfl rfl rfl rfl rfl

/-- What point `t` writes back is its block of the result. -/
theorem flushed_8 (hO : Ok m) (c : Dev nD) (hd : BitVec.toNat (m ((c : Thread nD τ).loc main_arg0) at0) < 8) (t : Fin (cfgM m hO).N) :
    (dats m hO 0 c).flushed 8 t = (((cfgM m hO).win 8).blk t).view.read (Elt Ideal) (rSquare m c) := by
  show ((cfgM m hO).win 8).cut (grid0.coords t) ((dats m hO 0 c).after 8 t) = _
  rw [after0_8, outs_8]
  obtain ⟨e0, e1⟩ := idx_8 t
  have key : ∀ (j : S256x256.Idx) (i : S1024x256.Idx), (i 0).val = cc0_transform_8 (grid0.coords t) 0 * 256 + 1 * (j 0).val →
      (i 1).val = cc0_transform_8 (grid0.coords t) 1 * 256 + 1 * (j 1).val →
      (newSquare (tileG (iblk m hO c 0 t) (iblk m hO c 1 t)) (iblk m hO c 4 t)) j = rSquare m c i := by
    intro j i h0 h1
    rw [e0, Nat.one_mul] at h0
    rw [e1, Nat.one_mul] at h1
    exact newSquare_congr (grad_apply m hO c hd t j _ h0 h1) (square_apply m hO c t j _ h0 h1)
  exact funext fun j => key j ((((cfgM m hO).win 8).blk t).view.emb j) rfl rfl

theorem mem_blk_8 (hO : Ok m) (t : Fin (cfgM m hO).N) (i : S1024x256.Idx) (ht : (i 0).val / 256 = t.val) :
    i ∈ (((cfgM m hO).win 8).blk t).view.set := by
  have hw : ∀ r : Rect S1024x256, i ∈ r.set → i ∈ ((View.whole main_v0_3).slice r).set := by
    intro r h
    rw [View.set_slice_whole]
    exact h
  refine hw (((cfgM m hO).win 8).rect t) (Rect.mem_set_unit.mpr ?_)
  obtain ⟨e0, e1⟩ := idx_8 t
  have l0 : (i 0).val < 1024 := (i 0).isLt
  have l1 : (i 1).val < 256 := (i 1).isLt
  intro a
  match a with
  | ⟨0, _⟩ =>
    show cc0_transform_8 (grid0.coords t) 0 * 256 ≤ (i 0 : Nat) ∧ (i 0 : Nat) < cc0_transform_8 (grid0.coords t) 0 * 256 + 256
    rw [e0]; omega
  | ⟨1, _⟩ =>
    show cc0_transform_8 (grid0.coords t) 1 * 256 ≤ (i 1 : Nat) ∧ (i 1 : Nat) < cc0_transform_8 (grid0.coords t) 1 * 256 + 256
    rw [e1]; omega

/-- The blocks written back cover the array. -/
theorem cover_8 (hO : Ok m) (i : S1024x256.Idx) :
    ∃ t : Fin (cfgM m hO).N, ((cfgM m hO).win 8).flush t = true ∧ i ∈ (((cfgM m hO).win 8).blk t).view.set := by
  have l : (i 0).val < 1024 := (i 0).isLt
  have hN : (cfgM m hO).N = 4 := N_0
  exact ⟨⟨(i 0).val / 256, by omega⟩, flush0_8 (adm m hO) _, mem_blk_8 m hO _ _ rfl⟩

theorem final_8 (hO : Ok m) (c : Dev nD) (hd : BitVec.toNat (m ((c : Thread nD τ).loc main_arg0) at0) < 8) :
    (dats m hO 0 c).arrAt 8 (cfgM m hO).N = rSquare m c :=
  (dats m hO 0 c).arrAt_eq_of_cover 8 (rSquare m c) (fun t _ => flushed_8 m hO c hd t) (cover_8 m hO)

/-- The run: the four results, and the arguments unchanged. -/
theorem run (hm : ∀ c : Dev nD, BitVec.toNat (m ((c : Thread nD τ).loc main_arg0) at0) < 8) :
    θ_run defs (onTc (τ := τ) (main (F := Ideal))) ⟨m, fun _ => 0, ρ⟩ fun r => ∀ c : Dev nD,
      r.2.mem ((c : Thread nD τ).loc main_v0_0) = rGrad m c
      ∧ r.2.mem ((c : Thread nD τ).loc main_v0_1) = rStep m c
      ∧ r.2.mem ((c : Thread nD τ).loc main_v0_2) = rMean m c
      ∧ r.2.mem ((c : Thread nD τ).loc main_v0_3) = rSquare m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  let hO := ok_of m (hm 0)
  (θ_run defs _ _).mono (fun _ h c => ⟨((h c).1 5).trans (final_5 m hO c (hm c)), ((h c).1 6).trans (final_6 m hO c (hm c)),
      ((h c).1 7).trans (final_7 m hO c (hm c)), ((h c).1 8).trans (final_8 m hO c (hm c)),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

/-! ## The reference -/

theorem zero_word : FloatOps.ofBits (F := Ideal) .f32 0x00000000#32 = (0 : EReal) := by
  pointwise []

/-- Two numbers below eight as words are the same word exactly when they are the same number. -/
theorem eq_word (k : Fin 8) (w : BitVec 32) (hw : w.toNat < 8) :
    IntOp.cmpi .eq (BitVec.ofNat 32 k.val) w = if k = Fin.ofNat 8 w.toNat then 1#1 else 0#1 := by
  have e : (BitVec.ofNat 32 k.val = w) ↔ k = Fin.ofNat 8 w.toNat := by
    constructor
    · intro h
      apply Fin.ext
      rw [← h]
      show k.val = (BitVec.ofNat 32 k.val).toNat % 8
      rw [BitVec.toNat_ofNat]
      omega
    · intro h
      apply BitVec.eq_of_toNat_eq
      rw [h]
      show (BitVec.ofNat 32 (w.toNat % 8)).toNat = _
      rw [BitVec.toNat_ofNat]
      omega
  unfold IntOp.cmpi
  by_cases h : k = Fin.ofNat 8 w.toNat
  · rw [if_pos h]; simp [e.mpr h]
  · rw [if_neg h]
    show BitVec.ofBool (BitVec.ofNat 32 k.val == w) = 0#1
    rw [beq_eq_false_iff_ne.mpr (fun g => h (e.mp g))]
    rfl

theorem number (me : IVec S1 32) (j) : Cert.Reference16Ideal.Read.val_main_v2 (F := Ideal) me j = me at0 := congrArg me (idx_one _)

/-- The reference’s selected part: the device’s own part at its number, zero elsewhere. -/
theorem picked (me : IVec S1 32) (hme : BitVec.toNat (me at0) < 8) (own : Vec Ideal S1x8x256x1024 .bf16) (k : Fin 8) (r : Fin 256) (s : Fin 1024) :
    Cert.Reference16Ideal.Read.val_main_v7 (F := Ideal) me own (ix3 k r s) = if k = (Fin.ofNat 8 (BitVec.toNat (me at0))) then own (ix4 0 k r s) else 0 := by
  have e : Cert.Reference16Ideal.Read.val_main_v7 (F := Ideal) me own (ix3 k r s)
      = Scalar.select (IntOp.cmpi .eq (BitVec.ofNat 32 k.val) (me at0)) (own (ix4 0 k r s)) (FloatOps.ofBits (F := Ideal) .f32 0x00000000#32) := by
    have hn := number me
    pointwise [Cert.Reference16Ideal.Read.val_main_v7, Cert.Reference16Ideal.Read.val_main_call0_v0, Cert.Reference16Ideal.Read.val_main_call0_v1, Cert.Reference16Ideal.Read.val_main_call0_v2, Cert.Reference16Ideal.Read.val_main_cst, Cert.Reference16Ideal.Read.val_main_v0, Cert.Reference16Ideal.Read.val_main_v1, Cert.Reference16Ideal.Read.val_main_v3, Cert.Reference16Ideal.Read.val_main_v4, Cert.Reference16Ideal.Read.val_main_v5, Cert.Reference16Ideal.Read.val_main_v6, hn]
    exact congrArg (Scalar.select _ _) zero_word
  rw [e, eq_word k _ hme, zero_word]
  by_cases h : k = (Fin.ofNat 8 (BitVec.toNat (me at0)))
  · rw [if_pos h, if_pos h]; exact if_pos rfl
  · rw [if_neg h, if_neg h]; exact if_neg (by decide)

theorem ref_sum (me : IVec S1 32) (hme : BitVec.toNat (me at0) < 8) (own : Vec Ideal S1x8x256x1024 .bf16) (recv : Vec Ideal S1x7x256x1024 .bf16)
    (r : Fin 256) (s : Fin 1024) :
    Cert.Reference16Ideal.Read.val_main_v12 (F := Ideal) me own recv (ix2 r s) = own (ix4 0 (Fin.ofNat 8 (BitVec.toNat (me at0))) r s) + ∑ k : Fin 7, recv (ix4 0 k r s) := by
  rw [Cert.Reference16Ideal.Read.val_main_v12_apply]
  refine congrArg₂ (fun a b : EReal => a + b) ?_ ?_
  · rw [Cert.Reference16Ideal.Read.val_main_v8_apply]
    refine (congrArg₂ (fun a b : EReal => a + b) zero_word rfl).trans ((zero_add _).trans ?_)
    refine (Finset.sum_congr rfl fun k _ => (congrArg (Cert.Reference16Ideal.Read.val_main_v7 (F := Ideal) me own) (funext fun a => match a with | ⟨0, _⟩ => rfl | ⟨1, _⟩ => rfl | ⟨2, _⟩ => rfl)).trans (picked me hme own k r s)).trans ?_
    rw [Finset.sum_ite_eq' Finset.univ (Fin.ofNat 8 (BitVec.toNat (me at0))), if_pos (Finset.mem_univ _)]
  · rw [Cert.Reference16Ideal.Read.val_main_v11_apply]
    refine (congrArg₂ (fun a b : EReal => a + b) zero_word rfl).trans ((zero_add _).trans ?_)
    refine Finset.sum_congr rfl fun k _ => ?_
    have e : Cert.Reference16Ideal.Read.val_main_v10 (F := Ideal) recv (ix3 k r s) = recv (ix4 0 k r s) := by
      pointwise [Cert.Reference16Ideal.Read.val_main_v9, Cert.Reference16Ideal.Read.val_main_v10]
    exact (congrArg (Cert.Reference16Ideal.Read.val_main_v10 (F := Ideal) recv) (funext fun a => match a with | ⟨0, _⟩ => rfl | ⟨1, _⟩ => rfl | ⟨2, _⟩ => rfl)).trans e

theorem ref_grad (me : IVec S1 32) (hme : BitVec.toNat (me at0) < 8) (own : Vec Ideal S1x8x256x1024 .bf16) (recv : Vec Ideal S1x7x256x1024 .bf16) :
    Cert.Reference16Ideal.Read.val_main_v13 (F := Ideal) me own recv = grad me own recv := by
  funext i
  rw [Cert.Reference16Ideal.Read.val_main_v13_apply]
  have e : Cert.Reference16Ideal.Read.idx_main_v13 i = ix2 (i 1) (i 0) := funext fun a => match a with | ⟨0, _⟩ => rfl | ⟨1, _⟩ => rfl
  exact (congrArg (Cert.Reference16Ideal.Read.val_main_v12 (F := Ideal) me own recv) e).trans (ref_sum me hme own recv (i 1) (i 0))

theorem ref_mean (me : IVec S1 32) (hme : BitVec.toNat (me at0) < 8) (own : Vec Ideal S1x8x256x1024 .bf16) (recv : Vec Ideal S1x7x256x1024 .bf16) (u : Vec Ideal S1024x256 .f32) :
    Cert.Reference16Ideal.Read.val_main_v18 (F := Ideal) me own recv u = newMean (grad me own recv) u := by
  rw [← ref_grad me hme]
  funext i
  pointwise [Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_v14, Cert.Reference16Ideal.Read.val_main_v15, Cert.Reference16Ideal.Read.val_main_v16, Cert.Reference16Ideal.Read.val_main_v17, Cert.Reference16Ideal.Read.val_main_v18, newMean]

theorem ref_square (me : IVec S1 32) (hme : BitVec.toNat (me at0) < 8) (own : Vec Ideal S1x8x256x1024 .bf16) (recv : Vec Ideal S1x7x256x1024 .bf16) (q : Vec Ideal S1024x256 .f32) :
    Cert.Reference16Ideal.Read.val_main_v24 (F := Ideal) me own recv q = newSquare (grad me own recv) q := by
  rw [← ref_grad me hme]
  funext i
  pointwise [Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, newSquare]

theorem ref_step (me : IVec S1 32) (hme : BitVec.toNat (me at0) < 8) (own : Vec Ideal S1x8x256x1024 .bf16) (recv : Vec Ideal S1x7x256x1024 .bf16) (w u q : Vec Ideal S1024x256 .f32) :
    Cert.Reference16Ideal.Read.val_main_v37 (F := Ideal) me own recv w u q = step w (grad me own recv) u q := by
  have e1 := ref_mean me hme own recv u
  have e2 := ref_square me hme own recv q
  rw [← ref_grad me hme] at e1 e2 ⊢
  funext i
  pointwise [Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8, Cert.Reference16Ideal.Read.val_main_cst_9, Cert.Reference16Ideal.Read.val_main_cst_10, Cert.Reference16Ideal.Read.val_main_v25, Cert.Reference16Ideal.Read.val_main_v26, Cert.Reference16Ideal.Read.val_main_v27, Cert.Reference16Ideal.Read.val_main_v28, Cert.Reference16Ideal.Read.val_main_v29, Cert.Reference16Ideal.Read.val_main_v30, Cert.Reference16Ideal.Read.val_main_v31, Cert.Reference16Ideal.Read.val_main_v32, Cert.Reference16Ideal.Read.val_main_v33, Cert.Reference16Ideal.Read.val_main_v34, Cert.Reference16Ideal.Read.val_main_v35, Cert.Reference16Ideal.Read.val_main_v36, Cert.Reference16Ideal.Read.val_main_v37, step, e1, e2]

end Cert.Kernel16Ideal.StepIn

/-! ## The same side condition for the program in floating point -/

namespace Cert.Kernel16.StepIn

open Cert.Kernel16 Cert.Kernel16.Gen Idealize.ShloMosaic Idealize.ShloMosaic.TcCoe Idealize.ShloMosaic.Tactic
open Cert.Kernel16Ideal.StepIn (at0 idx_one)

/-- The window of the own part, at a point: the slab, the device’s number, all rows, the point’s columns. -/
theorem own_index {F : FTy → Type} [FloatOps F] (pf : pre0.Contents (Elt F)) (i : grid0.Coords) :
    cc0_transform_0 inb_S1_S1_0 numel1_S1 pf i = ![0, BitVec.toNat (pf 0 at0), 0, (i 0).val] := by
  unfold cc0_transform_0
  have hi : (i 0).val < 4 := (i 0).isLt
  have e3 : (BitVec.ofNat 32 (i 0).val).toNat = (i 0).val := by rw [BitVec.toNat_ofNat]; omega
  have e1 : pf.at 0 (Rect.unit (s := S1) ![0] S1.size inb_S1_S1_0) numel1_S1 = pf 0 at0 := congrArg (pf 0) (idx_one _)
  dsimp only
  rw [e3, e1]
  rfl

/-- With the device’s number among the eight, every block of the own part is inside the array. -/
theorem ok_of {F : FTy → Type} [FloatOps F] (m : (ℓ : Loc nD τ sig) → Buf (Elt F) ℓ)
    (h : BitVec.toNat (m (((0 : Dev nD) : Thread nD τ).loc main_arg0) at0) < 8) : Ok m := by
  intro i
  have hi : (i 0).val < 4 := (i 0).isLt
  have hb : ∀ a, (cc0_transform_0 inb_S1_S1_0 numel1_S1 (tbl m) i a + 1) * S1x1x256x256.size a ≤ S1x8x256x1024.size a := by
    intro a
    rw [own_index (tbl m) i]
    match a with
    | ⟨0, _⟩ => show (0 + 1) * 1 ≤ 1; omega
    | ⟨1, _⟩ =>
      show (BitVec.toNat (m (((0 : Dev nD) : Thread nD τ).loc main_arg0) at0) + 1) * 1 ≤ 8
      omega
    | ⟨2, _⟩ => show (0 + 1) * 256 ≤ 256; omega
    | ⟨3, _⟩ => show ((i 0).val + 1) * 256 ≤ 1024; omega
  exact ⟨hb, .inr (Affine.block_words_dvd (of_decide_eq_true rfl) (by decide))⟩

end Cert.Kernel16.StepIn

end
-- ==== Proof.Claims.lean ====
/- The claims, one by one: each frame from the generated module, each value from the kernel’s module and the
   reference’s run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Pre_finite2
public import proofs.«01_k».proof.Proof.Gen.Pre_device12
public import proofs.«01_k».proof.Proof.Gen.Pre_device13
public import proofs.«01_k».proof.Proof.Gen.Pre_device14
public import proofs.«01_k».proof.Proof.Gen.Pre_device15
public import proofs.«01_k».proof.Proof.Gen.Pre_device16
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.ActBwd
public import proofs.«01_k».proof.Proof.GradWGateUp
public import proofs.«01_k».proof.Proof.GradWDown
public import proofs.«01_k».proof.Proof.GradWOut
public import proofs.«01_k».proof.Proof.OutProjBwd
public import proofs.«01_k».proof.Proof.FfnUp
public import proofs.«01_k».proof.Proof.InProj
public import proofs.«01_k».proof.Proof.PoolBwd
public import proofs.«01_k».proof.Proof.PoolFwd
public import proofs.«01_k».proof.Proof.CondFwd
public import proofs.«01_k».proof.Proof.CondBwd
public import proofs.«01_k».proof.Proof.StepOut
public import proofs.«01_k».proof.Proof.StepDown
public import proofs.«01_k».proof.Proof.StepGate
public import proofs.«01_k».proof.Proof.StepUp
public import proofs.«01_k».proof.Proof.StepIn
public import Idealize.ShloMosaic.Lib.Quiescent

@[expose] public section

set_option maxRecDepth 16384

noncomputable section

namespace Cert.Proof

open Idealize.ShloMosaic Idealize.ShloMosaic.TcCoe Idealize.SL.Sem

theorem frame_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_Reference11Ideal : quiescent_Reference11Ideal := fun m ρ _ =>
  (θ_run Cert.Reference11Ideal.defs _ _).mono (fun r h => ⟨fun c => (h c).2.2.2.2.2.2.2.2, sem_eq_zero_of_no_sems (by decide) r.2⟩)
    (Cert.Reference11Ideal.Value.run (F := Ideal) m ρ)

theorem frame_Reference12Ideal : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_Reference13Ideal : quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem frame_Reference14Ideal : quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem frame_Reference15Ideal : quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem frame_Reference16Ideal : quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem value_Kernel : algebraic_KernelIdeal_ReferenceIdeal := fun m ρ m' ρ' hpre hag =>
  ⟨fun c => Cert.KernelIdeal.PoolBwd.rTokens m c, fun c => Cert.KernelIdeal.PoolBwd.rWeight m c, fun c => Cert.KernelIdeal.PoolBwd.rScale m c, Cert.KernelIdeal.PoolBwd.run m ρ,
    (θ_run Cert.ReferenceIdeal.defs _ _).mono (fun r h c => by
      obtain ⟨hag0, hag1, hag2, hag3, hag4⟩ := hag c
      have e0 := Cert.KernelIdeal.PoolBwd.ref_tokens (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      have e1 := Cert.KernelIdeal.PoolBwd.ref_weight (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      have e2 := Cert.KernelIdeal.PoolBwd.ref_scale (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      exact ⟨((h c).1).trans (Eq.trans (by rw [hag1, hag2, hag3, hag4]; rfl) e0), ((h c).2.1).trans (Eq.trans (by rw [hag0, hag1, hag3]; rfl) e1), ((h c).2.2.1).trans (Eq.trans (by rw [hag0, hag1, hag2]; rfl) e2), (h c).2.2.2⟩)
      (Cert.ReferenceIdeal.Value.run (F := Ideal) m' ρ')⟩

theorem value_Kernel2 : algebraic_Kernel2Ideal_Reference2Ideal_pre_finite2 := fun m ρ m' ρ' hpre hag =>
  ⟨fun c => Cert.Kernel2Ideal.ActBwd.result m c, Cert.Kernel2Ideal.ActBwd.run m ρ,
    (θ_run Cert.Reference2Ideal.defs _ _).mono (fun r h c => by
      obtain ⟨hag0, hag1, hag2⟩ := hag c
      obtain ⟨hx, hy, hz⟩ := Cert.Kernel2Ideal.ActBwd.pre_real _ _ _ (hpre c)
      have e0 := Cert.Kernel2Ideal.ActBwd.ref_eq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) hx hy hz
      exact ⟨((h c).1).trans (Eq.trans (by rw [hag0, hag1, hag2]; rfl) e0), (h c).2⟩)
      (Cert.Reference2Ideal.Value.run (F := Ideal) m' ρ')⟩

theorem value_Kernel3 : algebraic_Kernel3Ideal_Reference3Ideal := fun m ρ m' ρ' hpre hag =>
  ⟨fun c => Cert.Kernel3Ideal.GradWGateUp.result m c, Cert.Kernel3Ideal.GradWGateUp.run m ρ,
    (θ_run Cert.Reference3Ideal.defs _ _).mono (fun r h c => by
      obtain ⟨hag0, hag1⟩ := hag c
      have e0 := Cert.Kernel3Ideal.GradWGateUp.ref_eq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      exact ⟨((h c).1).trans (Eq.trans (by rw [hag0, hag1]; rfl) e0), (h c).2⟩)
      (Cert.Reference3Ideal.Value.run (F := Ideal) m' ρ')⟩

theorem value_Kernel4 : algebraic_Kernel4Ideal_Reference4Ideal := fun m ρ m' ρ' hpre hag =>
  ⟨fun c => Cert.Kernel4Ideal.GradWDown.result m c, Cert.Kernel4Ideal.GradWDown.run m ρ,
    (θ_run Cert.Reference4Ideal.defs _ _).mono (fun r h c => by
      obtain ⟨hag0, hag1⟩ := hag c
      have e0 := Cert.Kernel4Ideal.GradWDown.ref_eq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      exact ⟨((h c).1).trans (Eq.trans (by rw [hag0, hag1]; rfl) e0), (h c).2⟩)
      (Cert.Reference4Ideal.Value.run (F := Ideal) m' ρ')⟩

theorem value_Kernel5 : algebraic_Kernel5Ideal_Reference5Ideal := fun m ρ m' ρ' hpre hag =>
  ⟨fun c => Cert.Kernel5Ideal.GradWOut.result m c, Cert.Kernel5Ideal.GradWOut.run m ρ,
    (θ_run Cert.Reference5Ideal.defs _ _).mono (fun r h c => by
      obtain ⟨hag0, hag1⟩ := hag c
      have e0 := Cert.Kernel5Ideal.GradWOut.ref_eq (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      exact ⟨((h c).1).trans (Eq.trans (by rw [hag0, hag1]; rfl) e0), (h c).2⟩)
      (Cert.Reference5Ideal.Value.run (F := Ideal) m' ρ')⟩

theorem value_Kernel6 : algebraic_Kernel6Ideal_Reference6Ideal := fun m ρ m' ρ' hpre hag =>
  ⟨fun c => Cert.Kernel6Ideal.OutProjBwd.result m c, Cert.Kernel6Ideal.OutProjBwd.run m ρ,
    (θ_run Cert.Reference6Ideal.defs _ _).mono (fun r h c => by
      obtain ⟨hag0, hag1⟩ := hag c
      have e0 := Cert.Kernel6Ideal.OutProjBwd.ref_eq (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      exact ⟨((h c).1).trans (Eq.trans (by rw [hag0, hag1]; rfl) e0), (h c).2⟩)
      (Cert.Reference6Ideal.Value.run (F := Ideal) m' ρ')⟩

theorem value_Kernel7 : algebraic_Kernel7Ideal_Reference7Ideal := fun m ρ m' ρ' hpre hag =>
  ⟨fun c => Cert.Kernel7Ideal.FfnUp.pair m c, fun c => Cert.Kernel7Ideal.FfnUp.activation m c, Cert.Kernel7Ideal.FfnUp.run m ρ,
    (θ_run Cert.Reference7Ideal.defs _ _).mono (fun r h c => by
      obtain ⟨hag0, hag1⟩ := hag c
      have e0 := Cert.Kernel7Ideal.FfnUp.ref_pair (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      have e1 := Cert.Kernel7Ideal.FfnUp.ref_act (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      exact ⟨((h c).1).trans (Eq.trans (by rw [hag0, hag1]; rfl) e0), ((h c).2.1).trans (Eq.trans (by rw [hag0, hag1]; rfl) e1), (h c).2.2⟩)
      (Cert.Reference7Ideal.Value.run (F := Ideal) m' ρ')⟩

theorem value_Kernel8 : algebraic_Kernel8Ideal_Reference8Ideal := fun m ρ m' ρ' hpre hag =>
  ⟨fun c => Cert.Kernel8Ideal.InProj.result m c, Cert.Kernel8Ideal.InProj.run m ρ,
    (θ_run Cert.Reference8Ideal.defs _ _).mono (fun r h c => by
      obtain ⟨hag0, hag1⟩ := hag c
      have e0 := Cert.Kernel8Ideal.InProj.ref_eq (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
      exact ⟨((h c).1).trans (Eq.trans (by rw [hag0, hag1]; rfl) e0), (h c).2⟩)
      (Cert.Reference8Ideal.Value.run (F := Ideal) m' ρ')⟩

theorem value_Kernel9 : algebraic_Kernel9Ideal_Reference9Ideal := fun m ρ m' ρ' hpre hag =>
  ⟨fun c => Cert.Kernel9Ideal.PoolFwd.result m c, Cert.Kernel9Ideal.PoolFwd.run m ρ,
    (θ_run Cert.Reference9Ideal.defs _ _).mono (fun r h c => by
      obtain ⟨hag0, hag1, hag2, hag3⟩ := hag c
      have e0 := Cert.Kernel9Ideal.PoolFwd.ref_eq (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))
      exact ⟨((h c).1).trans (Eq.trans (by rw [hag0, hag1, hag2, hag3]; rfl) e0), (h c).2⟩)
      (Cert.Reference9Ideal.Value.run (F := Ideal) m' ρ')⟩

theorem value_Kernel10 : algebraic_Kernel10Ideal_Reference10Ideal := fun m ρ m' ρ' hpre hag =>
  ⟨fun c => Cert.Kernel10Ideal.CondFwd.result m c, Cert.Kernel10Ideal.CondFwd.run m ρ,
    (θ_run Cert.Reference10Ideal.defs _ _).mono (fun r h c => by
      obtain ⟨hag0, hag1, hag2⟩ := hag c
      have e0 := Cert.Kernel10Ideal.CondFwd.ref_eq (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))
      exact ⟨((h c).1).trans (Eq.trans (by rw [hag0, hag1, hag2]; rfl) e0), (h c).2⟩)
      (Cert.Reference10Ideal.Value.run (F := Ideal) m' ρ')⟩

theorem value_Kernel11 : algebraic_Kernel11Ideal_Reference11Ideal := fun m ρ m' ρ' hpre hag =>
  ⟨fun c => Cert.Kernel11Ideal.CondBwd.rGradW m c, fun c => Cert.Kernel11Ideal.CondBwd.rStepW m c, fun c => Cert.Kernel11Ideal.CondBwd.rMeanW m c, fun c => Cert.Kernel11Ideal.CondBwd.rSquareW m c, fun c => Cert.Kernel11Ideal.CondBwd.rGradB m c, fun c => Cert.Kernel11Ideal.CondBwd.rStepB m c, fun c => Cert.Kernel11Ideal.CondBwd.rMeanB m c, fun c => Cert.Kernel11Ideal.CondBwd.rSquareB m c, Cert.Kernel11Ideal.CondBwd.run m ρ,
    (θ_run Cert.Reference11Ideal.defs _ _).mono (fun r h c => by
      obtain ⟨hag0, hag1, hag2, hag3, hag4, hag5, hag6, hag7, hag8⟩ := hag c
      have e0 := Cert.Kernel11Ideal.CondBwd.ref_gradW (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg2))
      have e1 := Cert.Kernel11Ideal.CondBwd.ref_stepW (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))
      have e2 := Cert.Kernel11Ideal.CondBwd.ref_meanW (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg4))
      have e3 := Cert.Kernel11Ideal.CondBwd.ref_squareW (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg5))
      have e4 := Cert.Kernel11Ideal.CondBwd.ref_gradB (m ((c.tc : Thread Cert.Kernel11Ideal.nD Cert.Kernel11Ideal.τ).loc Cert.Kernel11Ideal.main_arg1))
      have e5 := Cert.Kernel11Ideal.CondBwd.ref_stepB (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))
      have e6 := Cert.Kernel11Ideal.CondBwd.ref_meanB (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg7))
      have e7 := Cert.Kernel11Ideal.CondBwd.ref_squareB (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg8))
      exact ⟨((h c).1).trans (Eq.trans (by rw [hag0, hag2]; rfl) e0), ((h c).2.1).trans (Eq.trans (by rw [hag0, hag2, hag3, hag4, hag5]; rfl) e1), ((h c).2.2.1).trans (Eq.trans (by rw [hag0, hag2, hag4]; rfl) e2), ((h c).2.2.2.1).trans (Eq.trans (by rw [hag0, hag2, hag5]; rfl) e3), ((h c).2.2.2.2.1).trans (Eq.trans (by rw [hag1]; rfl) e4), ((h c).2.2.2.2.2.1).trans (Eq.trans (by rw [hag1, hag6, hag7, hag8]; rfl) e5), ((h c).2.2.2.2.2.2.1).trans (Eq.trans (by rw [hag1, hag7]; rfl) e6), ((h c).2.2.2.2.2.2.2.1).trans (Eq.trans (by rw [hag1, hag8]; rfl) e7), (h c).2.2.2.2.2.2.2.2⟩)
      (Cert.Reference11Ideal.Value.run (F := Ideal) m' ρ')⟩

theorem value_Kernel12 : algebraic_Kernel12Ideal_Reference12Ideal := fun m ρ m' ρ' hpre hag =>
  ⟨fun c => Cert.Kernel12Ideal.StepOut.rGrad m c, fun c => Cert.Kernel12Ideal.StepOut.rStep m c, fun c => Cert.Kernel12Ideal.StepOut.rMean m c, fun c => Cert.Kernel12Ideal.StepOut.rSquare m c, Cert.Kernel12Ideal.StepOut.run m ρ (fun c => Cert.Kernel12Ideal.StepOut.me_lt _ _ _ _ _ _ (hpre c) _),
    (θ_run Cert.Reference12Ideal.defs _ _).mono (fun r h c => by
      obtain ⟨hag0, hag1, hag2, hag3, hag4, hag5⟩ := hag c
      have hme := Cert.Kernel12Ideal.StepOut.me_lt _ _ _ _ _ _ (hpre c) Cert.Kernel12Ideal.StepOut.at0
      have e0 := Cert.Kernel12Ideal.StepOut.ref_grad (m ((c.tc : Thread Cert.Kernel12Ideal.nD Cert.Kernel12Ideal.τ).loc Cert.Kernel12Ideal.main_arg0)) hme (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))
      have e1 := Cert.Kernel12Ideal.StepOut.ref_step (m ((c.tc : Thread Cert.Kernel12Ideal.nD Cert.Kernel12Ideal.τ).loc Cert.Kernel12Ideal.main_arg0)) hme (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))
      have e2 := Cert.Kernel12Ideal.StepOut.ref_mean (m ((c.tc : Thread Cert.Kernel12Ideal.nD Cert.Kernel12Ideal.τ).loc Cert.Kernel12Ideal.main_arg0)) hme (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg4))
      have e3 := Cert.Kernel12Ideal.StepOut.ref_square (m ((c.tc : Thread Cert.Kernel12Ideal.nD Cert.Kernel12Ideal.τ).loc Cert.Kernel12Ideal.main_arg0)) hme (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg5))
      exact ⟨((h c).1).trans (Eq.trans (by rw [hag0, hag1, hag2]; rfl) e0), ((h c).2.1).trans (Eq.trans (by rw [hag0, hag1, hag2, hag3, hag4, hag5]; rfl) e1), ((h c).2.2.1).trans (Eq.trans (by rw [hag0, hag1, hag2, hag4]; rfl) e2), ((h c).2.2.2.1).trans (Eq.trans (by rw [hag0, hag1, hag2, hag5]; rfl) e3), (h c).2.2.2.2⟩)
      (Cert.Reference12Ideal.Value.run (F := Ideal) m' ρ')⟩

theorem value_Kernel13 : algebraic_Kernel13Ideal_Reference13Ideal := fun m ρ m' ρ' hpre hag =>
  ⟨fun c => Cert.Kernel13Ideal.StepDown.rGrad m c, fun c => Cert.Kernel13Ideal.StepDown.rStep m c, fun c => Cert.Kernel13Ideal.StepDown.rMean m c, fun c => Cert.Kernel13Ideal.StepDown.rSquare m c, Cert.Kernel13Ideal.StepDown.run m ρ (fun c => Cert.Kernel13Ideal.StepDown.me_lt _ _ _ _ _ _ (hpre c) _),
    (θ_run Cert.Reference13Ideal.defs _ _).mono (fun r h c => by
      obtain ⟨hag0, hag1, hag2, hag3, hag4, hag5⟩ := hag c
      have hme := Cert.Kernel13Ideal.StepDown.me_lt _ _ _ _ _ _ (hpre c) Cert.Kernel13Ideal.StepDown.at0
      have e0 := Cert.Kernel13Ideal.StepDown.ref_grad (m ((c.tc : Thread Cert.Kernel13Ideal.nD Cert.Kernel13Ideal.τ).loc Cert.Kernel13Ideal.main_arg0)) hme (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))
      have e1 := Cert.Kernel13Ideal.StepDown.ref_step (m ((c.tc : Thread Cert.Kernel13Ideal.nD Cert.Kernel13Ideal.τ).loc Cert.Kernel13Ideal.main_arg0)) hme (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))
      have e2 := Cert.Kernel13Ideal.StepDown.ref_mean (m ((c.tc : Thread Cert.Kernel13Ideal.nD Cert.Kernel13Ideal.τ).loc Cert.Kernel13Ideal.main_arg0)) hme (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg4))
      have e3 := Cert.Kernel13Ideal.StepDown.ref_square (m ((c.tc : Thread Cert.Kernel13Ideal.nD Cert.Kernel13Ideal.τ).loc Cert.Kernel13Ideal.main_arg0)) hme (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg5))
      exact ⟨((h c).1).trans (Eq.trans (by rw [hag0, hag1, hag2]; rfl) e0), ((h c).2.1).trans (Eq.trans (by rw [hag0, hag1, hag2, hag3, hag4, hag5]; rfl) e1), ((h c).2.2.1).trans (Eq.trans (by rw [hag0, hag1, hag2, hag4]; rfl) e2), ((h c).2.2.2.1).trans (Eq.trans (by rw [hag0, hag1, hag2, hag5]; rfl) e3), (h c).2.2.2.2⟩)
      (Cert.Reference13Ideal.Value.run (F := Ideal) m' ρ')⟩

theorem value_Kernel14 : algebraic_Kernel14Ideal_Reference14Ideal := fun m ρ m' ρ' hpre hag =>
  ⟨fun c => Cert.Kernel14Ideal.StepGate.rGrad m c, fun c => Cert.Kernel14Ideal.StepGate.rStep m c, fun c => Cert.Kernel14Ideal.StepGate.rMean m c, fun c => Cert.Kernel14Ideal.StepGate.rSquare m c, Cert.Kernel14Ideal.StepGate.run m ρ (fun c => Cert.Kernel14Ideal.StepGate.me_lt _ _ _ _ _ _ (hpre c) _),
    (θ_run Cert.Reference14Ideal.defs _ _).mono (fun r h c => by
      obtain ⟨hag0, hag1, hag2, hag3, hag4, hag5⟩ := hag c
      have hme := Cert.Kernel14Ideal.StepGate.me_lt _ _ _ _ _ _ (hpre c) Cert.Kernel14Ideal.StepGate.at0
      have e0 := Cert.Kernel14Ideal.StepGate.ref_grad (m ((c.tc : Thread Cert.Kernel14Ideal.nD Cert.Kernel14Ideal.τ).loc Cert.Kernel14Ideal.main_arg0)) hme (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))
      have e1 := Cert.Kernel14Ideal.StepGate.ref_step (m ((c.tc : Thread Cert.Kernel14Ideal.nD Cert.Kernel14Ideal.τ).loc Cert.Kernel14Ideal.main_arg0)) hme (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))
      have e2 := Cert.Kernel14Ideal.StepGate.ref_mean (m ((c.tc : Thread Cert.Kernel14Ideal.nD Cert.Kernel14Ideal.τ).loc Cert.Kernel14Ideal.main_arg0)) hme (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg4))
      have e3 := Cert.Kernel14Ideal.StepGate.ref_square (m ((c.tc : Thread Cert.Kernel14Ideal.nD Cert.Kernel14Ideal.τ).loc Cert.Kernel14Ideal.main_arg0)) hme (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg5))
      exact ⟨((h c).1).trans (Eq.trans (by rw [hag0, hag1, hag2]; rfl) e0), ((h c).2.1).trans (Eq.trans (by rw [hag0, hag1, hag2, hag3, hag4, hag5]; rfl) e1), ((h c).2.2.1).trans (Eq.trans (by rw [hag0, hag1, hag2, hag4]; rfl) e2), ((h c).2.2.2.1).trans (Eq.trans (by rw [hag0, hag1, hag2, hag5]; rfl) e3), (h c).2.2.2.2⟩)
      (Cert.Reference14Ideal.Value.run (F := Ideal) m' ρ')⟩

theorem value_Kernel15 : algebraic_Kernel15Ideal_Reference15Ideal := fun m ρ m' ρ' hpre hag =>
  ⟨fun c => Cert.Kernel15Ideal.StepUp.rGrad m c, fun c => Cert.Kernel15Ideal.StepUp.rStep m c, fun c => Cert.Kernel15Ideal.StepUp.rMean m c, fun c => Cert.Kernel15Ideal.StepUp.rSquare m c, Cert.Kernel15Ideal.StepUp.run m ρ (fun c => Cert.Kernel15Ideal.StepUp.me_lt _ _ _ _ _ _ (hpre c) _),
    (θ_run Cert.Reference15Ideal.defs _ _).mono (fun r h c => by
      obtain ⟨hag0, hag1, hag2, hag3, hag4, hag5⟩ := hag c
      have hme := Cert.Kernel15Ideal.StepUp.me_lt _ _ _ _ _ _ (hpre c) Cert.Kernel15Ideal.StepUp.at0
      have e0 := Cert.Kernel15Ideal.StepUp.ref_grad (m ((c.tc : Thread Cert.Kernel15Ideal.nD Cert.Kernel15Ideal.τ).loc Cert.Kernel15Ideal.main_arg0)) hme (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))
      have e1 := Cert.Kernel15Ideal.StepUp.ref_step (m ((c.tc : Thread Cert.Kernel15Ideal.nD Cert.Kernel15Ideal.τ).loc Cert.Kernel15Ideal.main_arg0)) hme (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))
      have e2 := Cert.Kernel15Ideal.StepUp.ref_mean (m ((c.tc : Thread Cert.Kernel15Ideal.nD Cert.Kernel15Ideal.τ).loc Cert.Kernel15Ideal.main_arg0)) hme (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg4))
      have e3 := Cert.Kernel15Ideal.StepUp.ref_square (m ((c.tc : Thread Cert.Kernel15Ideal.nD Cert.Kernel15Ideal.τ).loc Cert.Kernel15Ideal.main_arg0)) hme (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg5))
      exact ⟨((h c).1).trans (Eq.trans (by rw [hag0, hag1, hag2]; rfl) e0), ((h c).2.1).trans (Eq.trans (by rw [hag0, hag1, hag2, hag3, hag4, hag5]; rfl) e1), ((h c).2.2.1).trans (Eq.trans (by rw [hag0, hag1, hag2, hag4]; rfl) e2), ((h c).2.2.2.1).trans (Eq.trans (by rw [hag0, hag1, hag2, hag5]; rfl) e3), (h c).2.2.2.2⟩)
      (Cert.Reference15Ideal.Value.run (F := Ideal) m' ρ')⟩

theorem value_Kernel16 : algebraic_Kernel16Ideal_Reference16Ideal := fun m ρ m' ρ' hpre hag =>
  ⟨fun c => Cert.Kernel16Ideal.StepIn.rGrad m c, fun c => Cert.Kernel16Ideal.StepIn.rStep m c, fun c => Cert.Kernel16Ideal.StepIn.rMean m c, fun c => Cert.Kernel16Ideal.StepIn.rSquare m c, Cert.Kernel16Ideal.StepIn.run m ρ (fun c => Cert.Kernel16Ideal.StepIn.me_lt _ _ _ _ _ _ (hpre c) _),
    (θ_run Cert.Reference16Ideal.defs _ _).mono (fun r h c => by
      obtain ⟨hag0, hag1, hag2, hag3, hag4, hag5⟩ := hag c
      have hme := Cert.Kernel16Ideal.StepIn.me_lt _ _ _ _ _ _ (hpre c) Cert.Kernel16Ideal.StepIn.at0
      have e0 := Cert.Kernel16Ideal.StepIn.ref_grad (m ((c.tc : Thread Cert.Kernel16Ideal.nD Cert.Kernel16Ideal.τ).loc Cert.Kernel16Ideal.main_arg0)) hme (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))
      have e1 := Cert.Kernel16Ideal.StepIn.ref_step (m ((c.tc : Thread Cert.Kernel16Ideal.nD Cert.Kernel16Ideal.τ).loc Cert.Kernel16Ideal.main_arg0)) hme (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))
      have e2 := Cert.Kernel16Ideal.StepIn.ref_mean (m ((c.tc : Thread Cert.Kernel16Ideal.nD Cert.Kernel16Ideal.τ).loc Cert.Kernel16Ideal.main_arg0)) hme (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg4))
      have e3 := Cert.Kernel16Ideal.StepIn.ref_square (m ((c.tc : Thread Cert.Kernel16Ideal.nD Cert.Kernel16Ideal.τ).loc Cert.Kernel16Ideal.main_arg0)) hme (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg5))
      exact ⟨((h c).1).trans (Eq.trans (by rw [hag0, hag1, hag2]; rfl) e0), ((h c).2.1).trans (Eq.trans (by rw [hag0, hag1, hag2, hag3, hag4, hag5]; rfl) e1), ((h c).2.2.1).trans (Eq.trans (by rw [hag0, hag1, hag2, hag4]; rfl) e2), ((h c).2.2.2.1).trans (Eq.trans (by rw [hag0, hag1, hag2, hag5]; rfl) e3), (h c).2.2.2.2⟩)
      (Cert.Reference16Ideal.Value.run (F := Ideal) m' ρ')⟩

end Cert.Proof

end
-- ==== Proof.lean ====
/- The certificate: the facts the programs state, then the frames, the idealizations and the values. -/
module

public import proofs.«01_k».proof.Defs
public import proofs.«01_k».proof.Proof.Claims

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Pre_finite2.Gen.facts,
    Cert.Pre_device12.Gen.facts,
    Cert.Pre_device13.Gen.facts,
    Cert.Pre_device14.Gen.facts,
    Cert.Pre_device15.Gen.facts,
    Cert.Pre_device16.Gen.facts,
    fun m ρ _ => Cert.Kernel.Gen.frame m ρ,
    fun m ρ _ => Cert.KernelIdeal.Gen.frame m ρ,
    fun m ρ _ => frame_ReferenceIdeal m ρ trivial,
    fun m ρ _ => Cert.Kernel2.Gen.frame m ρ,
    fun m ρ _ => Cert.Kernel2Ideal.Gen.frame m ρ,
    fun m ρ _ => Cert.Kernel2Ideal.Gen.frame m ρ,
    fun m ρ _ => frame_Reference2Ideal m ρ trivial,
    fun m ρ _ => frame_Reference2Ideal m ρ trivial,
    fun m ρ _ => Cert.Kernel3.Gen.frame m ρ,
    fun m ρ _ => Cert.Kernel3Ideal.Gen.frame m ρ,
    fun m ρ _ => frame_Reference3Ideal m ρ trivial,
    fun m ρ _ => Cert.Kernel4.Gen.frame m ρ,
    fun m ρ _ => Cert.Kernel4Ideal.Gen.frame m ρ,
    fun m ρ _ => frame_Reference4Ideal m ρ trivial,
    fun m ρ _ => Cert.Kernel5.Gen.frame m ρ,
    fun m ρ _ => Cert.Kernel5Ideal.Gen.frame m ρ,
    fun m ρ _ => frame_Reference5Ideal m ρ trivial,
    fun m ρ _ => Cert.Kernel6.Gen.frame m ρ,
    fun m ρ _ => Cert.Kernel6Ideal.Gen.frame m ρ,
    fun m ρ _ => frame_Reference6Ideal m ρ trivial,
    fun m ρ _ => Cert.Kernel7.Gen.frame m ρ,
    fun m ρ _ => Cert.Kernel7Ideal.Gen.frame m ρ,
    fun m ρ _ => frame_Reference7Ideal m ρ trivial,
    fun m ρ _ => Cert.Kernel8.Gen.frame m ρ,
    fun m ρ _ => Cert.Kernel8Ideal.Gen.frame m ρ,
    fun m ρ _ => frame_Reference8Ideal m ρ trivial,
    fun m ρ _ => Cert.Kernel9.Gen.frame m ρ,
    fun m ρ _ => Cert.Kernel9Ideal.Gen.frame m ρ,
    fun m ρ _ => frame_Reference9Ideal m ρ trivial,
    fun m ρ _ => Cert.Kernel10.Gen.frame m ρ,
    fun m ρ _ => Cert.Kernel10Ideal.Gen.frame m ρ,
    fun m ρ _ => frame_Reference10Ideal m ρ trivial,
    fun m ρ _ => Cert.Kernel11.Gen.frame m ρ,
    fun m ρ _ => Cert.Kernel11Ideal.Gen.frame m ρ,
    fun m ρ _ => frame_Reference11Ideal m ρ trivial,
    fun m ρ h => Cert.Kernel12.Gen.frame m ρ (Cert.Kernel12.StepOut.ok_of m (Cert.Kernel12Ideal.StepOut.me_lt _ _ _ _ _ _ (h 0) _)),
    fun m ρ h => Cert.Kernel12Ideal.Gen.frame m ρ (Cert.Kernel12Ideal.StepOut.ok_of m (Cert.Kernel12Ideal.StepOut.me_lt _ _ _ _ _ _ (h 0) _)),
    fun m ρ _ => frame_Reference12Ideal m ρ trivial,
    fun m ρ _ => frame_Reference12Ideal m ρ trivial,
    fun m ρ h => Cert.Kernel13.Gen.frame m ρ (Cert.Kernel13.StepDown.ok_of m (Cert.Kernel13Ideal.StepDown.me_lt _ _ _ _ _ _ (h 0) _)),
    fun m ρ h => Cert.Kernel13Ideal.Gen.frame m ρ (Cert.Kernel13Ideal.StepDown.ok_of m (Cert.Kernel13Ideal.StepDown.me_lt _ _ _ _ _ _ (h 0) _)),
    fun m ρ _ => frame_Reference13Ideal m ρ trivial,
    fun m ρ _ => frame_Reference13Ideal m ρ trivial,
    fun m ρ h => Cert.Kernel14.Gen.frame m ρ (Cert.Kernel14.StepGate.ok_of m (Cert.Kernel14Ideal.StepGate.me_lt _ _ _ _ _ _ (h 0) _)),
    fun m ρ h => Cert.Kernel14Ideal.Gen.frame m ρ (Cert.Kernel14Ideal.StepGate.ok_of m (Cert.Kernel14Ideal.StepGate.me_lt _ _ _ _ _ _ (h 0) _)),
    fun m ρ _ => frame_Reference14Ideal m ρ trivial,
    fun m ρ _ => frame_Reference14Ideal m ρ trivial,
    fun m ρ h => Cert.Kernel15.Gen.frame m ρ (Cert.Kernel15.StepUp.ok_of m (Cert.Kernel15Ideal.StepUp.me_lt _ _ _ _ _ _ (h 0) _)),
    fun m ρ h => Cert.Kernel15Ideal.Gen.frame m ρ (Cert.Kernel15Ideal.StepUp.ok_of m (Cert.Kernel15Ideal.StepUp.me_lt _ _ _ _ _ _ (h 0) _)),
    fun m ρ _ => frame_Reference15Ideal m ρ trivial,
    fun m ρ _ => frame_Reference15Ideal m ρ trivial,
    fun m ρ h => Cert.Kernel16.Gen.frame m ρ (Cert.Kernel16.StepIn.ok_of m (Cert.Kernel16Ideal.StepIn.me_lt _ _ _ _ _ _ (h 0) _)),
    fun m ρ h => Cert.Kernel16Ideal.Gen.frame m ρ (Cert.Kernel16Ideal.StepIn.ok_of m (Cert.Kernel16Ideal.StepIn.me_lt _ _ _ _ _ _ (h 0) _)),
    fun m ρ _ => frame_Reference16Ideal m ρ trivial,
    fun m ρ _ => frame_Reference16Ideal m ρ trivial,
    trivial,
    value_Kernel,
    trivial,
    value_Kernel2,
    trivial,
    value_Kernel3,
    trivial,
    value_Kernel4,
    trivial,
    value_Kernel5,
    trivial,
    value_Kernel6,
    trivial,
    value_Kernel7,
    trivial,
    value_Kernel8,
    trivial,
    value_Kernel9,
    trivial,
    value_Kernel10,
    trivial,
    value_Kernel11,
    trivial,
    value_Kernel12,
    trivial,
    value_Kernel13,
    trivial,
    value_Kernel14,
    trivial,
    value_Kernel15,
    trivial,
    value_Kernel16⟩

end Cert.Proof

end
